-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane [hPre_sane : Cert.Pre_sane.Facts] (m : (ℓ : Loc Cert.KernelIdeal.nD Cert.KernelIdeal.τ Cert.KernelIdeal.sig) → Buf (Elt Ideal) ℓ) : Prop :=
  ∀ c : Dev Cert.KernelIdeal.nD,
    (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane [hPre_sane : Cert.Pre_sane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_sane [hKernelIdeal : Cert.KernelIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_sane [hReferenceIdeal : Cert.ReferenceIdeal.Facts] [hPre_sane : Cert.Pre_sane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10))
      ∧ r.2.sem = fun _ => 0)

def preserves_Kernel_KernelIdeal : Prop :=
  IdealRules.named_const.Statement Cert.KernelIdeal.κ "score_log2e" .f32 0x3E16C740#32 (((Real.sqrt 96)⁻¹ * (Real.log 2)⁻¹ : ℝ) : EReal)
  ∧ IdealRules.named_const.Statement Cert.KernelIdeal.κ "log2e" .f32 0x3FB8AA3B#32 (((Real.log 2)⁻¹ : ℝ) : EReal)

def preserves_Reference_ReferenceIdeal : Prop :=
  IdealRules.named_const.Statement Cert.ReferenceIdeal.κ "score" .f32 0x3DD105EC#32 (((Real.sqrt 96)⁻¹ : ℝ) : EReal)

def algebraic_KernelIdeal_ReferenceIdeal_pre_sane [hKernelIdeal : Cert.KernelIdeal.Facts] [hReferenceIdeal : Cert.ReferenceIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hReference : Cert.Reference.Facts) (hPre_sane : Cert.Pre_sane.Facts),
    quiescent_Kernel (hKernel := hKernel)
    ∧ quiescent_KernelIdeal (hKernelIdeal := hKernelIdeal)
    ∧ quiescent_KernelIdeal_pre_sane (hKernelIdeal := hKernelIdeal) (hPre_sane := hPre_sane)
    ∧ quiescent_ReferenceIdeal (hReferenceIdeal := hReferenceIdeal)
    ∧ quiescent_ReferenceIdeal_pre_sane (hReferenceIdeal := hReferenceIdeal) (hPre_sane := hPre_sane)
    ∧ quiescent_Reference (hReference := hReference)
    ∧ preserves_Kernel_KernelIdeal
    ∧ preserves_Reference_ReferenceIdeal
    ∧ algebraic_KernelIdeal_ReferenceIdeal_pre_sane (hKernelIdeal := hKernelIdeal) (hReferenceIdeal := hReferenceIdeal) (hPre_sane := hPre_sane)
-- ==== Pre_sane.lean ====
abbrev S1x16384x40x96 : Shape := ⟨4, ![1, 16384, 40, 96]⟩
abbrev S1x16384x40 : Shape := ⟨3, ![1, 16384, 40]⟩
abbrev S1x16384x8x96 : Shape := ⟨4, ![1, 16384, 8, 96]⟩
abbrev S1x16384x8 : Shape := ⟨3, ![1, 16384, 8]⟩
abbrev S_ : Shape := ⟨0, ![]⟩
abbrev S32 : Shape := ⟨1, ![32]⟩
abbrev S32x40 : Shape := ⟨2, ![32, 40]⟩

class Facts : Prop where
  bcast_S_S32 : S_.BroadcastsInDim S32 (![] : Fin 0 → Fin S32.rank)
  reducesTo_S32_S_d0 : S32.ReducesTo [0] S_
  h_S_ : 0 < S_.numel
  bcast_S_S32x40 : S_.BroadcastsInDim S32x40 (![] : Fin 0 → Fin S32x40.rank)
  reducesTo_S32x40_S_d0_1 : S32x40.ReducesTo [0, 1] S_

variable [Facts]

def fn {F : FTy → Type} [FloatOps F] (main_arg0 : FVec F S1x16384x40x96 .fp8e4m3) (main_arg1 : FVec F S1x16384x40 .f32) (main_arg2 : FVec F S1x16384x8x96 .fp8e4m3) (main_arg3 : FVec F S1x16384x8 .f32) (main_arg4 : FVec F S1x16384x8x96 .fp8e4m3) (main_arg5 : FVec F S1x16384x8 .f32) (main_arg6 : FVec F S_ .f32) (main_arg7 : FVec F S_ .f32) (main_arg8 : FVec F S32 .f32) (main_arg9 : FVec F S32 .f32) (main_arg10 : FVec F S32x40 .f32) : IVec S_ 1 :=
  let main_v0 : FVec F S32 .f32 := Host.absf main_arg8
  let main_cst : FVec F S_ .f32 := constant S_ .f32 0x7F800000#32
  let main_v1 : FVec F S32 .f32 := broadcastInDim S32 ![] bcast_S_S32 main_cst
  let main_v2 : IVec S32 1 := cmpf .olt main_v0 main_v1
  let main_c : IVec S_ 1 := constantI S_ 1 1#1
  let main_v3 : IVec S_ 1 := (fun x v => Host.reduce IntOp.andi x v reducesTo_S32_S_d0 h_S_) main_v2 main_c
  let main_v4 : FVec F S32x40 .f32 := Host.absf main_arg10
  let main_cst_0 : FVec F S_ .f32 := constant S_ .f32 0x7F800000#32
  let main_v5 : FVec F S32x40 .f32 := broadcastInDim S32x40 ![] bcast_S_S32x40 main_cst_0
  let main_v6 : IVec S32x40 1 := cmpf .olt main_v4 main_v5
  let main_c_1 : IVec S_ 1 := constantI S_ 1 1#1
  let main_v7 : IVec S_ 1 := (fun x v => Host.reduce IntOp.andi x v reducesTo_S32x40_S_d0_1 h_S_) main_v6 main_c_1
  let main_v8 : IVec S_ 1 := andi main_v3 main_v7
  let main_cst_2 : FVec F S_ .f32 := constant S_ .f32 0x00000000#32
  let main_v9 : IVec S_ 1 := cmpf .ogt main_arg6 main_cst_2
  let main_v10 : IVec S_ 1 := andi main_v8 main_v9
  let main_cst_3 : FVec F S_ .f32 := constant S_ .f32 0x00000000#32
  let main_v11 : IVec S_ 1 := cmpf .ogt main_arg7 main_cst_3
  let main_v12 : IVec S_ 1 := andi main_v10 main_v11
  main_v12
-- ==== Kernel.lean ====
abbrev S1x16384x40x96 : Shape := ⟨4, ![1, 16384, 40, 96]⟩
abbrev S1x16384x40 : Shape := ⟨3, ![1, 16384, 40]⟩
abbrev S1x16384x8x96 : Shape := ⟨4, ![1, 16384, 8, 96]⟩
abbrev S1x16384x8 : Shape := ⟨3, ![1, 16384, 8]⟩
abbrev S_ : Shape := ⟨0, ![]⟩
abbrev S32 : Shape := ⟨1, ![32]⟩
abbrev S32x40 : Shape := ⟨2, ![32, 40]⟩
abbrev S32x1 : Shape := ⟨2, ![32, 1]⟩
abbrev S33 : Shape := ⟨1, ![33]⟩
abbrev S33x1 : Shape := ⟨2, ![33, 1]⟩
abbrev S1x32 : Shape := ⟨2, ![1, 32]⟩
abbrev S33x32 : Shape := ⟨2, ![33, 32]⟩
abbrev S33x40 : Shape := ⟨2, ![33, 40]⟩
abbrev S16384 : Shape := ⟨1, ![16384]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x1x1 : Shape := ⟨3, ![64, 1, 1]⟩
abbrev S64x64x1 : Shape := ⟨3, ![64, 64, 1]⟩
abbrev S1x1x32 : Shape := ⟨3, ![1, 1, 32]⟩
abbrev S64x64x32 : Shape := ⟨3, ![64, 64, 32]⟩
abbrev S16384x40x96 : Shape := ⟨3, ![16384, 40, 96]⟩
abbrev S40x16384x96 : Shape := ⟨3, ![40, 16384, 96]⟩
abbrev S16384x8x96 : Shape := ⟨3, ![16384, 8, 96]⟩
abbrev S8x16384x96 : Shape := ⟨3, ![8, 16384, 96]⟩
abbrev S8x96x16384 : Shape := ⟨3, ![8, 96, 16384]⟩
abbrev S16384x8 : Shape := ⟨2, ![16384, 8]⟩
abbrev S8x16384 : Shape := ⟨2, ![8, 16384]⟩
abbrev S8x1x16384 : Shape := ⟨3, ![8, 1, 16384]⟩
abbrev S8x16384x1 : Shape := ⟨3, ![8, 16384, 1]⟩
abbrev S8x16384x128 : Shape := ⟨3, ![8, 16384, 128]⟩
abbrev S16384x40 : Shape := ⟨2, ![16384, 40]⟩
abbrev S40x16384 : Shape := ⟨2, ![40, 16384]⟩
abbrev S40x1x16384 : Shape := ⟨3, ![40, 1, 16384]⟩
abbrev S1x16384 : Shape := ⟨2, ![1, 16384]⟩
abbrev S1 : Shape := ⟨1, ![1]⟩
abbrev S8x16384x480 : Shape := ⟨3, ![8, 16384, 480]⟩
abbrev S5x256x96 : Shape := ⟨3, ![5, 256, 96]⟩
abbrev S1x16384x96 : Shape := ⟨3, ![1, 16384, 96]⟩
abbrev S1x96x16384 : Shape := ⟨3, ![1, 96, 16384]⟩
abbrev S1x1x16384 : Shape := ⟨3, ![1, 1, 16384]⟩
abbrev S1x16384x128 : Shape := ⟨3, ![1, 16384, 128]⟩
abbrev S5x1x256 : Shape := ⟨3, ![5, 1, 256]⟩
abbrev S1x256 : Shape := ⟨2, ![1, 256]⟩
abbrev S1x256x480 : Shape := ⟨3, ![1, 256, 480]⟩
abbrev S5x96x256 : Shape := ⟨3, ![5, 96, 256]⟩
abbrev S256x256 : Shape := ⟨2, ![256, 256]⟩
abbrev S1x1 : Shape := ⟨2, ![1, 1]⟩
abbrev S1x256x96 : Shape := ⟨3, ![1, 256, 96]⟩
abbrev S256x96 : Shape := ⟨2, ![256, 96]⟩
abbrev S1x96x256 : Shape := ⟨3, ![1, 96, 256]⟩
abbrev S96x256 : Shape := ⟨2, ![96, 256]⟩
abbrev S1x1x256 : Shape := ⟨3, ![1, 1, 256]⟩
abbrev S1x256x128 : Shape := ⟨3, ![1, 256, 128]⟩
abbrev S256x128 : Shape := ⟨2, ![256, 128]⟩
abbrev S256x1 : Shape := ⟨2, ![256, 1]⟩
abbrev S256 : Shape := ⟨1, ![256]⟩

abbrev nBuf : Space → Nat
  | .hbm => 217
  | .vmem => 20
  | .smem => 7
  | _ => 0

abbrev hbmTy0_0 (i : Nat) : BufTy := match i % 128 with
  | 0 => ⟨S1x16384x40x96, .fp8e4m3⟩
  | 1 => ⟨S1x16384x40, .f32⟩
  | 2 => ⟨S1x16384x8x96, .fp8e4m3⟩
  | 3 => ⟨S1x16384x8, .f32⟩
  | 4 => ⟨S1x16384x8x96, .fp8e4m3⟩
  | 5 => ⟨S1x16384x8, .f32⟩
  | 6 => ⟨S_, .f32⟩
  | 7 => ⟨S_, .f32⟩
  | 8 => ⟨S32, .f32⟩
  | 9 => ⟨S32, .f32⟩
  | 10 => ⟨S32x40, .f32⟩
  | 11 => ⟨S_, .f32⟩
  | 12 => ⟨S32, .f32⟩
  | 13 => ⟨S32, .i1⟩
  | 14 => ⟨S32, .f32⟩
  | 15 => ⟨S_, .f32⟩
  | 16 => ⟨S32, .f32⟩
  | 17 => ⟨S32, .i1⟩
  | 18 => ⟨S_, .f32⟩
  | 19 => ⟨S_, .f32⟩
  | 20 => ⟨S32, .f32⟩
  | 21 => ⟨S32, .f32⟩
  | 22 => ⟨S32, .f32⟩
  | 23 => ⟨S_, .f32⟩
  | 24 => ⟨S_, .f32⟩
  | 25 => ⟨S32, .f32⟩
  | 26 => ⟨S32, .f32⟩
  | 27 => ⟨S32, .i32⟩
  | 28 => ⟨S32, .f32⟩
  | 29 => ⟨S32, .i32⟩
  | 30 => ⟨S_, .i32⟩
  | 31 => ⟨S32, .i32⟩
  | 32 => ⟨S32, .i1⟩
  | 33 => ⟨S_, .i32⟩
  | 34 => ⟨S32, .i32⟩
  | 35 => ⟨S32, .i32⟩
  | 36 => ⟨S32, .i32⟩
  | 37 => ⟨S32x1, .i32⟩
  | 38 => ⟨S32, .f32⟩
  | 39 => ⟨S_, .i32⟩
  | 40 => ⟨S32, .i32⟩
  | 41 => ⟨S32, .i1⟩
  | 42 => ⟨S_, .i32⟩
  | 43 => ⟨S32, .i32⟩
  | 44 => ⟨S32, .i32⟩
  | 45 => ⟨S32, .i32⟩
  | 46 => ⟨S32x1, .i32⟩
  | 47 => ⟨S32, .f32⟩
  | 48 => ⟨S_, .i32⟩
  | 49 => ⟨S32, .i32⟩
  | 50 => ⟨S32, .i1⟩
  | 51 => ⟨S_, .i32⟩
  | 52 => ⟨S32, .i32⟩
  | 53 => ⟨S32, .i32⟩
  | 54 => ⟨S32, .i32⟩
  | 55 => ⟨S32x1, .i32⟩
  | 56 => ⟨S32, .f32⟩
  | 57 => ⟨S_, .i32⟩
  | 58 => ⟨S32, .i32⟩
  | 59 => ⟨S32, .i1⟩
  | 60 => ⟨S_, .i32⟩
  | 61 => ⟨S32, .i32⟩
  | 62 => ⟨S32, .i32⟩
  | 63 => ⟨S32, .i32⟩
  | 64 => ⟨S32x1, .i32⟩
  | 65 => ⟨S32x40, .f32⟩
  | 66 => ⟨S33, .i32⟩
  | 67 => ⟨S33x1, .i32⟩
  | 68 => ⟨S32, .i32⟩
  | 69 => ⟨S1x32, .i32⟩
  | 70 => ⟨S_, .f32⟩
  | 71 => ⟨S32, .f32⟩
  | 72 => ⟨S32, .i1⟩
  | 73 => ⟨S33x32, .i32⟩
  | 74 => ⟨S33x32, .i32⟩
  | 75 => ⟨S33x32, .i1⟩
  | 76 => ⟨S_, .f32⟩
  | 77 => ⟨S32, .f32⟩
  | 78 => ⟨S32, .i1⟩
  | 79 => ⟨S33x32, .i32⟩
  | 80 => ⟨S33x32, .i32⟩
  | 81 => ⟨S33x32, .i1⟩
  | 82 => ⟨S_, .f32⟩
  | 83 => ⟨S32, .f32⟩
  | 84 => ⟨S32, .i1⟩
  | 85 => ⟨S33x32, .i1⟩
  | 86 => ⟨S33x32, .i1⟩
  | 87 => ⟨S33x32, .i1⟩
  | 88 => ⟨S33x32, .i1⟩
  | 89 => ⟨S33x32, .i1⟩
  | 90 => ⟨S33x32, .f32⟩
  | 91 => ⟨S32x1, .f32⟩
  | 92 => ⟨S32x40, .f32⟩
  | 93 => ⟨S32x40, .f32⟩
  | 94 => ⟨S33x40, .f32⟩
  | 95 => ⟨S32x1, .f32⟩
  | 96 => ⟨S32x40, .f32⟩
  | 97 => ⟨S32x40, .f32⟩
  | 98 => ⟨S33x40, .f32⟩
  | 99 => ⟨S32, .f32⟩
  | 100 => ⟨S32x1, .f32⟩
  | 101 => ⟨S32x40, .f32⟩
  | 102 => ⟨S32x40, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S_, .f32⟩
  | 110 => ⟨S16384, .f32⟩
  | 111 => ⟨S16384, .f32⟩
  | 112 => ⟨S64, .i32⟩
  | 113 => ⟨S64x1, .i32⟩
  | 114 => ⟨S_, .i32⟩
  | 115 => ⟨S64x1, .i32⟩
  | 116 => ⟨S64x1, .i32⟩
  | 117 => ⟨S64, .i32⟩
  | 118 => ⟨S1x64, .i32⟩
  | 119 => ⟨S_, .i32⟩
  | 120 => ⟨S1x64, .i32⟩
  | 121 => ⟨S1x64, .i32⟩
  | 122 => ⟨S_, .i32⟩
  | 123 => ⟨S1x64, .i32⟩
  | 124 => ⟨S1x64, .i32⟩
  | 125 => ⟨S_, .i32⟩
  | 126 => ⟨S1x64, .i32⟩
  | 127 => ⟨S1x64, .i32⟩
  | _ => ⟨S1x16384x40x96, .fp8e4m3⟩

abbrev hbmTy0_1 (i : Nat) : BufTy := match i % 128 with
  | 0 => ⟨S64x64, .i32⟩
  | 1 => ⟨S64x64, .i32⟩
  | 2 => ⟨S64x64, .i32⟩
  | 3 => ⟨S_, .i32⟩
  | 4 => ⟨S64x64, .i32⟩
  | 5 => ⟨S64x64, .i32⟩
  | 6 => ⟨S64x64, .f32⟩
  | 7 => ⟨S64x64, .f32⟩
  | 8 => ⟨S64x64, .f32⟩
  | 9 => ⟨S64x64, .f32⟩
  | 10 => ⟨S_, .i32⟩
  | 11 => ⟨S64x1, .i32⟩
  | 12 => ⟨S64x1, .i1⟩
  | 13 => ⟨S_, .i32⟩
  | 14 => ⟨S64x1, .i32⟩
  | 15 => ⟨S64x1, .i32⟩
  | 16 => ⟨S64x1, .i32⟩
  | 17 => ⟨S64x1x1, .i32⟩
  | 18 => ⟨S64x1, .f32⟩
  | 19 => ⟨S64x64, .f32⟩
  | 20 => ⟨S64x64, .f32⟩
  | 21 => ⟨S_, .f32⟩
  | 22 => ⟨S64x64, .f32⟩
  | 23 => ⟨S64x64, .f32⟩
  | 24 => ⟨S_, .i32⟩
  | 25 => ⟨S64x1, .i32⟩
  | 26 => ⟨S64x1, .i32⟩
  | 27 => ⟨S_, .i32⟩
  | 28 => ⟨S64x1, .i32⟩
  | 29 => ⟨S64x1, .i32⟩
  | 30 => ⟨S64x64, .i32⟩
  | 31 => ⟨S64x64, .i32⟩
  | 32 => ⟨S64x64, .i32⟩
  | 33 => ⟨S_, .i32⟩
  | 34 => ⟨S64x64, .i32⟩
  | 35 => ⟨S64x64, .i32⟩
  | 36 => ⟨S64x64, .f32⟩
  | 37 => ⟨S64x64, .f32⟩
  | 38 => ⟨S64x64, .f32⟩
  | 39 => ⟨S64x64, .f32⟩
  | 40 => ⟨S_, .i32⟩
  | 41 => ⟨S64x1, .i32⟩
  | 42 => ⟨S64x1, .i1⟩
  | 43 => ⟨S_, .i32⟩
  | 44 => ⟨S64x1, .i32⟩
  | 45 => ⟨S64x1, .i32⟩
  | 46 => ⟨S64x1, .i32⟩
  | 47 => ⟨S64x1x1, .i32⟩
  | 48 => ⟨S64x1, .f32⟩
  | 49 => ⟨S64x64, .f32⟩
  | 50 => ⟨S64x64, .f32⟩
  | 51 => ⟨S_, .f32⟩
  | 52 => ⟨S64x64, .f32⟩
  | 53 => ⟨S64x64, .f32⟩
  | 54 => ⟨S64x64x1, .f32⟩
  | 55 => ⟨S1x1x32, .f32⟩
  | 56 => ⟨S64x64x32, .f32⟩
  | 57 => ⟨S64x64x32, .f32⟩
  | 58 => ⟨S64x64x32, .i1⟩
  | 59 => ⟨S64x64x32, .i32⟩
  | 60 => ⟨S_, .i32⟩
  | 61 => ⟨S64x64, .i32⟩
  | 62 => ⟨S64x64x1, .f32⟩
  | 63 => ⟨S1x1x32, .f32⟩
  | 64 => ⟨S64x64x32, .f32⟩
  | 65 => ⟨S64x64x32, .f32⟩
  | 66 => ⟨S64x64x32, .i1⟩
  | 67 => ⟨S64x64x32, .i32⟩
  | 68 => ⟨S_, .i32⟩
  | 69 => ⟨S64x64, .i32⟩
  | 70 => ⟨S16384x40x96, .fp8e4m3⟩
  | 71 => ⟨S40x16384x96, .fp8e4m3⟩
  | 72 => ⟨S16384x8x96, .fp8e4m3⟩
  | 73 => ⟨S8x16384x96, .fp8e4m3⟩
  | 74 => ⟨S16384x8x96, .fp8e4m3⟩
  | 75 => ⟨S8x96x16384, .fp8e4m3⟩
  | 76 => ⟨S16384x8, .f32⟩
  | 77 => ⟨S8x16384, .f32⟩
  | 78 => ⟨S8x1x16384, .f32⟩
  | 79 => ⟨S16384x8, .f32⟩
  | 80 => ⟨S8x16384, .f32⟩
  | 81 => ⟨S8x16384x1, .f32⟩
  | 82 => ⟨S8x16384x128, .f32⟩
  | 83 => ⟨S16384x40, .f32⟩
  | 84 => ⟨S40x16384, .f32⟩
  | 85 => ⟨S40x1x16384, .f32⟩
  | 86 => ⟨S1x16384, .f32⟩
  | 87 => ⟨S1, .f32⟩
  | 88 => ⟨S8x16384x480, .bf16⟩
  | _ => ⟨S1x16384x40x96, .fp8e4m3⟩

abbrev hbmTy (i : Nat) : BufTy := match i / 128 with
  | 0 => hbmTy0_0 i
  | 1 => hbmTy0_1 i
  | _ => ⟨S1x16384x40x96, .fp8e4m3⟩

abbrev bufTy : (tb : Table) → Fin (tcTables nBuf tb) → BufTy
  | .hbm, ⟨i, _⟩ => hbmTy i
  | .local _ .vmem, ⟨0, _⟩ => ⟨S5x256x96, .fp8e4m3⟩
  | .local _ .vmem, ⟨1, _⟩ => ⟨S5x256x96, .fp8e4m3⟩
  | .local _ .vmem, ⟨2, _⟩ => ⟨S1x16384x96, .fp8e4m3⟩
  | .local _ .vmem, ⟨3, _⟩ => ⟨S1x16384x96, .fp8e4m3⟩
  | .local _ .vmem, ⟨4, _⟩ => ⟨S1x96x16384, .fp8e4m3⟩
  | .local _ .vmem, ⟨5, _⟩ => ⟨S1x96x16384, .fp8e4m3⟩
  | .local _ .vmem, ⟨6, _⟩ => ⟨S1x1x16384, .f32⟩
  | .local _ .vmem, ⟨7, _⟩ => ⟨S1x1x16384, .f32⟩
  | .local _ .vmem, ⟨8, _⟩ => ⟨S1x16384x128, .f32⟩
  | .local _ .vmem, ⟨9, _⟩ => ⟨S1x16384x128, .f32⟩
  | .local _ .vmem, ⟨10, _⟩ => ⟨S5x1x256, .f32⟩
  | .local _ .vmem, ⟨11, _⟩ => ⟨S5x1x256, .f32⟩
  | .local _ .vmem, ⟨12, _⟩ => ⟨S1x256, .f32⟩
  | .local _ .vmem, ⟨13, _⟩ => ⟨S1x256, .f32⟩
  | .local _ .vmem, ⟨14, _⟩ => ⟨S1x256x480, .bf16⟩
  | .local _ .vmem, ⟨15, _⟩ => ⟨S1x256x480, .bf16⟩
  | .local _ .vmem, ⟨16, _⟩ => ⟨S5x1x256, .f32⟩
  | .local _ .vmem, ⟨17, _⟩ => ⟨S5x1x256, .f32⟩
  | .local _ .vmem, ⟨18, _⟩ => ⟨S5x96x256, .f32⟩
  | .local _ .vmem, ⟨19, _⟩ => ⟨S256x256, .f32⟩
  | .local _ .smem, ⟨0, _⟩ => ⟨S64x64, .i32⟩
  | .local _ .smem, ⟨1, _⟩ => ⟨S64x64, .i32⟩
  | .local _ .smem, ⟨2, _⟩ => ⟨S32, .f32⟩
  | .local _ .smem, ⟨3, _⟩ => ⟨S33x40, .f32⟩
  | .local _ .smem, ⟨4, _⟩ => ⟨S33x40, .f32⟩
  | .local _ .smem, ⟨5, _⟩ => ⟨S32x40, .f32⟩
  | .local _ .smem, ⟨6, _⟩ => ⟨S1, .f32⟩
  | _, _ => ⟨S1x16384x40x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_v7 : Ref sig .tc := ⟨.hbm, 26, rfl⟩
abbrev main_call2_v0 : Ref sig .tc := ⟨.hbm, 27, rfl⟩
abbrev main_call2_v1_0 : Ref sig .tc := ⟨.hbm, 28, rfl⟩
abbrev main_v8 : Ref sig .tc := ⟨.hbm, 29, rfl⟩
abbrev main_c : Ref sig .tc := ⟨.hbm, 30, rfl⟩
abbrev main_v9 : Ref sig .tc := ⟨.hbm, 31, rfl⟩
abbrev main_v10 : Ref sig .tc := ⟨.hbm, 32, rfl⟩
abbrev main_c_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_c_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_6 : Ref sig .tc := ⟨.hbm, 48, rfl⟩
abbrev main_v23 : Ref sig .tc := ⟨.hbm, 49, rfl⟩
abbrev main_v24 : Ref sig .tc := ⟨.hbm, 50, rfl⟩
abbrev main_c_7 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_8 : Ref sig .tc := ⟨.hbm, 57, rfl⟩
abbrev main_v30 : Ref sig .tc := ⟨.hbm, 58, rfl⟩
abbrev main_v31 : Ref sig .tc := ⟨.hbm, 59, rfl⟩
abbrev main_c_9 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_call3_v0 : Ref sig .tc := ⟨.hbm, 85, rfl⟩
abbrev main_call3_v1 : Ref sig .tc := ⟨.hbm, 86, rfl⟩
abbrev main_v53 : Ref sig .tc := ⟨.hbm, 87, rfl⟩
abbrev main_call4_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_14 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_15 : Ref sig .tc := ⟨.hbm, 119, rfl⟩
abbrev main_v82 : Ref sig .tc := ⟨.hbm, 120, rfl⟩
abbrev main_v83 : Ref sig .tc := ⟨.hbm, 121, rfl⟩
abbrev main_c_16 : Ref sig .tc := ⟨.hbm, 122, rfl⟩
abbrev main_v84 : Ref sig .tc := ⟨.hbm, 123, rfl⟩
abbrev main_v85 : Ref sig .tc := ⟨.hbm, 124, rfl⟩
abbrev main_c_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_18 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_19 : Ref sig .tc := ⟨.hbm, 138, rfl⟩
abbrev main_v97 : Ref sig .tc := ⟨.hbm, 139, rfl⟩
abbrev main_v98 : Ref sig .tc := ⟨.hbm, 140, rfl⟩
abbrev main_c_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_21 : Ref sig .tc := ⟨.hbm, 149, rfl⟩
abbrev main_v106 : Ref sig .tc := ⟨.hbm, 150, rfl⟩
abbrev main_v107 : Ref sig .tc := ⟨.hbm, 151, rfl⟩
abbrev main_c_22 : Ref sig .tc := ⟨.hbm, 152, rfl⟩
abbrev main_v108 : Ref sig .tc := ⟨.hbm, 153, rfl⟩
abbrev main_v109 : Ref sig .tc := ⟨.hbm, 154, rfl⟩
abbrev main_c_23 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_24 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c_25 : Ref sig .tc := ⟨.hbm, 168, rfl⟩
abbrev main_v121 : Ref sig .tc := ⟨.hbm, 169, rfl⟩
abbrev main_v122 : Ref sig .tc := ⟨.hbm, 170, rfl⟩
abbrev main_c_26 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_27 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_c_28 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_c_29 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev cc0_stg7_0 : Ref sig .tc := ⟨.vmem, 0, rfl⟩
abbrev cc0_stg7_1 : Ref sig .tc := ⟨.vmem, 1, rfl⟩
abbrev cc0_stg8_0 : Ref sig .tc := ⟨.vmem, 2, rfl⟩
abbrev cc0_stg8_1 : Ref sig .tc := ⟨.vmem, 3, rfl⟩
abbrev cc0_stg9_0 : Ref sig .tc := ⟨.vmem, 4, rfl⟩
abbrev cc0_stg9_1 : Ref sig .tc := ⟨.vmem, 5, rfl⟩
abbrev cc0_stg10_0 : Ref sig .tc := ⟨.vmem, 6, rfl⟩
abbrev cc0_stg10_1 : Ref sig .tc := ⟨.vmem, 7, rfl⟩
abbrev cc0_stg11_0 : Ref sig .tc := ⟨.vmem, 8, rfl⟩
abbrev cc0_stg11_1 : Ref sig .tc := ⟨.vmem, 9, rfl⟩
abbrev cc0_stg12_0 : Ref sig .tc := ⟨.vmem, 10, rfl⟩
abbrev cc0_stg12_1 : Ref sig .tc := ⟨.vmem, 11, rfl⟩
abbrev cc0_stg13_0 : Ref sig .tc := ⟨.vmem, 12, rfl⟩
abbrev cc0_stg13_1 : Ref sig .tc := ⟨.vmem, 13, rfl⟩
abbrev cc0_stg14_0 : Ref sig .tc := ⟨.vmem, 14, rfl⟩
abbrev cc0_stg14_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_stg6_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 64], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v16 : BitVec 32 := Scalar.muli arg1 c1_i32
  let c1_i32_13 : BitVec 32 := 1#32
  let v17 : BitVec 32 := Scalar.addi v16 c1_i32_13
  let v18 : BitVec 32 := Scalar.subi v17 c0_i32
  let c1_i32_15 : BitVec 32 := 1#32
  let v20 : BitVec 32 := Scalar.divsi v18 c1_i32_15
  let v21 : BitVec 32 := Scalar.muli v20 c1_i32_15
  let v22 : BitVec 32 := Scalar.addi c0_i32 v21
  let c1_i32_16 : BitVec 32 := 1#32
  ⟨c0_i32, v22, c1_i32_16⟩
def k0_mult1 (i : grid0.Coords) (k0_t1 : Fin (k0_t1_loop i).trips) : BitVec 32 :=
  let c0_i32 : BitVec 32 := 0#32
  let c1_i32_16 : BitVec 32 := 1#32
  let arg21 : BitVec 32 := Scf.iv c0_i32 c1_i32_16 k0_t1
  let c256_i32_55 : BitVec 32 := 256#32
  let v80 : BitVec 32 := Scalar.muli arg21 c256_i32_55
  v80
def k0_off1 (i : grid0.Coords) (k0_t1 : Fin (k0_t1_loop i).trips) : Fin 2 → Nat :=
  let arg1 : BitVec 32 := BitVec.ofNat 32 (i 1).val
  let v103 : Index := Scalar.indexCast arg1
  let c0_i32 : BitVec 32 := 0#32
  let c1_i32_16 : BitVec 32 := 1#32
  let arg21 : BitVec 32 := Scf.iv c0_i32 c1_i32_16 k0_t1
  let v104 : Index := Scalar.indexCast arg21
  ![v103.toNat, v104.toNat]
def k0_off2 (i : grid0.Coords) (k0_t1 : Fin (k0_t1_loop i).trips) : Fin 3 → Nat :=
  let c0_60 : Index := 0#32
  let c0_i32 : BitVec 32 := 0#32
  let c1_i32_16 : BitVec 32 := 1#32
  let arg21 : BitVec 32 := Scf.iv c0_i32 c1_i32_16 k0_t1
  let c256_i32_55 : BitVec 32 := 256#32
  let v80 : BitVec 32 := Scalar.muli arg21 c256_i32_55
  let v81 : BitVec 32 := v80
  let v109 : Index := Scalar.indexCast v81
  let c0_61 : Index := 0#32
  ![0, v109.toNat, 0]
def k0_off3 (i : grid0.Coords) (k0_t1 : Fin (k0_t1_loop i).trips) : Fin 3 → Nat :=
  let c0_62 : Index := 0#32
  let c0_63 : Index := 0#32
  let c0_i32 : BitVec 32 := 0#32
  let c1_i32_16 : BitVec 32 := 1#32
  let arg21 : BitVec 32 := Scf.iv c0_i32 c1_i32_16 k0_t1
  let c256_i32_55 : BitVec 32 := 256#32
  let v80 : BitVec 32 := Scalar.muli arg21 c256_i32_55
  let v81 : BitVec 32 := v80
  let v112 : Index := Scalar.indexCast v81
  ![0, 0, v112.toNat]
def k0_off4 (i : grid0.Coords) (k0_t1 : Fin (k0_t1_loop i).trips) : Fin 3 → Nat :=
  let c0_64 : Index := 0#32
  let c0_65 : Index := 0#32
  let c0_i32 : BitVec 32 := 0#32
  let c1_i32_16 : BitVec 32 := 1#32
  let arg21 : BitVec 32 := Scf.iv c0_i32 c1_i32_16 k0_t1
  let c256_i32_55 : BitVec 32 := 256#32
  let v80 : BitVec 32 := Scalar.muli arg21 c256_i32_55
  let v81 : BitVec 32 := v80
  let v116 : Index := Scalar.indexCast v81
  ![0, 0, v116.toNat]
def k0_off5 (i : grid0.Coords) (k0_t1 : Fin (k0_t1_loop i).trips) : Fin 3 → Nat :=
  let c0_66 : Index := 0#32
  let c0_i32 : BitVec 32 := 0#32
  let c1_i32_16 : BitVec 32 := 1#32
  let arg21 : BitVec 32 := Scf.iv c0_i32 c1_i32_16 k0_t1
  let c256_i32_55 : BitVec 32 := 256#32
  let v80 : BitVec 32 := Scalar.muli arg21 c256_i32_55
  let v81 : BitVec 32 := v80
  let v122 : Index := Scalar.indexCast v81
  let c0_67 : Index := 0#32
  ![0, v122.toNat, 0]
def k0_off6 (i : grid0.Coords) (v105 : BitVec 32) : Fin 2 → Nat :=
  let v132 : Index := Scalar.indexCast v105
  let arg0 : BitVec 32 := BitVec.ofNat 32 (i 0).val
  let c5_i32 : BitVec 32 := 5#32
  let v126 : BitVec 32 := Scalar.muli arg0 c5_i32
  let c0_i32_68 : BitVec 32 := 0#32
  let v127 : BitVec 32 := Scalar.addi v126 c0_i32_68
  let v133 : Index := Scalar.indexCast v127
  ![v132.toNat, v133.toNat]

@[reducible] def k0_t2_loop (v105 : BitVec 32) (v108 : BitVec 32) : Scf.Loop 32 :=
  let v142 : BitVec 32 := Scalar.subi v108 v105
  let c1_i32_75 : BitVec 32 := 1#32
  let v144 : BitVec 32 := Scalar.divsi v142 c1_i32_75
  let v145 : BitVec 32 := Scalar.muli v144 c1_i32_75
  let v146 : BitVec 32 := Scalar.addi v105 v145
  let c1_i32_76 : BitVec 32 := 1#32
  ⟨v105, v146, c1_i32_76⟩

def k0_off7 (v105 : BitVec 32) (v108 : BitVec 32) (k0_t2 : Fin (k0_t2_loop v105 v108).trips) : Fin 1 → Nat :=
  let c1_i32_76 : BitVec 32 := 1#32
  let arg23 : BitVec 32 := Scf.iv v105 c1_i32_76 k0_t2
  let v471 : Index := Scalar.indexCast arg23
  ![v471.toNat]
def k0_off8 (i : grid0.Coords) (v105 : BitVec 32) (v108 : BitVec 32) (k0_t2 : Fin (k0_t2_loop v105 v108).trips) : Fin 2 → Nat :=
  let c1_i32_76 : BitVec 32 := 1#32
  let arg23 : BitVec 32 := Scf.iv v105 c1_i32_76 k0_t2
  let v477 : Index := Scalar.indexCast arg23
  let arg0 : BitVec 32 := BitVec.ofNat 32 (i 0).val
  let c5_i32 : BitVec 32 := 5#32
  let v126 : BitVec 32 := Scalar.muli arg0 c5_i32
  let c0_i32_68 : BitVec 32 := 0#32
  let v127 : BitVec 32 := Scalar.addi v126 c0_i32_68
  let v478 : Index := Scalar.indexCast v127
  ![v477.toNat, v478.toNat]
@[reducible] def k0_t3_loop (v105 : BitVec 32) (v108 : BitVec 32) : Scf.Loop 32 :=
  let v142 : BitVec 32 := Scalar.subi v108 v105
  let c1_i32_75 : BitVec 32 := 1#32
  let v144 : BitVec 32 := Scalar.divsi v142 c1_i32_75
  let v145 : BitVec 32 := Scalar.muli v144 c1_i32_75
  let v146 : BitVec 32 := Scalar.addi v105 v145
  let v143 : BitVec 32 := Scalar.addi v105 v142
  let c1_i32_77 : BitVec 32 := 1#32
  ⟨v146, v143, c1_i32_77⟩
def k0_off9 (v105 : BitVec 32) (v108 : BitVec 32) (k0_t3 : Fin (k0_t3_loop v105 v108).trips) : Fin 1 → Nat :=
  let v142 : BitVec 32 := Scalar.subi v108 v105
  let c1_i32_75 : BitVec 32 := 1#32
  let v144 : BitVec 32 := Scalar.divsi v142 c1_i32_75
  let v145 : BitVec 32 := Scalar.muli v144 c1_i32_75
  let v146 : BitVec 32 := Scalar.addi v105 v145
  let c1_i32_77 : BitVec 32 := 1#32
  let arg23 : BitVec 32 := Scf.iv v146 c1_i32_77 k0_t3
  let v471 : Index := Scalar.indexCast arg23
  ![v471.toNat]
def k0_off10 (i : grid0.Coords) (v105 : BitVec 32) (v108 : BitVec 32) (k0_t3 : Fin (k0_t3_loop v105 v108).trips) : Fin 2 → Nat :=
  let v142 : BitVec 32 := Scalar.subi v108 v105
  let c1_i32_75 : BitVec 32 := 1#32
  let v144 : BitVec 32 := Scalar.divsi v142 c1_i32_75
  let v145 : BitVec 32 := Scalar.muli v144 c1_i32_75
  let v146 : BitVec 32 := Scalar.addi v105 v145
  let c1_i32_77 : BitVec 32 := 1#32
  let arg23 : BitVec 32 := Scf.iv v146 c1_i32_77 k0_t3
  let v477 : Index := Scalar.indexCast arg23
  let arg0 : BitVec 32 := BitVec.ofNat 32 (i 0).val
  let c5_i32 : BitVec 32 := 5#32
  let v126 : BitVec 32 := Scalar.muli arg0 c5_i32
  let c0_i32_68 : BitVec 32 := 0#32
  let v127 : BitVec 32 := Scalar.addi v126 c0_i32_68
  let v478 : Index := Scalar.indexCast v127
  ![v477.toNat, v478.toNat]
def k0_off11 (i : grid0.Coords) (v105 : BitVec 32) (c1_i32_106 : BitVec 32) : Fin 2 → Nat :=
  let v201 : Index := Scalar.indexCast v105
  let arg0 : BitVec 32 := BitVec.ofNat 32 (i 0).val
  let c5_i32_105 : BitVec 32 := 5#32
  let v195 : BitVec 32 := Scalar.muli arg0 c5_i32_105
  let v196 : BitVec 32 := Scalar.addi v195 c1_i32_106
  let v202 : Index := Scalar.indexCast v196
  ![v201.toNat, v202.toNat]

def k0_chk1 (i : grid0.Coords) (v105 : BitVec 32) : Prop :=
  (∀ a, (k0_off6 i v105) a + S1x1.size a ≤ S33x40.size a) ∧
  (∀ (r : Fin 4), ∀ a, (k0_off11 i v105 (BitVec.ofNat 32 (1 + r.val))) a + S1x1.size a ≤ S33x40.size a)
theorem k0_off6_inb : ∀ (i : grid0.Coords) (v105 : BitVec 32) (k0_hw1 : k0_chk1 i v105), ∀ a, (k0_off6 i v105) a + S1x1.size a ≤ S33x40.size a := fun i v105 k0_hw1 => k0_hw1.1
theorem k0_off11_inb : ∀ (i : grid0.Coords) (v105 : BitVec 32) (k0_hw1 : k0_chk1 i v105), ∀ (r : Fin 4), ∀ a, (k0_off11 i v105 (BitVec.ofNat 32 (1 + r.val))) a + S1x1.size a ≤ S33x40.size a := fun i v105 k0_hw1 r => k0_hw1.2 r

@[reducible] def k0_t4_loop (v105 : BitVec 32) (v108 : BitVec 32) : Scf.Loop 32 :=
  let v211 : BitVec 32 := Scalar.subi v108 v105
  let c1_i32_113 : BitVec 32 := 1#32
  let v213 : BitVec 32 := Scalar.divsi v211 c1_i32_113
  let v214 : BitVec 32 := Scalar.muli v213 c1_i32_113
  let v215 : BitVec 32 := Scalar.addi v105 v214
  let c1_i32_114 : BitVec 32 := 1#32
  ⟨v105, v215, c1_i32_114⟩
def k0_off12 (v105 : BitVec 32) (v108 : BitVec 32) (k0_t4 : Fin (k0_t4_loop v105 v108).trips) : Fin 1 → Nat :=
  let c1_i32_114 : BitVec 32 := 1#32
  let arg23 : BitVec 32 := Scf.iv v105 c1_i32_114 k0_t4
  let v471 : Index := Scalar.indexCast arg23
  ![v471.toNat]
def k0_off13 (i : grid0.Coords) (v105 : BitVec 32) (v108 : BitVec 32) (k0_t4 : Fin (k0_t4_loop v105 v108).trips) : Fin 2 → Nat :=
  let c1_i32_114 : BitVec 32 := 1#32
  let arg23 : BitVec 32 := Scf.iv v105 c1_i32_114 k0_t4
  let v477 : Index := Scalar.indexCast arg23
  let arg0 : BitVec 32 := BitVec.ofNat 32 (i 0).val
  let c5_i32_105 : BitVec 32 := 5#32
  let v195 : BitVec 32 := Scalar.muli arg0 c5_i32_105
  let c1_i32_106 : BitVec 32 := 1#32
  let v196 : BitVec 32 := Scalar.addi v195 c1_i32_106
  let v478 : Index := Scalar.indexCast v196
  ![v477.toNat, v478.toNat]
@[reducible] def k0_t5_loop (v105 : BitVec 32) (v108 : BitVec 32) : Scf.Loop 32 :=
  let v211 : BitVec 32 := Scalar.subi v108 v105
  let c1_i32_113 : BitVec 32 := 1#32
  let v213 : BitVec 32 := Scalar.divsi v211 c1_i32_113
  let v214 : BitVec 32 := Scalar.muli v213 c1_i32_113
  let v215 : BitVec 32 := Scalar.addi v105 v214
  let v212 : BitVec 32 := Scalar.addi v105 v211
  let c1_i32_115 : BitVec 32 := 1#32
  ⟨v215, v212, c1_i32_115⟩
def k0_off14 (v105 : BitVec 32) (v108 : BitVec 32) (k0_t5 : Fin (k0_t5_loop v105 v108).trips) : Fin 1 → Nat :=
  let v211 : BitVec 32 := Scalar.subi v108 v105
  let c1_i32_113 : BitVec 32 := 1#32
  let v213 : BitVec 32 := Scalar.divsi v211 c1_i32_113
  let v214 : BitVec 32 := Scalar.muli v213 c1_i32_113
  let v215 : BitVec 32 := Scalar.addi v105 v214
  let c1_i32_115 : BitVec 32 := 1#32
  let arg23 : BitVec 32 := Scf.iv v215 c1_i32_115 k0_t5
  let v471 : Index := Scalar.indexCast arg23
  ![v471.toNat]
def k0_off15 (i : grid0.Coords) (v105 : BitVec 32) (v108 : BitVec 32) (k0_t5 : Fin (k0_t5_loop v105 v108).trips) : Fin 2 → Nat :=
  let v211 : BitVec 32 := Scalar.subi v108 v105
  let c1_i32_113 : BitVec 32 := 1#32
  let v213 : BitVec 32 := Scalar.divsi v211 c1_i32_113
  let v214 : BitVec 32 := Scalar.muli v213 c1_i32_113
  let v215 : BitVec 32 := Scalar.addi v105 v214
  let c1_i32_115 : BitVec 32 := 1#32
  let arg23 : BitVec 32 := Scf.iv v215 c1_i32_115 k0_t5
  let v477 : Index := Scalar.indexCast arg23
  let arg0 : BitVec 32 := BitVec.ofNat 32 (i 0).val
  let c5_i32_105 : BitVec 32 := 5#32
  let v195 : BitVec 32 := Scalar.muli arg0 c5_i32_105
  let c1_i32_106 : BitVec 32 := 1#32
  let v196 : BitVec 32 := Scalar.addi v195 c1_i32_106
  let v478 : Index := Scalar.indexCast v196
  ![v477.toNat, v478.toNat]
@[reducible] def k0_t6_loop (v105 : BitVec 32) (v108 : BitVec 32) : Scf.Loop 32 :=
  let v280 : BitVec 32 := Scalar.subi v108 v105
  let c1_i32_150 : BitVec 32 := 1#32
  let v282 : BitVec 32 := Scalar.divsi v280 c1_i32_150
  let v283 : BitVec 32 := Scalar.muli v282 c1_i32_150
  let v284 : BitVec 32 := Scalar.addi v105 v283
  let c1_i32_151 : BitVec 32 := 1#32
  ⟨v105, v284, c1_i32_151⟩
def k0_off16 (v105 : BitVec 32) (v108 : BitVec 32) (k0_t6 : Fin (k0_t6_loop v105 v108).trips) : Fin 1 → Nat :=
  let c1_i32_151 : BitVec 32 := 1#32
  let arg23 : BitVec 32 := Scf.iv v105 c1_i32_151 k0_t6
  let v471 : Index := Scalar.indexCast arg23
  ![v471.toNat]
def k0_off17 (i : grid0.Coords) (v105 : BitVec 32) (v108 : BitVec 32) (k0_t6 : Fin (k0_t6_loop v105 v108).trips) : Fin 2 → Nat :=
  let c1_i32_151 : BitVec 32 := 1#32
  let arg23 : BitVec 32 := Scf.iv v105 c1_i32_151 k0_t6
  let v477 : Index := Scalar.indexCast arg23
  let arg0 : BitVec 32 := BitVec.ofNat 32 (i 0).val
  let c5_i32_143 : BitVec 32 := 5#32
  let v264 : BitVec 32 := Scalar.muli arg0 c5_i32_143
  let c2_i32 : BitVec 32 := 2#32
  let v265 : BitVec 32 := Scalar.addi v264 c2_i32
  let v478 : Index := Scalar.indexCast v265
  ![v477.toNat, v478.toNat]
@[reducible] def k0_t7_loop (v105 : BitVec 32) (v108 : BitVec 32) : Scf.Loop 32 :=
  let v280 : BitVec 32 := Scalar.subi v108 v105
  let c1_i32_150 : BitVec 32 := 1#32
  let v282 : BitVec 32 := Scalar.divsi v280 c1_i32_150
  let v283 : BitVec 32 := Scalar.muli v282 c1_i32_150
  let v284 : BitVec 32 := Scalar.addi v105 v283
  let v281 : BitVec 32 := Scalar.addi v105 v280
  let c1_i32_152 : BitVec 32 := 1#32
  ⟨v284, v281, c1_i32_152⟩
def k0_off18 (v105 : BitVec 32) (v108 : BitVec 32) (k0_t7 : Fin (k0_t7_loop v105 v108).trips) : Fin 1 → Nat :=
  let v280 : BitVec 32 := Scalar.subi v108 v105
  let c1_i32_150 : BitVec 32 := 1#32
  let v282 : BitVec 32 := Scalar.divsi v280 c1_i32_150
  let v283 : BitVec 32 := Scalar.muli v282 c1_i32_150
  let v284 : BitVec 32 := Scalar.addi v105 v283
  let c1_i32_152 : BitVec 32 := 1#32
  let arg23 : BitVec 32 := Scf.iv v284 c1_i32_152 k0_t7
  let v471 : Index := Scalar.indexCast arg23
  ![v471.toNat]
def k0_off19 (i : grid0.Coords) (v105 : BitVec 32) (v108 : BitVec 32) (k0_t7 : Fin (k0_t7_loop v105 v108).trips) : Fin 2 → Nat :=
  let v280 : BitVec 32 := Scalar.subi v108 v105
  let c1_i32_150 : BitVec 32 := 1#32
  let v282 : BitVec 32 := Scalar.divsi v280 c1_i32_150
  let v283 : BitVec 32 := Scalar.muli v282 c1_i32_150
  let v284 : BitVec 32 := Scalar.addi v105 v283
  let c1_i32_152 : BitVec 32 := 1#32
  let arg23 : BitVec 32 := Scf.iv v284 c1_i32_152 k0_t7
  let v477 : Index := Scalar.indexCast arg23
  let arg0 : BitVec 32 := BitVec.ofNat 32 (i 0).val
  let c5_i32_143 : BitVec 32 := 5#32
  let v264 : BitVec 32 := Scalar.muli arg0 c5_i32_143
  let c2_i32 : BitVec 32 := 2#32
  let v265 : BitVec 32 := Scalar.addi v264 c2_i32
  let v478 : Index := Scalar.indexCast v265
  ![v477.toNat, v478.toNat]
@[reducible] def k0_t8_loop (v105 : BitVec 32) (v108 : BitVec 32) : Scf.Loop 32 :=
  let v349 : BitVec 32 := Scalar.subi v108 v105
  let c1_i32_187 : BitVec 32 := 1#32
  let v351 : BitVec 32 := Scalar.divsi v349 c1_i32_187
  let v352 : BitVec 32 := Scalar.muli v351 c1_i32_187
  let v353 : BitVec 32 := Scalar.addi v105 v352
  let c1_i32_188 : BitVec 32 := 1#32
  ⟨v105, v353, c1_i32_188⟩
def k0_off20 (v105 : BitVec 32) (v108 : BitVec 32) (k0_t8 : Fin (k0_t8_loop v105 v108).trips) : Fin 1 → Nat :=
  let c1_i32_188 : BitVec 32 := 1#32
  let arg23 : BitVec 32 := Scf.iv v105 c1_i32_188 k0_t8
  let v471 : Index := Scalar.indexCast arg23
  ![v471.toNat]
def k0_off21 (i : grid0.Coords) (v105 : BitVec 32) (v108 : BitVec 32) (k0_t8 : Fin (k0_t8_loop v105 v108).trips) : Fin 2 → Nat :=
  let c1_i32_188 : BitVec 32 := 1#32
  let arg23 : BitVec 32 := Scf.iv v105 c1_i32_188 k0_t8
  let v477 : Index := Scalar.indexCast arg23
  let arg0 : BitVec 32 := BitVec.ofNat 32 (i 0).val
  let c5_i32_180 : BitVec 32 := 5#32
  let v333 : BitVec 32 := Scalar.muli arg0 c5_i32_180
  let c3_i32 : BitVec 32 := 3#32
  let v334 : BitVec 32 := Scalar.addi v333 c3_i32
  let v478 : Index := Scalar.indexCast v334
  ![v477.toNat, v478.toNat]
@[reducible] def k0_t9_loop (v105 : BitVec 32) (v108 : BitVec 32) : Scf.Loop 32 :=
  let v349 : BitVec 32 := Scalar.subi v108 v105
  let c1_i32_187 : BitVec 32 := 1#32
  let v351 : BitVec 32 := Scalar.divsi v349 c1_i32_187
  let v352 : BitVec 32 := Scalar.muli v351 c1_i32_187
  let v353 : BitVec 32 := Scalar.addi v105 v352
  let v350 : BitVec 32 := Scalar.addi v105 v349
  let c1_i32_189 : BitVec 32 := 1#32
  ⟨v353, v350, c1_i32_189⟩
def k0_off22 (v105 : BitVec 32) (v108 : BitVec 32) (k0_t9 : Fin (k0_t9_loop v105 v108).trips) : Fin 1 → Nat :=
  let v349 : BitVec 32 := Scalar.subi v108 v105
  let c1_i32_187 : BitVec 32 := 1#32
  let v351 : BitVec 32 := Scalar.divsi v349 c1_i32_187
  let v352 : BitVec 32 := Scalar.muli v351 c1_i32_187
  let v353 : BitVec 32 := Scalar.addi v105 v352
  let c1_i32_189 : BitVec 32 := 1#32
  let arg23 : BitVec 32 := Scf.iv v353 c1_i32_189 k0_t9
  let v471 : Index := Scalar.indexCast arg23
  ![v471.toNat]
def k0_off23 (i : grid0.Coords) (v105 : BitVec 32) (v108 : BitVec 32) (k0_t9 : Fin (k0_t9_loop v105 v108).trips) : Fin 2 → Nat :=
  let v349 : BitVec 32 := Scalar.subi v108 v105
  let c1_i32_187 : BitVec 32 := 1#32
  let v351 : BitVec 32 := Scalar.divsi v349 c1_i32_187
  let v352 : BitVec 32 := Scalar.muli v351 c1_i32_187
  let v353 : BitVec 32 := Scalar.addi v105 v352
  let c1_i32_189 : BitVec 32 := 1#32
  let arg23 : BitVec 32 := Scf.iv v353 c1_i32_189 k0_t9
  let v477 : Index := Scalar.indexCast arg23
  let arg0 : BitVec 32 := BitVec.ofNat 32 (i 0).val
  let c5_i32_180 : BitVec 32 := 5#32
  let v333 : BitVec 32 := Scalar.muli arg0 c5_i32_180
  let c3_i32 : BitVec 32 := 3#32
  let v334 : BitVec 32 := Scalar.addi v333 c3_i32
  let v478 : Index := Scalar.indexCast v334
  ![v477.toNat, v478.toNat]
@[reducible] def k0_t10_loop (v105 : BitVec 32) (v108 : BitVec 32) : Scf.Loop 32 :=
  let v418 : BitVec 32 := Scalar.subi v108 v105
  let c1_i32_224 : BitVec 32 := 1#32
  let v420 : BitVec 32 := Scalar.divsi v418 c1_i32_224
  let v421 : BitVec 32 := Scalar.muli v420 c1_i32_224
  let v422 : BitVec 32 := Scalar.addi v105 v421
  let c1_i32_225 : BitVec 32 := 1#32
  ⟨v105, v422, c1_i32_225⟩
def k0_off24 (v105 : BitVec 32) (v108 : BitVec 32) (k0_t10 : Fin (k0_t10_loop v105 v108).trips) : Fin 1 → Nat :=
  let c1_i32_225 : BitVec 32 := 1#32
  let arg23 : BitVec 32 := Scf.iv v105 c1_i32_225 k0_t10
  let v471 : Index := Scalar.indexCast arg23
  ![v471.toNat]
def k0_off25 (i : grid0.Coords) (v105 : BitVec 32) (v108 : BitVec 32) (k0_t10 : Fin (k0_t10_loop v105 v108).trips) : Fin 2 → Nat :=
  let c1_i32_225 : BitVec 32 := 1#32
  let arg23 : BitVec 32 := Scf.iv v105 c1_i32_225 k0_t10
  let v477 : Index := Scalar.indexCast arg23
  let arg0 : BitVec 32 := BitVec.ofNat 32 (i 0).val
  let c5_i32_217 : BitVec 32 := 5#32
  let v402 : BitVec 32 := Scalar.muli arg0 c5_i32_217
  let c4_i32 : BitVec 32 := 4#32
  let v403 : BitVec 32 := Scalar.addi v402 c4_i32
  let v478 : Index := Scalar.indexCast v403
  ![v477.toNat, v478.toNat]
@[reducible] def k0_t11_loop (v105 : BitVec 32) (v108 : BitVec 32) : Scf.Loop 32 :=
  let v418 : BitVec 32 := Scalar.subi v108 v105
  let c1_i32_224 : BitVec 32 := 1#32
  let v420 : BitVec 32 := Scalar.divsi v418 c1_i32_224
  let v421 : BitVec 32 := Scalar.muli v420 c1_i32_224
  let v422 : BitVec 32 := Scalar.addi v105 v421
  let v419 : BitVec 32 := Scalar.addi v105 v418
  let c1_i32_226 : BitVec 32 := 1#32
  ⟨v422, v419, c1_i32_226⟩
def k0_off26 (v105 : BitVec 32) (v108 : BitVec 32) (k0_t11 : Fin (k0_t11_loop v105 v108).trips) : Fin 1 → Nat :=
  let v418 : BitVec 32 := Scalar.subi v108 v105
  let c1_i32_224 : BitVec 32 := 1#32
  let v420 : BitVec 32 := Scalar.divsi v418 c1_i32_224
  let v421 : BitVec 32 := Scalar.muli v420 c1_i32_224
  let v422 : BitVec 32 := Scalar.addi v105 v421
  let c1_i32_226 : BitVec 32 := 1#32
  let arg23 : BitVec 32 := Scf.iv v422 c1_i32_226 k0_t11
  let v471 : Index := Scalar.indexCast arg23
  ![v471.toNat]
def k0_off27 (i : grid0.Coords) (v105 : BitVec 32) (v108 : BitVec 32) (k0_t11 : Fin (k0_t11_loop v105 v108).trips) : Fin 2 → Nat :=
  let v418 : BitVec 32 := Scalar.subi v108 v105
  let c1_i32_224 : BitVec 32 := 1#32
  let v420 : BitVec 32 := Scalar.divsi v418 c1_i32_224
  let v421 : BitVec 32 := Scalar.muli v420 c1_i32_224
  let v422 : BitVec 32 := Scalar.addi v105 v421
  let c1_i32_226 : BitVec 32 := 1#32
  let arg23 : BitVec 32 := Scf.iv v422 c1_i32_226 k0_t11
  let v477 : Index := Scalar.indexCast arg23
  let arg0 : BitVec 32 := BitVec.ofNat 32 (i 0).val
  let c5_i32_217 : BitVec 32 := 5#32
  let v402 : BitVec 32 := Scalar.muli arg0 c5_i32_217
  let c4_i32 : BitVec 32 := 4#32
  let v403 : BitVec 32 := Scalar.addi v402 c4_i32
  let v478 : Index := Scalar.indexCast v403
  ![v477.toNat, v478.toNat]

def k0_chk2 (i : grid0.Coords) (v105 : BitVec 32) (v108 : BitVec 32) : Prop :=
  ((k0_t2_loop v105 v108).OK) ∧
  (∀ k0_t2 : Fin (k0_t2_loop v105 v108).trips, ∀ a, (k0_off7 v105 v108 k0_t2) a + S1.size a ≤ S32.size a) ∧
  (∀ k0_t2 : Fin (k0_t2_loop v105 v108).trips, ∀ a, (k0_off8 i v105 v108 k0_t2) a + S1x1.size a ≤ S32x40.size a) ∧
  ((k0_t3_loop v105 v108).OK) ∧
  (∀ k0_t3 : Fin (k0_t3_loop v105 v108).trips, ∀ a, (k0_off9 v105 v108 k0_t3) a + S1.size a ≤ S32.size a) ∧
  (∀ k0_t3 : Fin (k0_t3_loop v105 v108).trips, ∀ a, (k0_off10 i v105 v108 k0_t3) a + S1x1.size a ≤ S32x40.size a) ∧
  ((k0_t4_loop v105 v108).OK) ∧
  (∀ k0_t4 : Fin (k0_t4_loop v105 v108).trips, ∀ a, (k0_off12 v105 v108 k0_t4) a + S1.size a ≤ S32.size a) ∧
  (∀ k0_t4 : Fin (k0_t4_loop v105 v108).trips, ∀ a, (k0_off13 i v105 v108 k0_t4) a + S1x1.size a ≤ S32x40.size a) ∧
  ((k0_t5_loop v105 v108).OK) ∧
  (∀ k0_t5 : Fin (k0_t5_loop v105 v108).trips, ∀ a, (k0_off14 v105 v108 k0_t5) a + S1.size a ≤ S32.size a) ∧
  (∀ k0_t5 : Fin (k0_t5_loop v105 v108).trips, ∀ a, (k0_off15 i v105 v108 k0_t5) a + S1x1.size a ≤ S32x40.size a) ∧
  ((k0_t6_loop v105 v108).OK) ∧
  (∀ k0_t6 : Fin (k0_t6_loop v105 v108).trips, ∀ a, (k0_off16 v105 v108 k0_t6) a + S1.size a ≤ S32.size a) ∧
  (∀ k0_t6 : Fin (k0_t6_loop v105 v108).trips, ∀ a, (k0_off17 i v105 v108 k0_t6) a + S1x1.size a ≤ S32x40.size a) ∧
  ((k0_t7_loop v105 v108).OK) ∧
  (∀ k0_t7 : Fin (k0_t7_loop v105 v108).trips, ∀ a, (k0_off18 v105 v108 k0_t7) a + S1.size a ≤ S32.size a) ∧
  (∀ k0_t7 : Fin (k0_t7_loop v105 v108).trips, ∀ a, (k0_off19 i v105 v108 k0_t7) a + S1x1.size a ≤ S32x40.size a) ∧
  ((k0_t8_loop v105 v108).OK) ∧
  (∀ k0_t8 : Fin (k0_t8_loop v105 v108).trips, ∀ a, (k0_off20 v105 v108 k0_t8) a + S1.size a ≤ S32.size a) ∧
  (∀ k0_t8 : Fin (k0_t8_loop v105 v108).trips, ∀ a, (k0_off21 i v105 v108 k0_t8) a + S1x1.size a ≤ S32x40.size a) ∧
  ((k0_t9_loop v105 v108).OK) ∧
  (∀ k0_t9 : Fin (k0_t9_loop v105 v108).trips, ∀ a, (k0_off22 v105 v108 k0_t9) a + S1.size a ≤ S32.size a) ∧
  (∀ k0_t9 : Fin (k0_t9_loop v105 v108).trips, ∀ a, (k0_off23 i v105 v108 k0_t9) a + S1x1.size a ≤ S32x40.size a) ∧
  ((k0_t10_loop v105 v108).OK) ∧
  (∀ k0_t10 : Fin (k0_t10_loop v105 v108).trips, ∀ a, (k0_off24 v105 v108 k0_t10) a + S1.size a ≤ S32.size a) ∧
  (∀ k0_t10 : Fin (k0_t10_loop v105 v108).trips, ∀ a, (k0_off25 i v105 v108 k0_t10) a + S1x1.size a ≤ S32x40.size a) ∧
  ((k0_t11_loop v105 v108).OK) ∧
  (∀ k0_t11 : Fin (k0_t11_loop v105 v108).trips, ∀ a, (k0_off26 v105 v108 k0_t11) a + S1.size a ≤ S32.size a) ∧
  (∀ k0_t11 : Fin (k0_t11_loop v105 v108).trips, ∀ a, (k0_off27 i v105 v108 k0_t11) a + S1x1.size a ≤ S32x40.size a)
theorem k0_t2_ok : ∀ (i : grid0.Coords) (v105 : BitVec 32) (v108 : BitVec 32) (k0_hw2 : k0_chk2 i v105 v108), (k0_t2_loop v105 v108).OK := fun i v105 v108 k0_hw2 => k0_hw2.1
theorem k0_off7_inb : ∀ (i : grid0.Coords) (v105 : BitVec 32) (v108 : BitVec 32) (k0_hw2 : k0_chk2 i v105 v108) (k0_t2 : Fin (k0_t2_loop v105 v108).trips), ∀ a, (k0_off7 v105 v108 k0_t2) a + S1.size a ≤ S32.size a := fun i v105 v108 k0_hw2 k0_t2 => k0_hw2.2.1 k0_t2
theorem k0_off8_inb : ∀ (i : grid0.Coords) (v105 : BitVec 32) (v108 : BitVec 32) (k0_hw2 : k0_chk2 i v105 v108) (k0_t2 : Fin (k0_t2_loop v105 v108).trips), ∀ a, (k0_off8 i v105 v108 k0_t2) a + S1x1.size a ≤ S32x40.size a := fun i v105 v108 k0_hw2 k0_t2 => k0_hw2.2.2.1 k0_t2
theorem k0_t3_ok : ∀ (i : grid0.Coords) (v105 : BitVec 32) (v108 : BitVec 32) (k0_hw2 : k0_chk2 i v105 v108), (k0_t3_loop v105 v108).OK := fun i v105 v108 k0_hw2 => k0_hw2.2.2.2.1
theorem k0_off9_inb : ∀ (i : grid0.Coords) (v105 : BitVec 32) (v108 : BitVec 32) (k0_hw2 : k0_chk2 i v105 v108) (k0_t3 : Fin (k0_t3_loop v105 v108).trips), ∀ a, (k0_off9 v105 v108 k0_t3) a + S1.size a ≤ S32.size a := fun i v105 v108 k0_hw2 k0_t3 => k0_hw2.2.2.2.2.1 k0_t3
theorem k0_off10_inb : ∀ (i : grid0.Coords) (v105 : BitVec 32) (v108 : BitVec 32) (k0_hw2 : k0_chk2 i v105 v108) (k0_t3 : Fin (k0_t3_loop v105 v108).trips), ∀ a, (k0_off10 i v105 v108 k0_t3) a + S1x1.size a ≤ S32x40.size a := fun i v105 v108 k0_hw2 k0_t3 => k0_hw2.2.2.2.2.2.1 k0_t3
theorem k0_t4_ok : ∀ (i : grid0.Coords) (v105 : BitVec 32) (v108 : BitVec 32) (k0_hw2 : k0_chk2 i v105 v108), (k0_t4_loop v105 v108).OK := fun i v105 v108 k0_hw2 => k0_hw2.2.2.2.2.2.2.1
theorem k0_off12_inb : ∀ (i : grid0.Coords) (v105 : BitVec 32) (v108 : BitVec 32) (k0_hw2 : k0_chk2 i v105 v108) (k0_t4 : Fin (k0_t4_loop v105 v108).trips), ∀ a, (k0_off12 v105 v108 k0_t4) a + S1.size a ≤ S32.size a := fun i v105 v108 k0_hw2 k0_t4 => k0_hw2.2.2.2.2.2.2.2.1 k0_t4
theorem k0_off13_inb : ∀ (i : grid0.Coords) (v105 : BitVec 32) (v108 : BitVec 32) (k0_hw2 : k0_chk2 i v105 v108) (k0_t4 : Fin (k0_t4_loop v105 v108).trips), ∀ a, (k0_off13 i v105 v108 k0_t4) a + S1x1.size a ≤ S32x40.size a := fun i v105 v108 k0_hw2 k0_t4 => k0_hw2.2.2.2.2.2.2.2.2.1 k0_t4
theorem k0_t5_ok : ∀ (i : grid0.Coords) (v105 : BitVec 32) (v108 : BitVec 32) (k0_hw2 : k0_chk2 i v105 v108), (k0_t5_loop v105 v108).OK := fun i v105 v108 k0_hw2 => k0_hw2.2.2.2.2.2.2.2.2.2.1
theorem k0_off14_inb : ∀ (i : grid0.Coords) (v105 : BitVec 32) (v108 : BitVec 32) (k0_hw2 : k0_chk2 i v105 v108) (k0_t5 : Fin (k0_t5_loop v105 v108).trips), ∀ a, (k0_off14 v105 v108 k0_t5) a + S1.size a ≤ S32.size a := fun i v105 v108 k0_hw2 k0_t5 => k0_hw2.2.2.2.2.2.2.2.2.2.2.1 k0_t5
theorem k0_off15_inb : ∀ (i : grid0.Coords) (v105 : BitVec 32) (v108 : BitVec 32) (k0_hw2 : k0_chk2 i v105 v108) (k0_t5 : Fin (k0_t5_loop v105 v108).trips), ∀ a, (k0_off15 i v105 v108 k0_t5) a + S1x1.size a ≤ S32x40.size a := fun i v105 v108 k0_hw2 k0_t5 => k0_hw2.2.2.2.2.2.2.2.2.2.2.2.1 k0_t5
theorem k0_t6_ok : ∀ (i : grid0.Coords) (v105 : BitVec 32) (v108 : BitVec 32) (k0_hw2 : k0_chk2 i v105 v108), (k0_t6_loop v105 v108).OK := fun i v105 v108 k0_hw2 => k0_hw2.2.2.2.2.2.2.2.2.2.2.2.2.1
theorem k0_off16_inb : ∀ (i : grid0.Coords) (v105 : BitVec 32) (v108 : BitVec 32) (k0_hw2 : k0_chk2 i v105 v108) (k0_t6 : Fin (k0_t6_loop v105 v108).trips), ∀ a, (k0_off16 v105 v108 k0_t6) a + S1.size a ≤ S32.size a := fun i v105 v108 k0_hw2 k0_t6 => k0_hw2.2.2.2.2.2.2.2.2.2.2.2.2.2.1 k0_t6
theorem k0_off17_inb : ∀ (i : grid0.Coords) (v105 : BitVec 32) (v108 : BitVec 32) (k0_hw2 : k0_chk2 i v105 v108) (k0_t6 : Fin (k0_t6_loop v105 v108).trips), ∀ a, (k0_off17 i v105 v108 k0_t6) a + S1x1.size a ≤ S32x40.size a := fun i v105 v108 k0_hw2 k0_t6 => k0_hw2.2.2.2.2.2.2.2.2.2.2.2.2.2.2.1 k0_t6
theorem k0_t7_ok : ∀ (i : grid0.Coords) (v105 : BitVec 32) (v108 : BitVec 32) (k0_hw2 : k0_chk2 i v105 v108), (k0_t7_loop v105 v108).OK := fun i v105 v108 k0_hw2 => k0_hw2.2.2.2.2.2.2.2.2.2.2.2.2.2.2.2.1
theorem k0_off18_inb : ∀ (i : grid0.Coords) (v105 : BitVec 32) (v108 : BitVec 32) (k0_hw2 : k0_chk2 i v105 v108) (k0_t7 : Fin (k0_t7_loop v105 v108).trips), ∀ a, (k0_off18 v105 v108 k0_t7) a + S1.size a ≤ S32.size a := fun i v105 v108 k0_hw2 k0_t7 => k0_hw2.2.2.2.2.2.2.2.2.2.2.2.2.2.2.2.2.1 k0_t7
theorem k0_off19_inb : ∀ (i : grid0.Coords) (v105 : BitVec 32) (v108 : BitVec 32) (k0_hw2 : k0_chk2 i v105 v108) (k0_t7 : Fin (k0_t7_loop v105 v108).trips), ∀ a, (k0_off19 i v105 v108 k0_t7) a + S1x1.size a ≤ S32x40.size a := fun i v105 v108 k0_hw2 k0_t7 => k0_hw2.2.2.2.2.2.2.2.2.2.2.2.2.2.2.2.2.2.1 k0_t7
theorem k0_t8_ok : ∀ (i : grid0.Coords) (v105 : BitVec 32) (v108 : BitVec 32) (k0_hw2 : k0_chk2 i v105 v108), (k0_t8_loop v105 v108).OK := fun i v105 v108 k0_hw2 => k0_hw2.2.2.2.2.2.2.2.2.2.2.2.2.2.2.2.2.2.2.1
theorem k0_off20_inb : ∀ (i : grid0.Coords) (v105 : BitVec 32) (v108 : BitVec 32) (k0_hw2 : k0_chk2 i v105 v108) (k0_t8 : Fin (k0_t8_loop v105 v108).trips), ∀ a, (k0_off20 v105 v108 k0_t8) a + S1.size a ≤ S32.size a := fun i v105 v108 k0_hw2 k0_t8 => k0_hw2.2.2.2.2.2.2.2.2.2.2.2.2.2.2.2.2.2.2.2.1 k0_t8
theorem k0_off21_inb : ∀ (i : grid0.Coords) (v105 : BitVec 32) (v108 : BitVec 32) (k0_hw2 : k0_chk2 i v105 v108) (k0_t8 : Fin (k0_t8_loop v105 v108).trips), ∀ a, (k0_off21 i v105 v108 k0_t8) a + S1x1.size a ≤ S32x40.size a := fun i v105 v108 k0_hw2 k0_t8 => k0_hw2.2.2.2.2.2.2.2.2.2.2.2.2.2.2.2.2.2.2.2.2.1 k0_t8
theorem k0_t9_ok : ∀ (i : grid0.Coords) (v105 : BitVec 32) (v108 : BitVec 32) (k0_hw2 : k0_chk2 i v105 v108), (k0_t9_loop v105 v108).OK := fun i v105 v108 k0_hw2 => k0_hw2.2.2.2.2.2.2.2.2.2.2.2.2.2.2.2.2.2.2.2.2.2.1
theorem k0_off22_inb : ∀ (i : grid0.Coords) (v105 : BitVec 32) (v108 : BitVec 32) (k0_hw2 : k0_chk2 i v105 v108) (k0_t9 : Fin (k0_t9_loop v105 v108).trips), ∀ a, (k0_off22 v105 v108 k0_t9) a + S1.size a ≤ S32.size a := fun i v105 v108 k0_hw2 k0_t9 => k0_hw2.2.2.2.2.2.2.2.2.2.2.2.2.2.2.2.2.2.2.2.2.2.2.1 k0_t9
theorem k0_off23_inb : ∀ (i : grid0.Coords) (v105 : BitVec 32) (v108 : BitVec 32) (k0_hw2 : k0_chk2 i v105 v108) (k0_t9 : Fin (k0_t9_loop v105 v108).trips), ∀ a, (k0_off23 i v105 v108 k0_t9) a + S1x1.size a ≤ S32x40.size a := fun i v105 v108 k0_hw2 k0_t9 => k0_hw2.2.2.2.2.2.2.2.2.2.2.2.2.2.2.2.2.2.2.2.2.2.2.2.1 k0_t9
theorem k0_t10_ok : ∀ (i : grid0.Coords) (v105 : BitVec 32) (v108 : BitVec 32) (k0_hw2 : k0_chk2 i v105 v108), (k0_t10_loop v105 v108).OK := fun i v105 v108 k0_hw2 => k0_hw2.2.2.2.2.2.2.2.2.2.2.2.2.2.2.2.2.2.2.2.2.2.2.2.2.1
theorem k0_off24_inb : ∀ (i : grid0.Coords) (v105 : BitVec 32) (v108 : BitVec 32) (k0_hw2 : k0_chk2 i v105 v108) (k0_t10 : Fin (k0_t10_loop v105 v108).trips), ∀ a, (k0_off24 v105 v108 k0_t10) a + S1.size a ≤ S32.size a := fun i v105 v108 k0_hw2 k0_t10 => k0_hw2.2.2.2.2.2.2.2.2.2.2.2.2.2.2.2.2.2.2.2.2.2.2.2.2.2.1 k0_t10
theorem k0_off25_inb : ∀ (i : grid0.Coords) (v105 : BitVec 32) (v108 : BitVec 32) (k0_hw2 : k0_chk2 i v105 v108) (k0_t10 : Fin (k0_t10_loop v105 v108).trips), ∀ a, (k0_off25 i v105 v108 k0_t10) a + S1x1.size a ≤ S32x40.size a := fun i v105 v108 k0_hw2 k0_t10 => k0_hw2.2.2.2.2.2.2.2.2.2.2.2.2.2.2.2.2.2.2.2.2.2.2.2.2.2.2.1 k0_t10
theorem k0_t11_ok : ∀ (i : grid0.Coords) (v105 : BitVec 32) (v108 : BitVec 32) (k0_hw2 : k0_chk2 i v105 v108), (k0_t11_loop v105 v108).OK := fun i v105 v108 k0_hw2 => k0_hw2.2.2.2.2.2.2.2.2.2.2.2.2.2.2.2.2.2.2.2.2.2.2.2.2.2.2.2.1
theorem k0_off26_inb : ∀ (i : grid0.Coords) (v105 : BitVec 32) (v108 : BitVec 32) (k0_hw2 : k0_chk2 i v105 v108) (k0_t11 : Fin (k0_t11_loop v105 v108).trips), ∀ a, (k0_off26 v105 v108 k0_t11) a + S1.size a ≤ S32.size a := fun i v105 v108 k0_hw2 k0_t11 => k0_hw2.2.2.2.2.2.2.2.2.2.2.2.2.2.2.2.2.2.2.2.2.2.2.2.2.2.2.2.2.1 k0_t11
theorem k0_off27_inb : ∀ (i : grid0.Coords) (v105 : BitVec 32) (v108 : BitVec 32) (k0_hw2 : k0_chk2 i v105 v108) (k0_t11 : Fin (k0_t11_loop v105 v108).trips), ∀ a, (k0_off27 i v105 v108 k0_t11) a + S1x1.size a ≤ S32x40.size a := fun i v105 v108 k0_hw2 k0_t11 => k0_hw2.2.2.2.2.2.2.2.2.2.2.2.2.2.2.2.2.2.2.2.2.2.2.2.2.2.2.2.2.2 k0_t11

@[reducible] def k0_t12_loop (i : grid0.Coords) : Scf.Loop 32 :=
  let c0_i32 : BitVec 32 := 0#32
  let arg1 : BitVec 32 := BitVec.ofNat 32 (i 1).val
  let c1_i32 : BitVec 32 := 1#32
  let v16 : BitVec 32 := Scalar.muli arg1 c1_i32
  let c1_i32_13 : BitVec 32 := 1#32
  let v17 : BitVec 32 := Scalar.addi v16 c1_i32_13
  let v18 : BitVec 32 := Scalar.subi v17 c0_i32
  let c1_i32_15 : BitVec 32 := 1#32
  let v20 : BitVec 32 := Scalar.divsi v18 c1_i32_15
  let v21 : BitVec 32 := Scalar.muli v20 c1_i32_15
  let v22 : BitVec 32 := Scalar.addi c0_i32 v21
  let v19 : BitVec 32 := Scalar.addi c0_i32 v18
  let c1_i32_17 : BitVec 32 := 1#32
  ⟨v22, v19, c1_i32_17⟩
def k0_mult2 (i : grid0.Coords) (k0_t12 : Fin (k0_t12_loop i).trips) : BitVec 32 :=
  let c0_i32 : BitVec 32 := 0#32
  let arg1 : BitVec 32 := BitVec.ofNat 32 (i 1).val
  let c1_i32 : BitVec 32 := 1#32
  let v16 : BitVec 32 := Scalar.muli arg1 c1_i32
  let c1_i32_13 : BitVec 32 := 1#32
  let v17 : BitVec 32 := Scalar.addi v16 c1_i32_13
  let v18 : BitVec 32 := Scalar.subi v17 c0_i32
  let c1_i32_15 : BitVec 32 := 1#32
  let v20 : BitVec 32 := Scalar.divsi v18 c1_i32_15
  let v21 : BitVec 32 := Scalar.muli v20 c1_i32_15
  let v22 : BitVec 32 := Scalar.addi c0_i32 v21
  let c1_i32_17 : BitVec 32 := 1#32
  let arg21 : BitVec 32 := Scf.iv v22 c1_i32_17 k0_t12
  let c256_i32_55 : BitVec 32 := 256#32
  let v80 : BitVec 32 := Scalar.muli arg21 c256_i32_55
  v80
def k0_off28 (i : grid0.Coords) (k0_t12 : Fin (k0_t12_loop i).trips) : Fin 2 → Nat :=
  let arg1 : BitVec 32 := BitVec.ofNat 32 (i 1).val
  let v103 : Index := Scalar.indexCast arg1
  let c0_i32 : BitVec 32 := 0#32
  let c1_i32 : BitVec 32 := 1#32
  let v16 : BitVec 32 := Scalar.muli arg1 c1_i32
  let c1_i32_13 : BitVec 32 := 1#32
  let v17 : BitVec 32 := Scalar.addi v16 c1_i32_13
  let v18 : BitVec 32 := Scalar.subi v17 c0_i32
  let c1_i32_15 : BitVec 32 := 1#32
  let v20 : BitVec 32 := Scalar.divsi v18 c1_i32_15
  let v21 : BitVec 32 := Scalar.muli v20 c1_i32_15
  let v22 : BitVec 32 := Scalar.addi c0_i32 v21
  let c1_i32_17 : BitVec 32 := 1#32
  let arg21 : BitVec 32 := Scf.iv v22 c1_i32_17 k0_t12
  let v104 : Index := Scalar.indexCast arg21
  ![v103.toNat, v104.toNat]
def k0_off29 (i : grid0.Coords) (k0_t12 : Fin (k0_t12_loop i).trips) : Fin 3 → Nat :=
  let c0_60 : Index := 0#32
  let c0_i32 : BitVec 32 := 0#32
  let arg1 : BitVec 32 := BitVec.ofNat 32 (i 1).val
  let c1_i32 : BitVec 32 := 1#32
  let v16 : BitVec 32 := Scalar.muli arg1 c1_i32
  let c1_i32_13 : BitVec 32 := 1#32
  let v17 : BitVec 32 := Scalar.addi v16 c1_i32_13
  let v18 : BitVec 32 := Scalar.subi v17 c0_i32
  let c1_i32_15 : BitVec 32 := 1#32
  let v20 : BitVec 32 := Scalar.divsi v18 c1_i32_15
  let v21 : BitVec 32 := Scalar.muli v20 c1_i32_15
  let v22 : BitVec 32 := Scalar.addi c0_i32 v21
  let c1_i32_17 : BitVec 32 := 1#32
  let arg21 : BitVec 32 := Scf.iv v22 c1_i32_17 k0_t12
  let c256_i32_55 : BitVec 32 := 256#32
  let v80 : BitVec 32 := Scalar.muli arg21 c256_i32_55
  let v81 : BitVec 32 := v80
  let v109 : Index := Scalar.indexCast v81
  let c0_61 : Index := 0#32
  ![0, v109.toNat, 0]
def k0_off30 (i : grid0.Coords) (k0_t12 : Fin (k0_t12_loop i).trips) : Fin 3 → Nat :=
  let c0_62 : Index := 0#32
  let c0_63 : Index := 0#32
  let c0_i32 : BitVec 32 := 0#32
  let arg1 : BitVec 32 := BitVec.ofNat 32 (i 1).val
  let c1_i32 : BitVec 32 := 1#32
  let v16 : BitVec 32 := Scalar.muli arg1 c1_i32
  let c1_i32_13 : BitVec 32 := 1#32
  let v17 : BitVec 32 := Scalar.addi v16 c1_i32_13
  let v18 : BitVec 32 := Scalar.subi v17 c0_i32
  let c1_i32_15 : BitVec 32 := 1#32
  let v20 : BitVec 32 := Scalar.divsi v18 c1_i32_15
  let v21 : BitVec 32 := Scalar.muli v20 c1_i32_15
  let v22 : BitVec 32 := Scalar.addi c0_i32 v21
  let c1_i32_17 : BitVec 32 := 1#32
  let arg21 : BitVec 32 := Scf.iv v22 c1_i32_17 k0_t12
  let c256_i32_55 : BitVec 32 := 256#32
  let v80 : BitVec 32 := Scalar.muli arg21 c256_i32_55
  let v81 : BitVec 32 := v80
  let v112 : Index := Scalar.indexCast v81
  ![0, 0, v112.toNat]
def k0_off31 (i : grid0.Coords) (k0_t12 : Fin (k0_t12_loop i).trips) : Fin 3 → Nat :=
  let c0_64 : Index := 0#32
  let c0_65 : Index := 0#32
  let c0_i32 : BitVec 32 := 0#32
  let arg1 : BitVec 32 := BitVec.ofNat 32 (i 1).val
  let c1_i32 : BitVec 32 := 1#32
  let v16 : BitVec 32 := Scalar.muli arg1 c1_i32
  let c1_i32_13 : BitVec 32 := 1#32
  let v17 : BitVec 32 := Scalar.addi v16 c1_i32_13
  let v18 : BitVec 32 := Scalar.subi v17 c0_i32
  let c1_i32_15 : BitVec 32 := 1#32
  let v20 : BitVec 32 := Scalar.divsi v18 c1_i32_15
  let v21 : BitVec 32 := Scalar.muli v20 c1_i32_15
  let v22 : BitVec 32 := Scalar.addi c0_i32 v21
  let c1_i32_17 : BitVec 32 := 1#32
  let arg21 : BitVec 32 := Scf.iv v22 c1_i32_17 k0_t12
  let c256_i32_55 : BitVec 32 := 256#32
  let v80 : BitVec 32 := Scalar.muli arg21 c256_i32_55
  let v81 : BitVec 32 := v80
  let v116 : Index := Scalar.indexCast v81
  ![0, 0, v116.toNat]
def k0_off32 (i : grid0.Coords) (k0_t12 : Fin (k0_t12_loop i).trips) : Fin 3 → Nat :=
  let c0_66 : Index := 0#32
  let c0_i32 : BitVec 32 := 0#32
  let arg1 : BitVec 32 := BitVec.ofNat 32 (i 1).val
  let c1_i32 : BitVec 32 := 1#32
  let v16 : BitVec 32 := Scalar.muli arg1 c1_i32
  let c1_i32_13 : BitVec 32 := 1#32
  let v17 : BitVec 32 := Scalar.addi v16 c1_i32_13
  let v18 : BitVec 32 := Scalar.subi v17 c0_i32
  let c1_i32_15 : BitVec 32 := 1#32
  let v20 : BitVec 32 := Scalar.divsi v18 c1_i32_15
  let v21 : BitVec 32 := Scalar.muli v20 c1_i32_15
  let v22 : BitVec 32 := Scalar.addi c0_i32 v21
  let c1_i32_17 : BitVec 32 := 1#32
  let arg21 : BitVec 32 := Scf.iv v22 c1_i32_17 k0_t12
  let c256_i32_55 : BitVec 32 := 256#32
  let v80 : BitVec 32 := Scalar.muli arg21 c256_i32_55
  let v81 : BitVec 32 := v80
  let v122 : Index := Scalar.indexCast v81
  let c0_67 : Index := 0#32
  ![0, v122.toNat, 0]
def k0_off33 (i : grid0.Coords) (v105 : BitVec 32) : Fin 2 → Nat :=
  let v132 : Index := Scalar.indexCast v105
  let arg0 : BitVec 32 := BitVec.ofNat 32 (i 0).val
  let c5_i32 : BitVec 32 := 5#32
  let v126 : BitVec 32 := Scalar.muli arg0 c5_i32
  let c0_i32_68 : BitVec 32 := 0#32
  let v127 : BitVec 32 := Scalar.addi v126 c0_i32_68
  let v133 : Index := Scalar.indexCast v127
  ![v132.toNat, v133.toNat]

@[reducible] def k0_t13_loop (v105 : BitVec 32) (v108 : BitVec 32) : Scf.Loop 32 :=
  let v142 : BitVec 32 := Scalar.subi v108 v105
  let c1_i32_75 : BitVec 32 := 1#32
  let v144 : BitVec 32 := Scalar.divsi v142 c1_i32_75
  let v145 : BitVec 32 := Scalar.muli v144 c1_i32_75
  let v146 : BitVec 32 := Scalar.addi v105 v145
  let c1_i32_76 : BitVec 32 := 1#32
  ⟨v105, v146, c1_i32_76⟩

def k0_off34 (v105 : BitVec 32) (v108 : BitVec 32) (k0_t13 : Fin (k0_t13_loop v105 v108).trips) : Fin 1 → Nat :=
  let c1_i32_76 : BitVec 32 := 1#32
  let arg23 : BitVec 32 := Scf.iv v105 c1_i32_76 k0_t13
  let v471 : Index := Scalar.indexCast arg23
  ![v471.toNat]
def k0_off35 (i : grid0.Coords) (v105 : BitVec 32) (v108 : BitVec 32) (k0_t13 : Fin (k0_t13_loop v105 v108).trips) : Fin 2 → Nat :=
  let c1_i32_76 : BitVec 32 := 1#32
  let arg23 : BitVec 32 := Scf.iv v105 c1_i32_76 k0_t13
  let v477 : Index := Scalar.indexCast arg23
  let arg0 : BitVec 32 := BitVec.ofNat 32 (i 0).val
  let c5_i32 : BitVec 32 := 5#32
  let v126 : BitVec 32 := Scalar.muli arg0 c5_i32
  let c0_i32_68 : BitVec 32 := 0#32
  let v127 : BitVec 32 := Scalar.addi v126 c0_i32_68
  let v478 : Index := Scalar.indexCast v127
  ![v477.toNat, v478.toNat]
@[reducible] def k0_t14_loop (v105 : BitVec 32) (v108 : BitVec 32) : Scf.Loop 32 :=
  let v142 : BitVec 32 := Scalar.subi v108 v105
  let c1_i32_75 : BitVec 32 := 1#32
  let v144 : BitVec 32 := Scalar.divsi v142 c1_i32_75
  let v145 : BitVec 32 := Scalar.muli v144 c1_i32_75
  let v146 : BitVec 32 := Scalar.addi v105 v145
  let v143 : BitVec 32 := Scalar.addi v105 v142
  let c1_i32_77 : BitVec 32 := 1#32
  ⟨v146, v143, c1_i32_77⟩
def k0_off36 (v105 : BitVec 32) (v108 : BitVec 32) (k0_t14 : Fin (k0_t14_loop v105 v108).trips) : Fin 1 → Nat :=
  let v142 : BitVec 32 := Scalar.subi v108 v105
  let c1_i32_75 : BitVec 32 := 1#32
  let v144 : BitVec 32 := Scalar.divsi v142 c1_i32_75
  let v145 : BitVec 32 := Scalar.muli v144 c1_i32_75
  let v146 : BitVec 32 := Scalar.addi v105 v145
  let c1_i32_77 : BitVec 32 := 1#32
  let arg23 : BitVec 32 := Scf.iv v146 c1_i32_77 k0_t14
  let v471 : Index := Scalar.indexCast arg23
  ![v471.toNat]
def k0_off37 (i : grid0.Coords) (v105 : BitVec 32) (v108 : BitVec 32) (k0_t14 : Fin (k0_t14_loop v105 v108).trips) : Fin 2 → Nat :=
  let v142 : BitVec 32 := Scalar.subi v108 v105
  let c1_i32_75 : BitVec 32 := 1#32
  let v144 : BitVec 32 := Scalar.divsi v142 c1_i32_75
  let v145 : BitVec 32 := Scalar.muli v144 c1_i32_75
  let v146 : BitVec 32 := Scalar.addi v105 v145
  let c1_i32_77 : BitVec 32 := 1#32
  let arg23 : BitVec 32 := Scf.iv v146 c1_i32_77 k0_t14
  let v477 : Index := Scalar.indexCast arg23
  let arg0 : BitVec 32 := BitVec.ofNat 32 (i 0).val
  let c5_i32 : BitVec 32 := 5#32
  let v126 : BitVec 32 := Scalar.muli arg0 c5_i32
  let c0_i32_68 : BitVec 32 := 0#32
  let v127 : BitVec 32 := Scalar.addi v126 c0_i32_68
  let v478 : Index := Scalar.indexCast v127
  ![v477.toNat, v478.toNat]
def k0_off38 (i : grid0.Coords) (v105 : BitVec 32) (c1_i32_106 : BitVec 32) : Fin 2 → Nat :=
  let v201 : Index := Scalar.indexCast v105
  let arg0 : BitVec 32 := BitVec.ofNat 32 (i 0).val
  let c5_i32_105 : BitVec 32 := 5#32
  let v195 : BitVec 32 := Scalar.muli arg0 c5_i32_105
  let v196 : BitVec 32 := Scalar.addi v195 c1_i32_106
  let v202 : Index := Scalar.indexCast v196
  ![v201.toNat, v202.toNat]

def k0_chk3 (i : grid0.Coords) (k0_t12 : Fin (k0_t12_loop i).trips) (v105 : BitVec 32) : Prop :=
  (∀ a, (k0_off33 i v105) a + S1x1.size a ≤ S33x40.size a) ∧
  (∀ (r : Fin 4), ∀ a, (k0_off38 i v105 (BitVec.ofNat 32 (1 + r.val))) a + S1x1.size a ≤ S33x40.size a)
theorem k0_off33_inb : ∀ (i : grid0.Coords) (k0_t12 : Fin (k0_t12_loop i).trips) (v105 : BitVec 32) (k0_hw3 : k0_chk3 i k0_t12 v105), ∀ a, (k0_off33 i v105) a + S1x1.size a ≤ S33x40.size a := fun i k0_t12 v105 k0_hw3 => k0_hw3.1
theorem k0_off38_inb : ∀ (i : grid0.Coords) (k0_t12 : Fin (k0_t12_loop i).trips) (v105 : BitVec 32) (k0_hw3 : k0_chk3 i k0_t12 v105), ∀ (r : Fin 4), ∀ a, (k0_off38 i v105 (BitVec.ofNat 32 (1 + r.val))) a + S1x1.size a ≤ S33x40.size a := fun i k0_t12 v105 k0_hw3 r => k0_hw3.2 r

@[reducible] def k0_t15_loop (v105 : BitVec 32) (v108 : BitVec 32) : Scf.Loop 32 :=
  let v211 : BitVec 32 := Scalar.subi v108 v105
  let c1_i32_113 : BitVec 32 := 1#32
  let v213 : BitVec 32 := Scalar.divsi v211 c1_i32_113
  let v214 : BitVec 32 := Scalar.muli v213 c1_i32_113
  let v215 : BitVec 32 := Scalar.addi v105 v214
  let c1_i32_114 : BitVec 32 := 1#32
  ⟨v105, v215, c1_i32_114⟩
def k0_off39 (v105 : BitVec 32) (v108 : BitVec 32) (k0_t15 : Fin (k0_t15_loop v105 v108).trips) : Fin 1 → Nat :=
  let c1_i32_114 : BitVec 32 := 1#32
  let arg23 : BitVec 32 := Scf.iv v105 c1_i32_114 k0_t15
  let v471 : Index := Scalar.indexCast arg23
  ![v471.toNat]
def k0_off40 (i : grid0.Coords) (v105 : BitVec 32) (v108 : BitVec 32) (k0_t15 : Fin (k0_t15_loop v105 v108).trips) : Fin 2 → Nat :=
  let c1_i32_114 : BitVec 32 := 1#32
  let arg23 : BitVec 32 := Scf.iv v105 c1_i32_114 k0_t15
  let v477 : Index := Scalar.indexCast arg23
  let arg0 : BitVec 32 := BitVec.ofNat 32 (i 0).val
  let c5_i32_105 : BitVec 32 := 5#32
  let v195 : BitVec 32 := Scalar.muli arg0 c5_i32_105
  let c1_i32_106 : BitVec 32 := 1#32
  let v196 : BitVec 32 := Scalar.addi v195 c1_i32_106
  let v478 : Index := Scalar.indexCast v196
  ![v477.toNat, v478.toNat]
@[reducible] def k0_t16_loop (v105 : BitVec 32) (v108 : BitVec 32) : Scf.Loop 32 :=
  let v211 : BitVec 32 := Scalar.subi v108 v105
  let c1_i32_113 : BitVec 32 := 1#32
  let v213 : BitVec 32 := Scalar.divsi v211 c1_i32_113
  let v214 : BitVec 32 := Scalar.muli v213 c1_i32_113
  let v215 : BitVec 32 := Scalar.addi v105 v214
  let v212 : BitVec 32 := Scalar.addi v105 v211
  let c1_i32_115 : BitVec 32 := 1#32
  ⟨v215, v212, c1_i32_115⟩
def k0_off41 (v105 : BitVec 32) (v108 : BitVec 32) (k0_t16 : Fin (k0_t16_loop v105 v108).trips) : Fin 1 → Nat :=
  let v211 : BitVec 32 := Scalar.subi v108 v105
  let c1_i32_113 : BitVec 32 := 1#32
  let v213 : BitVec 32 := Scalar.divsi v211 c1_i32_113
  let v214 : BitVec 32 := Scalar.muli v213 c1_i32_113
  let v215 : BitVec 32 := Scalar.addi v105 v214
  let c1_i32_115 : BitVec 32 := 1#32
  let arg23 : BitVec 32 := Scf.iv v215 c1_i32_115 k0_t16
  let v471 : Index := Scalar.indexCast arg23
  ![v471.toNat]
def k0_off42 (i : grid0.Coords) (v105 : BitVec 32) (v108 : BitVec 32) (k0_t16 : Fin (k0_t16_loop v105 v108).trips) : Fin 2 → Nat :=
  let v211 : BitVec 32 := Scalar.subi v108 v105
  let c1_i32_113 : BitVec 32 := 1#32
  let v213 : BitVec 32 := Scalar.divsi v211 c1_i32_113
  let v214 : BitVec 32 := Scalar.muli v213 c1_i32_113
  let v215 : BitVec 32 := Scalar.addi v105 v214
  let c1_i32_115 : BitVec 32 := 1#32
  let arg23 : BitVec 32 := Scf.iv v215 c1_i32_115 k0_t16
  let v477 : Index := Scalar.indexCast arg23
  let arg0 : BitVec 32 := BitVec.ofNat 32 (i 0).val
  let c5_i32_105 : BitVec 32 := 5#32
  let v195 : BitVec 32 := Scalar.muli arg0 c5_i32_105
  let c1_i32_106 : BitVec 32 := 1#32
  let v196 : BitVec 32 := Scalar.addi v195 c1_i32_106
  let v478 : Index := Scalar.indexCast v196
  ![v477.toNat, v478.toNat]
@[reducible] def k0_t17_loop (v105 : BitVec 32) (v108 : BitVec 32) : Scf.Loop 32 :=
  let v280 : BitVec 32 := Scalar.subi v108 v105
  let c1_i32_150 : BitVec 32 := 1#32
  let v282 : BitVec 32 := Scalar.divsi v280 c1_i32_150
  let v283 : BitVec 32 := Scalar.muli v282 c1_i32_150
  let v284 : BitVec 32 := Scalar.addi v105 v283
  let c1_i32_151 : BitVec 32 := 1#32
  ⟨v105, v284, c1_i32_151⟩
def k0_off43 (v105 : BitVec 32) (v108 : BitVec 32) (k0_t17 : Fin (k0_t17_loop v105 v108).trips) : Fin 1 → Nat :=
  let c1_i32_151 : BitVec 32 := 1#32
  let arg23 : BitVec 32 := Scf.iv v105 c1_i32_151 k0_t17
  let v471 : Index := Scalar.indexCast arg23
  ![v471.toNat]
def k0_off44 (i : grid0.Coords) (v105 : BitVec 32) (v108 : BitVec 32) (k0_t17 : Fin (k0_t17_loop v105 v108).trips) : Fin 2 → Nat :=
  let c1_i32_151 : BitVec 32 := 1#32
  let arg23 : BitVec 32 := Scf.iv v105 c1_i32_151 k0_t17
  let v477 : Index := Scalar.indexCast arg23
  let arg0 : BitVec 32 := BitVec.ofNat 32 (i 0).val
  let c5_i32_143 : BitVec 32 := 5#32
  let v264 : BitVec 32 := Scalar.muli arg0 c5_i32_143
  let c2_i32 : BitVec 32 := 2#32
  let v265 : BitVec 32 := Scalar.addi v264 c2_i32
  let v478 : Index := Scalar.indexCast v265
  ![v477.toNat, v478.toNat]
@[reducible] def k0_t18_loop (v105 : BitVec 32) (v108 : BitVec 32) : Scf.Loop 32 :=
  let v280 : BitVec 32 := Scalar.subi v108 v105
  let c1_i32_150 : BitVec 32 := 1#32
  let v282 : BitVec 32 := Scalar.divsi v280 c1_i32_150
  let v283 : BitVec 32 := Scalar.muli v282 c1_i32_150
  let v284 : BitVec 32 := Scalar.addi v105 v283
  let v281 : BitVec 32 := Scalar.addi v105 v280
  let c1_i32_152 : BitVec 32 := 1#32
  ⟨v284, v281, c1_i32_152⟩
def k0_off45 (v105 : BitVec 32) (v108 : BitVec 32) (k0_t18 : Fin (k0_t18_loop v105 v108).trips) : Fin 1 → Nat :=
  let v280 : BitVec 32 := Scalar.subi v108 v105
  let c1_i32_150 : BitVec 32 := 1#32
  let v282 : BitVec 32 := Scalar.divsi v280 c1_i32_150
  let v283 : BitVec 32 := Scalar.muli v282 c1_i32_150
  let v284 : BitVec 32 := Scalar.addi v105 v283
  let c1_i32_152 : BitVec 32 := 1#32
  let arg23 : BitVec 32 := Scf.iv v284 c1_i32_152 k0_t18
  let v471 : Index := Scalar.indexCast arg23
  ![v471.toNat]
def k0_off46 (i : grid0.Coords) (v105 : BitVec 32) (v108 : BitVec 32) (k0_t18 : Fin (k0_t18_loop v105 v108).trips) : Fin 2 → Nat :=
  let v280 : BitVec 32 := Scalar.subi v108 v105
  let c1_i32_150 : BitVec 32 := 1#32
  let v282 : BitVec 32 := Scalar.divsi v280 c1_i32_150
  let v283 : BitVec 32 := Scalar.muli v282 c1_i32_150
  let v284 : BitVec 32 := Scalar.addi v105 v283
  let c1_i32_152 : BitVec 32 := 1#32
  let arg23 : BitVec 32 := Scf.iv v284 c1_i32_152 k0_t18
  let v477 : Index := Scalar.indexCast arg23
  let arg0 : BitVec 32 := BitVec.ofNat 32 (i 0).val
  let c5_i32_143 : BitVec 32 := 5#32
  let v264 : BitVec 32 := Scalar.muli arg0 c5_i32_143
  let c2_i32 : BitVec 32 := 2#32
  let v265 : BitVec 32 := Scalar.addi v264 c2_i32
  let v478 : Index := Scalar.indexCast v265
  ![v477.toNat, v478.toNat]
@[reducible] def k0_t19_loop (v105 : BitVec 32) (v108 : BitVec 32) : Scf.Loop 32 :=
  let v349 : BitVec 32 := Scalar.subi v108 v105
  let c1_i32_187 : BitVec 32 := 1#32
  let v351 : BitVec 32 := Scalar.divsi v349 c1_i32_187
  let v352 : BitVec 32 := Scalar.muli v351 c1_i32_187
  let v353 : BitVec 32 := Scalar.addi v105 v352
  let c1_i32_188 : BitVec 32 := 1#32
  ⟨v105, v353, c1_i32_188⟩
def k0_off47 (v105 : BitVec 32) (v108 : BitVec 32) (k0_t19 : Fin (k0_t19_loop v105 v108).trips) : Fin 1 → Nat :=
  let c1_i32_188 : BitVec 32 := 1#32
  let arg23 : BitVec 32 := Scf.iv v105 c1_i32_188 k0_t19
  let v471 : Index := Scalar.indexCast arg23
  ![v471.toNat]
def k0_off48 (i : grid0.Coords) (v105 : BitVec 32) (v108 : BitVec 32) (k0_t19 : Fin (k0_t19_loop v105 v108).trips) : Fin 2 → Nat :=
  let c1_i32_188 : BitVec 32 := 1#32
  let arg23 : BitVec 32 := Scf.iv v105 c1_i32_188 k0_t19
  let v477 : Index := Scalar.indexCast arg23
  let arg0 : BitVec 32 := BitVec.ofNat 32 (i 0).val
  let c5_i32_180 : BitVec 32 := 5#32
  let v333 : BitVec 32 := Scalar.muli arg0 c5_i32_180
  let c3_i32 : BitVec 32 := 3#32
  let v334 : BitVec 32 := Scalar.addi v333 c3_i32
  let v478 : Index := Scalar.indexCast v334
  ![v477.toNat, v478.toNat]
@[reducible] def k0_t20_loop (v105 : BitVec 32) (v108 : BitVec 32) : Scf.Loop 32 :=
  let v349 : BitVec 32 := Scalar.subi v108 v105
  let c1_i32_187 : BitVec 32 := 1#32
  let v351 : BitVec 32 := Scalar.divsi v349 c1_i32_187
  let v352 : BitVec 32 := Scalar.muli v351 c1_i32_187
  let v353 : BitVec 32 := Scalar.addi v105 v352
  let v350 : BitVec 32 := Scalar.addi v105 v349
  let c1_i32_189 : BitVec 32 := 1#32
  ⟨v353, v350, c1_i32_189⟩
def k0_off49 (v105 : BitVec 32) (v108 : BitVec 32) (k0_t20 : Fin (k0_t20_loop v105 v108).trips) : Fin 1 → Nat :=
  let v349 : BitVec 32 := Scalar.subi v108 v105
  let c1_i32_187 : BitVec 32 := 1#32
  let v351 : BitVec 32 := Scalar.divsi v349 c1_i32_187
  let v352 : BitVec 32 := Scalar.muli v351 c1_i32_187
  let v353 : BitVec 32 := Scalar.addi v105 v352
  let c1_i32_189 : BitVec 32 := 1#32
  let arg23 : BitVec 32 := Scf.iv v353 c1_i32_189 k0_t20
  let v471 : Index := Scalar.indexCast arg23
  ![v471.toNat]
def k0_off50 (i : grid0.Coords) (v105 : BitVec 32) (v108 : BitVec 32) (k0_t20 : Fin (k0_t20_loop v105 v108).trips) : Fin 2 → Nat :=
  let v349 : BitVec 32 := Scalar.subi v108 v105
  let c1_i32_187 : BitVec 32 := 1#32
  let v351 : BitVec 32 := Scalar.divsi v349 c1_i32_187
  let v352 : BitVec 32 := Scalar.muli v351 c1_i32_187
  let v353 : BitVec 32 := Scalar.addi v105 v352
  let c1_i32_189 : BitVec 32 := 1#32
  let arg23 : BitVec 32 := Scf.iv v353 c1_i32_189 k0_t20
  let v477 : Index := Scalar.indexCast arg23
  let arg0 : BitVec 32 := BitVec.ofNat 32 (i 0).val
  let c5_i32_180 : BitVec 32 := 5#32
  let v333 : BitVec 32 := Scalar.muli arg0 c5_i32_180
  let c3_i32 : BitVec 32 := 3#32
  let v334 : BitVec 32 := Scalar.addi v333 c3_i32
  let v478 : Index := Scalar.indexCast v334
  ![v477.toNat, v478.toNat]
@[reducible] def k0_t21_loop (v105 : BitVec 32) (v108 : BitVec 32) : Scf.Loop 32 :=
  let v418 : BitVec 32 := Scalar.subi v108 v105
  let c1_i32_224 : BitVec 32 := 1#32
  let v420 : BitVec 32 := Scalar.divsi v418 c1_i32_224
  let v421 : BitVec 32 := Scalar.muli v420 c1_i32_224
  let v422 : BitVec 32 := Scalar.addi v105 v421
  let c1_i32_225 : BitVec 32 := 1#32
  ⟨v105, v422, c1_i32_225⟩
def k0_off51 (v105 : BitVec 32) (v108 : BitVec 32) (k0_t21 : Fin (k0_t21_loop v105 v108).trips) : Fin 1 → Nat :=
  let c1_i32_225 : BitVec 32 := 1#32
  let arg23 : BitVec 32 := Scf.iv v105 c1_i32_225 k0_t21
  let v471 : Index := Scalar.indexCast arg23
  ![v471.toNat]
def k0_off52 (i : grid0.Coords) (v105 : BitVec 32) (v108 : BitVec 32) (k0_t21 : Fin (k0_t21_loop v105 v108).trips) : Fin 2 → Nat :=
  let c1_i32_225 : BitVec 32 := 1#32
  let arg23 : BitVec 32 := Scf.iv v105 c1_i32_225 k0_t21
  let v477 : Index := Scalar.indexCast arg23
  let arg0 : BitVec 32 := BitVec.ofNat 32 (i 0).val
  let c5_i32_217 : BitVec 32 := 5#32
  let v402 : BitVec 32 := Scalar.muli arg0 c5_i32_217
  let c4_i32 : BitVec 32 := 4#32
  let v403 : BitVec 32 := Scalar.addi v402 c4_i32
  let v478 : Index := Scalar.indexCast v403
  ![v477.toNat, v478.toNat]
@[reducible] def k0_t22_loop (v105 : BitVec 32) (v108 : BitVec 32) : Scf.Loop 32 :=
  let v418 : BitVec 32 := Scalar.subi v108 v105
  let c1_i32_224 : BitVec 32 := 1#32
  let v420 : BitVec 32 := Scalar.divsi v418 c1_i32_224
  let v421 : BitVec 32 := Scalar.muli v420 c1_i32_224
  let v422 : BitVec 32 := Scalar.addi v105 v421
  let v419 : BitVec 32 := Scalar.addi v105 v418
  let c1_i32_226 : BitVec 32 := 1#32
  ⟨v422, v419, c1_i32_226⟩
def k0_off53 (v105 : BitVec 32) (v108 : BitVec 32) (k0_t22 : Fin (k0_t22_loop v105 v108).trips) : Fin 1 → Nat :=
  let v418 : BitVec 32 := Scalar.subi v108 v105
  let c1_i32_224 : BitVec 32 := 1#32
  let v420 : BitVec 32 := Scalar.divsi v418 c1_i32_224
  let v421 : BitVec 32 := Scalar.muli v420 c1_i32_224
  let v422 : BitVec 32 := Scalar.addi v105 v421
  let c1_i32_226 : BitVec 32 := 1#32
  let arg23 : BitVec 32 := Scf.iv v422 c1_i32_226 k0_t22
  let v471 : Index := Scalar.indexCast arg23
  ![v471.toNat]
def k0_off54 (i : grid0.Coords) (v105 : BitVec 32) (v108 : BitVec 32) (k0_t22 : Fin (k0_t22_loop v105 v108).trips) : Fin 2 → Nat :=
  let v418 : BitVec 32 := Scalar.subi v108 v105
  let c1_i32_224 : BitVec 32 := 1#32
  let v420 : BitVec 32 := Scalar.divsi v418 c1_i32_224
  let v421 : BitVec 32 := Scalar.muli v420 c1_i32_224
  let v422 : BitVec 32 := Scalar.addi v105 v421
  let c1_i32_226 : BitVec 32 := 1#32
  let arg23 : BitVec 32 := Scf.iv v422 c1_i32_226 k0_t22
  let v477 : Index := Scalar.indexCast arg23
  let arg0 : BitVec 32 := BitVec.ofNat 32 (i 0).val
  let c5_i32_217 : BitVec 32 := 5#32
  let v402 : BitVec 32 := Scalar.muli arg0 c5_i32_217
  let c4_i32 : BitVec 32 := 4#32
  let v403 : BitVec 32 := Scalar.addi v402 c4_i32
  let v478 : Index := Scalar.indexCast v403
  ![v477.toNat, v478.toNat]

def k0_chk4 (i : grid0.Coords) (k0_t12 : Fin (k0_t12_loop i).trips) (v105 : BitVec 32) (v108 : BitVec 32) : Prop :=
  ((k0_t13_loop v105 v108).OK) ∧
  (∀ k0_t13 : Fin (k0_t13_loop v105 v108).trips, ∀ a, (k0_off34 v105 v108 k0_t13) a + S1.size a ≤ S32.size a) ∧
  (∀ k0_t13 : Fin (k0_t13_loop v105 v108).trips, ∀ a, (k0_off35 i v105 v108 k0_t13) a + S1x1.size a ≤ S32x40.size a) ∧
  ((k0_t14_loop v105 v108).OK) ∧
  (∀ k0_t14 : Fin (k0_t14_loop v105 v108).trips, ∀ a, (k0_off36 v105 v108 k0_t14) a + S1.size a ≤ S32.size a) ∧
  (∀ k0_t14 : Fin (k0_t14_loop v105 v108).trips, ∀ a, (k0_off37 i v105 v108 k0_t14) a + S1x1.size a ≤ S32x40.size a) ∧
  ((k0_t15_loop v105 v108).OK) ∧
  (∀ k0_t15 : Fin (k0_t15_loop v105 v108).trips, ∀ a, (k0_off39 v105 v108 k0_t15) a + S1.size a ≤ S32.size a) ∧
  (∀ k0_t15 : Fin (k0_t15_loop v105 v108).trips, ∀ a, (k0_off40 i v105 v108 k0_t15) a + S1x1.size a ≤ S32x40.size a) ∧
  ((k0_t16_loop v105 v108).OK) ∧
  (∀ k0_t16 : Fin (k0_t16_loop v105 v108).trips, ∀ a, (k0_off41 v105 v108 k0_t16) a + S1.size a ≤ S32.size a) ∧
  (∀ k0_t16 : Fin (k0_t16_loop v105 v108).trips, ∀ a, (k0_off42 i v105 v108 k0_t16) a + S1x1.size a ≤ S32x40.size a) ∧
  ((k0_t17_loop v105 v108).OK) ∧
  (∀ k0_t17 : Fin (k0_t17_loop v105 v108).trips, ∀ a, (k0_off43 v105 v108 k0_t17) a + S1.size a ≤ S32.size a) ∧
  (∀ k0_t17 : Fin (k0_t17_loop v105 v108).trips, ∀ a, (k0_off44 i v105 v108 k0_t17) a + S1x1.size a ≤ S32x40.size a) ∧
  ((k0_t18_loop v105 v108).OK) ∧
  (∀ k0_t18 : Fin (k0_t18_loop v105 v108).trips, ∀ a, (k0_off45 v105 v108 k0_t18) a + S1.size a ≤ S32.size a) ∧
  (∀ k0_t18 : Fin (k0_t18_loop v105 v108).trips, ∀ a, (k0_off46 i v105 v108 k0_t18) a + S1x1.size a ≤ S32x40.size a) ∧
  ((k0_t19_loop v105 v108).OK) ∧
  (∀ k0_t19 : Fin (k0_t19_loop v105 v108).trips, ∀ a, (k0_off47 v105 v108 k0_t19) a + S1.size a ≤ S32.size a) ∧
  (∀ k0_t19 : Fin (k0_t19_loop v105 v108).trips, ∀ a, (k0_off48 i v105 v108 k0_t19) a + S1x1.size a ≤ S32x40.size a) ∧
  ((k0_t20_loop v105 v108).OK) ∧
  (∀ k0_t20 : Fin (k0_t20_loop v105 v108).trips, ∀ a, (k0_off49 v105 v108 k0_t20) a + S1.size a ≤ S32.size a) ∧
  (∀ k0_t20 : Fin (k0_t20_loop v105 v108).trips, ∀ a, (k0_off50 i v105 v108 k0_t20) a + S1x1.size a ≤ S32x40.size a) ∧
  ((k0_t21_loop v105 v108).OK) ∧
  (∀ k0_t21 : Fin (k0_t21_loop v105 v108).trips, ∀ a, (k0_off51 v105 v108 k0_t21) a + S1.size a ≤ S32.size a) ∧
  (∀ k0_t21 : Fin (k0_t21_loop v105 v108).trips, ∀ a, (k0_off52 i v105 v108 k0_t21) a + S1x1.size a ≤ S32x40.size a) ∧
  ((k0_t22_loop v105 v108).OK) ∧
  (∀ k0_t22 : Fin (k0_t22_loop v105 v108).trips, ∀ a, (k0_off53 v105 v108 k0_t22) a + S1.size a ≤ S32.size a) ∧
  (∀ k0_t22 : Fin (k0_t22_loop v105 v108).trips, ∀ a, (k0_off54 i v105 v108 k0_t22) a + S1x1.size a ≤ S32x40.size a)
theorem k0_t13_ok : ∀ (i : grid0.Coords) (k0_t12 : Fin (k0_t12_loop i).trips) (v105 : BitVec 32) (v108 : BitVec 32) (k0_hw4 : k0_chk4 i k0_t12 v105 v108), (k0_t13_loop v105 v108).OK := fun i k0_t12 v105 v108 k0_hw4 => k0_hw4.1
theorem k0_off34_inb : ∀ (i : grid0.Coords) (k0_t12 : Fin (k0_t12_loop i).trips) (v105 : BitVec 32) (v108 : BitVec 32) (k0_hw4 : k0_chk4 i k0_t12 v105 v108) (k0_t13 : Fin (k0_t13_loop v105 v108).trips), ∀ a, (k0_off34 v105 v108 k0_t13) a + S1.size a ≤ S32.size a := fun i k0_t12 v105 v108 k0_hw4 k0_t13 => k0_hw4.2.1 k0_t13
theorem k0_off35_inb : ∀ (i : grid0.Coords) (k0_t12 : Fin (k0_t12_loop i).trips) (v105 : BitVec 32) (v108 : BitVec 32) (k0_hw4 : k0_chk4 i k0_t12 v105 v108) (k0_t13 : Fin (k0_t13_loop v105 v108).trips), ∀ a, (k0_off35 i v105 v108 k0_t13) a + S1x1.size a ≤ S32x40.size a := fun i k0_t12 v105 v108 k0_hw4 k0_t13 => k0_hw4.2.2.1 k0_t13
theorem k0_t14_ok : ∀ (i : grid0.Coords) (k0_t12 : Fin (k0_t12_loop i).trips) (v105 : BitVec 32) (v108 : BitVec 32) (k0_hw4 : k0_chk4 i k0_t12 v105 v108), (k0_t14_loop v105 v108).OK := fun i k0_t12 v105 v108 k0_hw4 => k0_hw4.2.2.2.1
theorem k0_off36_inb : ∀ (i : grid0.Coords) (k0_t12 : Fin (k0_t12_loop i).trips) (v105 : BitVec 32) (v108 : BitVec 32) (k0_hw4 : k0_chk4 i k0_t12 v105 v108) (k0_t14 : Fin (k0_t14_loop v105 v108).trips), ∀ a, (k0_off36 v105 v108 k0_t14) a + S1.size a ≤ S32.size a := fun i k0_t12 v105 v108 k0_hw4 k0_t14 => k0_hw4.2.2.2.2.1 k0_t14
theorem k0_off37_inb : ∀ (i : grid0.Coords) (k0_t12 : Fin (k0_t12_loop i).trips) (v105 : BitVec 32) (v108 : BitVec 32) (k0_hw4 : k0_chk4 i k0_t12 v105 v108) (k0_t14 : Fin (k0_t14_loop v105 v108).trips), ∀ a, (k0_off37 i v105 v108 k0_t14) a + S1x1.size a ≤ S32x40.size a := fun i k0_t12 v105 v108 k0_hw4 k0_t14 => k0_hw4.2.2.2.2.2.1 k0_t14
theorem k0_t15_ok : ∀ (i : grid0.Coords) (k0_t12 : Fin (k0_t12_loop i).trips) (v105 : BitVec 32) (v108 : BitVec 32) (k0_hw4 : k0_chk4 i k0_t12 v105 v108), (k0_t15_loop v105 v108).OK := fun i k0_t12 v105 v108 k0_hw4 => k0_hw4.2.2.2.2.2.2.1
theorem k0_off39_inb : ∀ (i : grid0.Coords) (k0_t12 : Fin (k0_t12_loop i).trips) (v105 : BitVec 32) (v108 : BitVec 32) (k0_hw4 : k0_chk4 i k0_t12 v105 v108) (k0_t15 : Fin (k0_t15_loop v105 v108).trips), ∀ a, (k0_off39 v105 v108 k0_t15) a + S1.size a ≤ S32.size a := fun i k0_t12 v105 v108 k0_hw4 k0_t15 => k0_hw4.2.2.2.2.2.2.2.1 k0_t15
theorem k0_off40_inb : ∀ (i : grid0.Coords) (k0_t12 : Fin (k0_t12_loop i).trips) (v105 : BitVec 32) (v108 : BitVec 32) (k0_hw4 : k0_chk4 i k0_t12 v105 v108) (k0_t15 : Fin (k0_t15_loop v105 v108).trips), ∀ a, (k0_off40 i v105 v108 k0_t15) a + S1x1.size a ≤ S32x40.size a := fun i k0_t12 v105 v108 k0_hw4 k0_t15 => k0_hw4.2.2.2.2.2.2.2.2.1 k0_t15
theorem k0_t16_ok : ∀ (i : grid0.Coords) (k0_t12 : Fin (k0_t12_loop i).trips) (v105 : BitVec 32) (v108 : BitVec 32) (k0_hw4 : k0_chk4 i k0_t12 v105 v108), (k0_t16_loop v105 v108).OK := fun i k0_t12 v105 v108 k0_hw4 => k0_hw4.2.2.2.2.2.2.2.2.2.1
theorem k0_off41_inb : ∀ (i : grid0.Coords) (k0_t12 : Fin (k0_t12_loop i).trips) (v105 : BitVec 32) (v108 : BitVec 32) (k0_hw4 : k0_chk4 i k0_t12 v105 v108) (k0_t16 : Fin (k0_t16_loop v105 v108).trips), ∀ a, (k0_off41 v105 v108 k0_t16) a + S1.size a ≤ S32.size a := fun i k0_t12 v105 v108 k0_hw4 k0_t16 => k0_hw4.2.2.2.2.2.2.2.2.2.2.1 k0_t16
theorem k0_off42_inb : ∀ (i : grid0.Coords) (k0_t12 : Fin (k0_t12_loop i).trips) (v105 : BitVec 32) (v108 : BitVec 32) (k0_hw4 : k0_chk4 i k0_t12 v105 v108) (k0_t16 : Fin (k0_t16_loop v105 v108).trips), ∀ a, (k0_off42 i v105 v108 k0_t16) a + S1x1.size a ≤ S32x40.size a := fun i k0_t12 v105 v108 k0_hw4 k0_t16 => k0_hw4.2.2.2.2.2.2.2.2.2.2.2.1 k0_t16
theorem k0_t17_ok : ∀ (i : grid0.Coords) (k0_t12 : Fin (k0_t12_loop i).trips) (v105 : BitVec 32) (v108 : BitVec 32) (k0_hw4 : k0_chk4 i k0_t12 v105 v108), (k0_t17_loop v105 v108).OK := fun i k0_t12 v105 v108 k0_hw4 => k0_hw4.2.2.2.2.2.2.2.2.2.2.2.2.1
theorem k0_off43_inb : ∀ (i : grid0.Coords) (k0_t12 : Fin (k0_t12_loop i).trips) (v105 : BitVec 32) (v108 : BitVec 32) (k0_hw4 : k0_chk4 i k0_t12 v105 v108) (k0_t17 : Fin (k0_t17_loop v105 v108).trips), ∀ a, (k0_off43 v105 v108 k0_t17) a + S1.size a ≤ S32.size a := fun i k0_t12 v105 v108 k0_hw4 k0_t17 => k0_hw4.2.2.2.2.2.2.2.2.2.2.2.2.2.1 k0_t17
theorem k0_off44_inb : ∀ (i : grid0.Coords) (k0_t12 : Fin (k0_t12_loop i).trips) (v105 : BitVec 32) (v108 : BitVec 32) (k0_hw4 : k0_chk4 i k0_t12 v105 v108) (k0_t17 : Fin (k0_t17_loop v105 v108).trips), ∀ a, (k0_off44 i v105 v108 k0_t17) a + S1x1.size a ≤ S32x40.size a := fun i k0_t12 v105 v108 k0_hw4 k0_t17 => k0_hw4.2.2.2.2.2.2.2.2.2.2.2.2.2.2.1 k0_t17
theorem k0_t18_ok : ∀ (i : grid0.Coords) (k0_t12 : Fin (k0_t12_loop i).trips) (v105 : BitVec 32) (v108 : BitVec 32) (k0_hw4 : k0_chk4 i k0_t12 v105 v108), (k0_t18_loop v105 v108).OK := fun i k0_t12 v105 v108 k0_hw4 => k0_hw4.2.2.2.2.2.2.2.2.2.2.2.2.2.2.2.1
theorem k0_off45_inb : ∀ (i : grid0.Coords) (k0_t12 : Fin (k0_t12_loop i).trips) (v105 : BitVec 32) (v108 : BitVec 32) (k0_hw4 : k0_chk4 i k0_t12 v105 v108) (k0_t18 : Fin (k0_t18_loop v105 v108).trips), ∀ a, (k0_off45 v105 v108 k0_t18) a + S1.size a ≤ S32.size a := fun i k0_t12 v105 v108 k0_hw4 k0_t18 => k0_hw4.2.2.2.2.2.2.2.2.2.2.2.2.2.2.2.2.1 k0_t18
theorem k0_off46_inb : ∀ (i : grid0.Coords) (k0_t12 : Fin (k0_t12_loop i).trips) (v105 : BitVec 32) (v108 : BitVec 32) (k0_hw4 : k0_chk4 i k0_t12 v105 v108) (k0_t18 : Fin (k0_t18_loop v105 v108).trips), ∀ a, (k0_off46 i v105 v108 k0_t18) a + S1x1.size a ≤ S32x40.size a := fun i k0_t12 v105 v108 k0_hw4 k0_t18 => k0_hw4.2.2.2.2.2.2.2.2.2.2.2.2.2.2.2.2.2.1 k0_t18
theorem k0_t19_ok : ∀ (i : grid0.Coords) (k0_t12 : Fin (k0_t12_loop i).trips) (v105 : BitVec 32) (v108 : BitVec 32) (k0_hw4 : k0_chk4 i k0_t12 v105 v108), (k0_t19_loop v105 v108).OK := fun i k0_t12 v105 v108 k0_hw4 => k0_hw4.2.2.2.2.2.2.2.2.2.2.2.2.2.2.2.2.2.2.1
theorem k0_off47_inb : ∀ (i : grid0.Coords) (k0_t12 : Fin (k0_t12_loop i).trips) (v105 : BitVec 32) (v108 : BitVec 32) (k0_hw4 : k0_chk4 i k0_t12 v105 v108) (k0_t19 : Fin (k0_t19_loop v105 v108).trips), ∀ a, (k0_off47 v105 v108 k0_t19) a + S1.size a ≤ S32.size a := fun i k0_t12 v105 v108 k0_hw4 k0_t19 => k0_hw4.2.2.2.2.2.2.2.2.2.2.2.2.2.2.2.2.2.2.2.1 k0_t19
theorem k0_off48_inb : ∀ (i : grid0.Coords) (k0_t12 : Fin (k0_t12_loop i).trips) (v105 : BitVec 32) (v108 : BitVec 32) (k0_hw4 : k0_chk4 i k0_t12 v105 v108) (k0_t19 : Fin (k0_t19_loop v105 v108).trips), ∀ a, (k0_off48 i v105 v108 k0_t19) a + S1x1.size a ≤ S32x40.size a := fun i k0_t12 v105 v108 k0_hw4 k0_t19 => k0_hw4.2.2.2.2.2.2.2.2.2.2.2.2.2.2.2.2.2.2.2.2.1 k0_t19
theorem k0_t20_ok : ∀ (i : grid0.Coords) (k0_t12 : Fin (k0_t12_loop i).trips) (v105 : BitVec 32) (v108 : BitVec 32) (k0_hw4 : k0_chk4 i k0_t12 v105 v108), (k0_t20_loop v105 v108).OK := fun i k0_t12 v105 v108 k0_hw4 => k0_hw4.2.2.2.2.2.2.2.2.2.2.2.2.2.2.2.2.2.2.2.2.2.1
theorem k0_off49_inb : ∀ (i : grid0.Coords) (k0_t12 : Fin (k0_t12_loop i).trips) (v105 : BitVec 32) (v108 : BitVec 32) (k0_hw4 : k0_chk4 i k0_t12 v105 v108) (k0_t20 : Fin (k0_t20_loop v105 v108).trips), ∀ a, (k0_off49 v105 v108 k0_t20) a + S1.size a ≤ S32.size a := fun i k0_t12 v105 v108 k0_hw4 k0_t20 => k0_hw4.2.2.2.2.2.2.2.2.2.2.2.2.2.2.2.2.2.2.2.2.2.2.1 k0_t20
theorem k0_off50_inb : ∀ (i : grid0.Coords) (k0_t12 : Fin (k0_t12_loop i).trips) (v105 : BitVec 32) (v108 : BitVec 32) (k0_hw4 : k0_chk4 i k0_t12 v105 v108) (k0_t20 : Fin (k0_t20_loop v105 v108).trips), ∀ a, (k0_off50 i v105 v108 k0_t20) a + S1x1.size a ≤ S32x40.size a := fun i k0_t12 v105 v108 k0_hw4 k0_t20 => k0_hw4.2.2.2.2.2.2.2.2.2.2.2.2.2.2.2.2.2.2.2.2.2.2.2.1 k0_t20
theorem k0_t21_ok : ∀ (i : grid0.Coords) (k0_t12 : Fin (k0_t12_loop i).trips) (v105 : BitVec 32) (v108 : BitVec 32) (k0_hw4 : k0_chk4 i k0_t12 v105 v108), (k0_t21_loop v105 v108).OK := fun i k0_t12 v105 v108 k0_hw4 => k0_hw4.2.2.2.2.2.2.2.2.2.2.2.2.2.2.2.2.2.2.2.2.2.2.2.2.1
theorem k0_off51_inb : ∀ (i : grid0.Coords) (k0_t12 : Fin (k0_t12_loop i).trips) (v105 : BitVec 32) (v108 : BitVec 32) (k0_hw4 : k0_chk4 i k0_t12 v105 v108) (k0_t21 : Fin (k0_t21_loop v105 v108).trips), ∀ a, (k0_off51 v105 v108 k0_t21) a + S1.size a ≤ S32.size a := fun i k0_t12 v105 v108 k0_hw4 k0_t21 => k0_hw4.2.2.2.2.2.2.2.2.2.2.2.2.2.2.2.2.2.2.2.2.2.2.2.2.2.1 k0_t21
theorem k0_off52_inb : ∀ (i : grid0.Coords) (k0_t12 : Fin (k0_t12_loop i).trips) (v105 : BitVec 32) (v108 : BitVec 32) (k0_hw4 : k0_chk4 i k0_t12 v105 v108) (k0_t21 : Fin (k0_t21_loop v105 v108).trips), ∀ a, (k0_off52 i v105 v108 k0_t21) a + S1x1.size a ≤ S32x40.size a := fun i k0_t12 v105 v108 k0_hw4 k0_t21 => k0_hw4.2.2.2.2.2.2.2.2.2.2.2.2.2.2.2.2.2.2.2.2.2.2.2.2.2.2.1 k0_t21
theorem k0_t22_ok : ∀ (i : grid0.Coords) (k0_t12 : Fin (k0_t12_loop i).trips) (v105 : BitVec 32) (v108 : BitVec 32) (k0_hw4 : k0_chk4 i k0_t12 v105 v108), (k0_t22_loop v105 v108).OK := fun i k0_t12 v105 v108 k0_hw4 => k0_hw4.2.2.2.2.2.2.2.2.2.2.2.2.2.2.2.2.2.2.2.2.2.2.2.2.2.2.2.1
theorem k0_off53_inb : ∀ (i : grid0.Coords) (k0_t12 : Fin (k0_t12_loop i).trips) (v105 : BitVec 32) (v108 : BitVec 32) (k0_hw4 : k0_chk4 i k0_t12 v105 v108) (k0_t22 : Fin (k0_t22_loop v105 v108).trips), ∀ a, (k0_off53 v105 v108 k0_t22) a + S1.size a ≤ S32.size a := fun i k0_t12 v105 v108 k0_hw4 k0_t22 => k0_hw4.2.2.2.2.2.2.2.2.2.2.2.2.2.2.2.2.2.2.2.2.2.2.2.2.2.2.2.2.1 k0_t22
theorem k0_off54_inb : ∀ (i : grid0.Coords) (k0_t12 : Fin (k0_t12_loop i).trips) (v105 : BitVec 32) (v108 : BitVec 32) (k0_hw4 : k0_chk4 i k0_t12 v105 v108) (k0_t22 : Fin (k0_t22_loop v105 v108).trips), ∀ a, (k0_off54 i v105 v108 k0_t22) a + S1x1.size a ≤ S32x40.size a := fun i k0_t12 v105 v108 k0_hw4 k0_t22 => k0_hw4.2.2.2.2.2.2.2.2.2.2.2.2.2.2.2.2.2.2.2.2.2.2.2.2.2.2.2.2.2 k0_t22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S64x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S64x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S33x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S33x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S32x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S5x256x96 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16384x96 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x96x16384 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x16384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x16384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S5x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256x480 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "log2e" => some (((Real.log 2)⁻¹ : ℝ) : EReal)
  | "score_log2e" => some (((Real.sqrt 96)⁻¹ * (Real.log 2)⁻¹ : ℝ) : EReal)
  | _ => none
-- ==== ReferenceIdeal.lean ====
variable {F : FTy → Type} [FloatOps F] [Named F]
def κ : String → Option EReal := fun
  | "score" => some (((Real.sqrt 96)⁻¹ : ℝ) : EReal)
  | _ => none
-- ==== Reference.lean ====
abbrev S1x16384x40x96 : Shape := ⟨4, ![1, 16384, 40, 96]⟩
abbrev S1x16384x40 : Shape := ⟨3, ![1, 16384, 40]⟩
abbrev S1x16384x8x96 : Shape := ⟨4, ![1, 16384, 8, 96]⟩
abbrev S1x16384x8 : Shape := ⟨3, ![1, 16384, 8]⟩
abbrev S_ : Shape := ⟨0, ![]⟩
abbrev S32 : Shape := ⟨1, ![32]⟩
abbrev S32x40 : Shape := ⟨2, ![32, 40]⟩
abbrev S1x1 : Shape := ⟨2, ![1, 1]⟩
abbrev S32x1 : Shape := ⟨2, ![32, 1]⟩
abbrev S8x16384x480 : Shape := ⟨3, ![8, 16384, 480]⟩
abbrev S16384x40x96 : Shape := ⟨3, ![16384, 40, 96]⟩
abbrev S40x16384x96 : Shape := ⟨3, ![40, 16384, 96]⟩
abbrev S16384x8x96 : Shape := ⟨3, ![16384, 8, 96]⟩
abbrev S8x16384x96 : Shape := ⟨3, ![8, 16384, 96]⟩
abbrev S8x1x16384x96 : Shape := ⟨4, ![8, 1, 16384, 96]⟩
abbrev S8x5x16384x96 : Shape := ⟨4, ![8, 5, 16384, 96]⟩
abbrev S40x16384x16384 : Shape := ⟨3, ![40, 16384, 16384]⟩
abbrev S16384x40 : Shape := ⟨2, ![16384, 40]⟩
abbrev S40x16384 : Shape := ⟨2, ![40, 16384]⟩
abbrev S16384x8 : Shape := ⟨2, ![16384, 8]⟩
abbrev S8x16384 : Shape := ⟨2, ![8, 16384]⟩
abbrev S8x1x16384 : Shape := ⟨3, ![8, 1, 16384]⟩
abbrev S8x5x16384 : Shape := ⟨3, ![8, 5, 16384]⟩
abbrev S16384x16384 : Shape := ⟨2, ![16384, 16384]⟩
abbrev S1x16384x16384 : Shape := ⟨3, ![1, 16384, 16384]⟩
abbrev S32x1x1 : Shape := ⟨3, ![32, 1, 1]⟩
abbrev S32x16384x16384 : Shape := ⟨3, ![32, 16384, 16384]⟩
abbrev S32x1x16384x16384 : Shape := ⟨4, ![32, 1, 16384, 16384]⟩
abbrev S32x40x1x1 : Shape := ⟨4, ![32, 40, 1, 1]⟩
abbrev S32x40x16384x16384 : Shape := ⟨4, ![32, 40, 16384, 16384]⟩
abbrev S40x16384x1 : Shape := ⟨3, ![40, 16384, 1]⟩
abbrev S40x1x16384 : Shape := ⟨3, ![40, 1, 16384]⟩
abbrev S8x16384x5x96 : Shape := ⟨4, ![8, 16384, 5, 96]⟩

abbrev nBuf : Space → Nat
  | .hbm => 16
  | .vmem => 12
  | .smem => 0
  | _ => 0

abbrev bufTy : (tb : Table) → Fin (tcTables nBuf tb) → BufTy
  | .hbm, ⟨0, _⟩ => ⟨S1x16384x40x96, .fp8e4m3⟩
  | .hbm, ⟨1, _⟩ => ⟨S1x16384x40, .f32⟩
  | .hbm, ⟨2, _⟩ => ⟨S1x16384x8x96, .fp8e4m3⟩
  | .hbm, ⟨3, _⟩ => ⟨S1x16384x8, .f32⟩
  | .hbm, ⟨4, _⟩ => ⟨S1x16384x8x96, .fp8e4m3⟩
  | .hbm, ⟨5, _⟩ => ⟨S1x16384x8, .f32⟩
  | .hbm, ⟨6, _⟩ => ⟨S_, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32x40, .f32⟩
  | .hbm, ⟨11, _⟩ => ⟨S1x1, .f32⟩
  | .hbm, ⟨12, _⟩ => ⟨S1x1, .f32⟩
  | .hbm, ⟨13, _⟩ => ⟨S32x1, .f32⟩
  | .hbm, ⟨14, _⟩ => ⟨S32x1, .f32⟩
  | .hbm, ⟨15, _⟩ => ⟨S8x16384x480, .bf16⟩
  | .local _ .vmem, ⟨0, _⟩ => ⟨S1x16384x40x96, .fp8e4m3⟩
  | .local _ .vmem, ⟨1, _⟩ => ⟨S1x16384x40, .f32⟩
  | .local _ .vmem, ⟨2, _⟩ => ⟨S1x16384x8x96, .fp8e4m3⟩
  | .local _ .vmem, ⟨3, _⟩ => ⟨S1x16384x8, .f32⟩
  | .local _ .vmem, ⟨4, _⟩ => ⟨S1x16384x8x96, .fp8e4m3⟩
  | .local _ .vmem, ⟨5, _⟩ => ⟨S1x16384x8, .f32⟩
  | .local _ .vmem, ⟨6, _⟩ => ⟨S1x1, .f32⟩
  | .local _ .vmem, ⟨7, _⟩ => ⟨S1x1, .f32⟩
  | .local _ .vmem, ⟨8, _⟩ => ⟨S32x1, .f32⟩
  | .local _ .vmem, ⟨9, _⟩ => ⟨S32x1, .f32⟩
  | .local _ .vmem, ⟨10, _⟩ => ⟨S32x40, .f32⟩
  | .local _ .vmem, ⟨11, _⟩ => ⟨S8x16384x480, .bf16⟩
  | _, _ => ⟨S1x16384x40x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x16384x40x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16384x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384x8x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384x8x96 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16384x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x40 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x16384x480 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Kernel.Chk.lean ====
module

public import proofs.«01_k».proof.Proof.Gen.Kernel.Loops
public import Idealize.ShloMosaic.Lib.LoopRemainder
public import Idealize.ShloMosaic.Lib.Tactic

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! The side conditions of one trip of the loop over key tiles: the table rows it reads are in range when the two segment
    words of the tile are at most 32. -/

theorem toInt_le (w : BitVec 32) (h : w.toNat ≤ 32) : w.toInt = w.toNat := by
  rw [BitVec.toInt_eq_toNat_cond, if_pos (by omega)]

theorem main_ub (a b : BitVec 32) :
    Scalar.addi a (Scalar.muli (Scalar.divsi (Scalar.subi b a) 1#32) 1#32) = b := by
  rw [Scalar.muli_divsi_one]
  show a + (b - a) = b
  bv_omega

theorem trips_word (a b : BitVec 32) (ha : a.toNat ≤ 32) (hb : b.toNat ≤ 32) :
    Scf.trips a b 1#32 = b.toNat - a.toNat := by
  have h1 : (1#32 : BitVec 32).toInt = 1 := by decide
  unfold Scf.trips
  rw [h1, toInt_le a ha, toInt_le b hb]
  omega

theorem ok_word (a b : BitVec 32) (ha : a.toNat ≤ 32) (hb : b.toNat ≤ 32) : Scf.OK a b 1#32 := by
  have h1 : (1#32 : BitVec 32).toInt = 1 := by decide
  unfold Scf.OK
  rw [trips_word a b ha hb, h1, toInt_le a ha]
  constructor <;> omega

theorem iv_word (a : BitVec 32) (k : ℕ) (h : a.toNat + k < 64) : (Scf.iv a 1#32 k).toNat = a.toNat + k := by
  unfold Scf.iv
  rw [BitVec.mul_one, BitVec.toNat_add, BitVec.toNat_ofNat]
  omega

theorem iv_lt (a b : BitVec 32) (ha : a.toNat ≤ 32) (hb : b.toNat ≤ 32) (k : ℕ) (hk : k < Scf.trips a b 1#32) :
    (Scf.iv a 1#32 k).toNat = a.toNat + k ∧ a.toNat + k < 32 := by
  rw [trips_word a b ha hb] at hk
  exact ⟨iv_word a k (by omega), by omega⟩

theorem index_word (w : BitVec 32) (h : w.toNat ≤ 64) : (Scalar.indexCast w).toNat = w.toNat := by
  simp only [Scalar.indexCast]

theorem head_word (i : grid0.Coords) (c : ℕ) (hc : c < 5) :
    (Scalar.addi (Scalar.muli (BitVec.ofNat 32 (i 0).val) 5#32) (BitVec.ofNat 32 c)).toNat = (i 0).val * 5 + c := by
  have h0 : (i 0).val < 8 := (i 0).isLt
  show (BitVec.ofNat 32 (i 0).val * 5#32 + BitVec.ofNat 32 c).toNat = _
  simp only [BitVec.toNat_add, BitVec.toNat_mul, BitVec.toNat_ofNat]
  omega

theorem chk1_of (i : grid0.Coords) (w : BitVec 32) (h : w.toNat ≤ 32) : k0_chk1 i w := by
  have h0 : (i 0).val < 8 := (i 0).isLt
  have hw := index_word w (by omega)
  refine ⟨fun a => ?_, fun r a => ?_⟩
  · have hh := head_word i 0 (by omega)
    have hi := index_word _ (show (Scalar.addi (Scalar.muli (BitVec.ofNat 32 (i 0).val) 5#32) (BitVec.ofNat 32 0)).toNat ≤ 64 by rw [hh]; omega)
    match a with
    | ⟨0, _⟩ => show (Scalar.indexCast w).toNat + 1 ≤ 33; omega
    | ⟨1, _⟩ => show (Scalar.indexCast (Scalar.addi (Scalar.muli (BitVec.ofNat 32 (i 0).val) 5#32) (BitVec.ofNat 32 0))).toNat + 1 ≤ 40; omega
  · have hr : r.val < 4 := r.isLt
    have hh := head_word i (1 + r.val) (by omega)
    have hi := index_word _ (show (Scalar.addi (Scalar.muli (BitVec.ofNat 32 (i 0).val) 5#32) (BitVec.ofNat 32 (1 + r.val))).toNat ≤ 64 by rw [hh]; omega)
    match a with
    | ⟨0, _⟩ => show (Scalar.indexCast w).toNat + 1 ≤ 33; omega
    | ⟨1, _⟩ => show (Scalar.indexCast (Scalar.addi (Scalar.muli (BitVec.ofNat 32 (i 0).val) 5#32) (BitVec.ofNat 32 (1 + r.val)))).toNat + 1 ≤ 40; omega

theorem off1_inb (a b : BitVec 32) (ha : a.toNat ≤ 32) (hb : b.toNat ≤ 32) (k : ℕ) (hk : k < Scf.trips a b 1#32) (x : Fin 1) :
    (![(Scalar.indexCast (Scf.iv a 1#32 k)).toNat] : Fin 1 → ℕ) x + S1.size x ≤ S32.size x := by
  obtain ⟨h1, h2⟩ := iv_lt a b ha hb k hk
  have h3 := index_word (Scf.iv a 1#32 k) (by omega)
  match x with
  | ⟨0, _⟩ => show (Scalar.indexCast (Scf.iv a 1#32 k)).toNat + 1 ≤ 32; omega

theorem off2_inb (i : grid0.Coords) (c : ℕ) (hc : c < 5) (a b : BitVec 32) (ha : a.toNat ≤ 32) (hb : b.toNat ≤ 32) (k : ℕ)
    (hk : k < Scf.trips a b 1#32) (x : Fin 2) :
    (![(Scalar.indexCast (Scf.iv a 1#32 k)).toNat,
       (Scalar.indexCast (Scalar.addi (Scalar.muli (BitVec.ofNat 32 (i 0).val) 5#32) (BitVec.ofNat 32 c))).toNat] : Fin 2 → ℕ) x + S1x1.size x ≤ S32x40.size x := by
  have h0 : (i 0).val < 8 := (i 0).isLt
  obtain ⟨h1, h2⟩ := iv_lt a b ha hb k hk
  have h3 := index_word (Scf.iv a 1#32 k) (by omega)
  have hh := head_word i c hc
  have hi := index_word _ (show (Scalar.addi (Scalar.muli (BitVec.ofNat 32 (i 0).val) 5#32) (BitVec.ofNat 32 c)).toNat ≤ 64 by rw [hh]; omega)
  match x with
  | ⟨0, _⟩ => show (Scalar.indexCast (Scf.iv a 1#32 k)).toNat + 1 ≤ 32; omega
  | ⟨1, _⟩ => show (Scalar.indexCast (Scalar.addi (Scalar.muli (BitVec.ofNat 32 (i 0).val) 5#32) (BitVec.ofNat 32 c))).toNat + 1 ≤ 40; omega

theorem main_ok (a b : BitVec 32) (ha : a.toNat ≤ 32) (hb : b.toNat ≤ 32) :
    Scf.OK a (Scalar.addi a (Scalar.muli (Scalar.divsi (Scalar.subi b a) 1#32) 1#32)) 1#32 := by
  rw [main_ub]; exact ok_word a b ha hb

theorem main_trip (a b : BitVec 32) (k : Fin (Scf.trips a (Scalar.addi a (Scalar.muli (Scalar.divsi (Scalar.subi b a) 1#32) 1#32)) 1#32)) :
    k.val < Scf.trips a b 1#32 := by
  exact lt_of_lt_of_eq k.isLt (by rw [main_ub])

theorem chk2_of (i : grid0.Coords) (a b : BitVec 32) (ha : a.toNat ≤ 32) (hb : b.toNat ≤ 32) : k0_chk2 i a b :=
  ⟨main_ok a b ha hb, fun k x => off1_inb a b ha hb k (main_trip a b k) x, fun k x => off2_inb i 0 (by decide) a b ha hb k (main_trip a b k) x,
   Scf.rem_ok a _, fun k => (Scf.rem_no_trip a _ k).elim, fun k => (Scf.rem_no_trip a _ k).elim,
   main_ok a b ha hb, fun k x => off1_inb a b ha hb k (main_trip a b k) x, fun k x => off2_inb i 1 (by decide) a b ha hb k (main_trip a b k) x,
   Scf.rem_ok a _, fun k => (Scf.rem_no_trip a _ k).elim, fun k => (Scf.rem_no_trip a _ k).elim,
   main_ok a b ha hb, fun k x => off1_inb a b ha hb k (main_trip a b k) x, fun k x => off2_inb i 2 (by decide) a b ha hb k (main_trip a b k) x,
   Scf.rem_ok a _, fun k => (Scf.rem_no_trip a _ k).elim, fun k => (Scf.rem_no_trip a _ k).elim,
   main_ok a b ha hb, fun k x => off1_inb a b ha hb k (main_trip a b k) x, fun k x => off2_inb i 3 (by decide) a b ha hb k (main_trip a b k) x,
   Scf.rem_ok a _, fun k => (Scf.rem_no_trip a _ k).elim, fun k => (Scf.rem_no_trip a _ k).elim,
   main_ok a b ha hb, fun k x => off1_inb a b ha hb k (main_trip a b k) x, fun k x => off2_inb i 4 (by decide) a b ha hb k (main_trip a b k) x,
   Scf.rem_ok a _, fun k => (Scf.rem_no_trip a _ k).elim, fun k => (Scf.rem_no_trip a _ k).elim⟩

/-- Every word a load reads is one of the words the array holds. -/
theorem word_le {sp : Space} {s : Shape} (arg : Memref sig .tc sp s .i32) (x : BufTy.Contents (Elt F) arg.view.ty)
    (h : ∀ j, BitVec.toNat (arg.view.read (Elt F) x j) ≤ 32) (r : LoadRect s) (j : r.shape.Idx) :
    BitVec.toNat (View.readAt (Elt F) arg.view r x j) ≤ 32 := by
  rw [View.readAt_apply]; exact h _

end Cert.Proof.Kernel

end
-- ==== Proof.Kernel.Trip.lean ====
module

public import proofs.«01_k».proof.Proof.Gen.Kernel.Loops
public import Idealize.ShloMosaic.Lib.LoopRemainder
public import Idealize.ShloMosaic.Lib.Tactic
public import proofs.«01_k».proof.Proof.Kernel.Chk
@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of the loop over key tiles touches: the twelve operands it reads, at the contents `x`, and the four
    scratch buffers (running maximum, running sum, accumulator, the tile's distances), at the contents `f`. -/
abbrev TripR (c : Dev nD) (arg2 : Memref sig .tc .smem S64x64 .i32) (arg3 : Memref sig .tc .smem S64x64 .i32) (arg4 : Memref sig .tc .smem S32 .f32) (arg5 : Memref sig .tc .smem S33x40 .f32) (arg6 : Memref sig .tc .smem S33x40 .f32) (arg7 : Memref sig .tc .smem S32x40 .f32) (arg9 : Memref sig .tc .vmem S5x256x96 .fp8e4m3) (arg10 : Memref sig .tc .vmem S1x16384x96 .fp8e4m3) (arg11 : Memref sig .tc .vmem S1x96x16384 .fp8e4m3) (arg12 : Memref sig .tc .vmem S1x1x16384 .f32) (arg13 : Memref sig .tc .vmem S1x16384x128 .f32) (arg14 : Memref sig .tc .vmem S5x1x256 .f32) (arg17 : Memref sig .tc .vmem S5x1x256 .f32) (arg18 : Memref sig .tc .vmem S5x1x256 .f32) (arg19 : Memref sig .tc .vmem S5x96x256 .f32) (arg20 : Memref sig .tc .vmem S256x256 .f32) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (f17 : BufTy.Contents (Elt F) arg17.view.ty) (f18 : BufTy.Contents (Elt F) arg18.view.ty) (f19 : BufTy.Contents (Elt F) arg19.view.ty) (f20 : BufTy.Contents (Elt F) arg20.view.ty) : sProp 𝕄G :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} x13) ∗ (arg14.view.loc (c : Thread nD τ) ↦[arg14.view.set]{fullShare} x14) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20))

set_option maxHeartbeats 0 in
/-- One trip of the loop over key tiles: the operands come back as they were, the scratch buffers at some contents. The
    segment words are at most 32. -/
theorem trip (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt F .f32) (v14 : Vec F S1x256 .f32) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (hw2 : ∀ j, BitVec.toNat (arg2.view.read (Elt F) x2 j) ≤ 32) (hw3 : ∀ j, BitVec.toNat (arg3.view.read (Elt F) x3 j) ≤ 32) (k : Fin (k0_t1_loop i).trips) (E : Set ℕ) (acc : BitVec 32) (f17 : BufTy.Contents (Elt F) arg17.view.ty) (f18 : BufTy.Contents (Elt F) arg18.view.ty) (f19 : BufTy.Contents (Elt F) arg19.view.ty) (f20 : BufTy.Contents (Elt F) arg20.view.ty) :
      TripR (F := F) c arg2 arg3 arg4 arg5 arg6 arg7 arg9 arg10 arg11 arg12 arg13 arg14 arg17 arg18 arg19 arg20 x2 x3 x4 x5 x6 x7 x9 x10 x11 x12 x13 x14 f17 f18 f19 f20
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 k acc)
          (fun yld => iprop(∃ g17 g18 g19 g20, TripR (F := F) c arg2 arg3 arg4 arg5 arg6 arg7 arg9 arg10 arg11 arg12 arg13 arg14 arg17 arg18 arg19 arg20 x2 x3 x4 x5 x6 x7 x9 x10 x11 x12 x13 x14 g17 g18 g19 g20)) := by
    unfold k0_t1_body
    iintro ⟨H2, H3, H4, H5, H6, H7, H9, H10, H11, H12, H13, H14, H17, H18, H19, H20⟩
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    sl_exec (disch := first | exact chk1_of i _ (word_le arg2 x2 hw2 _ _) | exact chk2_of i _ _ (word_le arg2 x2 hw2 _ _) (word_le arg3 x3 hw3 _ _))
    sl_step
    iexists _, _, _, _
    sl_close

end Cert.Proof.Kernel

end
-- ==== Proof.Kernel.Loop.lean ====
module

public import proofs.«01_k».proof.Proof.Gen.Kernel.Loops
public import Idealize.ShloMosaic.Lib.LoopRemainder
public import Idealize.ShloMosaic.Lib.Tactic
public import proofs.«01_k».proof.Proof.Kernel.Trip
@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option maxHeartbeats 0 in
/-- The loop over key tiles: before every trip the four scratch buffers hold something. -/
@[instance_reducible] def loopInv (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt F .f32) (v14 : Vec F S1x256 .f32) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (hw2 : ∀ j, BitVec.toNat (arg2.view.read (Elt F) x2 j) ≤ 32) (hw3 : ∀ j, BitVec.toNat (arg3.view.read (Elt F) x3 j) ≤ 32) (init : BitVec 32) : LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 init where
  inv k acc := iprop(∃ g17 g18 g19 g20, TripR (F := F) c arg2 arg3 arg4 arg5 arg6 arg7 arg9 arg10 arg11 arg12 arg13 arg14 arg17 arg18 arg19 arg20 x2 x3 x4 x5 x6 x7 x9 x10 x11 x12 x13 x14 g17 g18 g19 g20)
  step k acc := by
    iintro ⟨%g17, %g18, %g19, %g20, H⟩
    iapply (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 x2 x3 x4 x5 x6 x7 x9 x10 x11 x12 x13 x14 hw2 hw3 k Set.univ acc g17 g18 g19 g20)
    iexact H

end Cert.Proof.Kernel

end
-- ==== Proof.Kernel.Counts.lean ====
module

public import proofs.«01_k».proof.Proof.Gen.Kernel.Frame
public import Idealize.ShloMosaic.Lib.StableHlo.RunRead
public import Idealize.ShloMosaic.Lib.IndicatorCount
@[expose] public section

/-! The segment bounds that the host computes are counts of thresholds, so each of them is at most 32. -/

set_option maxRecDepth 16384
noncomputable section

namespace Cert.Proof.Kernel

open Cert.Kernel Cert.Kernel.Gen
open Idealize.ShloMosaic Idealize.ShloMosaic.TcCoe Idealize.ShloMosaic.Tactic

variable {F : FTy → Type} [FloatOps F]
variable (m : (ℓ : Loc nD τ sig) → Buf (Elt F) ℓ)

/-- The counts are over the last axis. -/
theorem red : S64x64x32.Reduces [2] S64x64 := by decide

/-- Adding up the bits of a row of 32 counts the ones in it. -/
theorem count_eq (X : IVec S64x64x32 1) (j : S64x64.Idx) :
    Host.reduce IntOp.addi (extui 32 X natLt_1_32) (constantI S_ 32 0#32) reducesTo_S64x64x32_S64x64_d2 h_S_ j
      = BitVec.ofNat 32 (Finset.univ.filter fun k : Fin 32 => X (red.lift j k) = 1#1).card := by
  refine (Host.reduce_eq_fold_single IntOp.addi _ _ reducesTo_S64x64x32_S64x64_d2 red h_S_ j).trans ?_
  exact IndicatorCount.fold_addi_setWidth_eq_card (fun k => X (red.lift j k)) Finset.univ

theorem count_le (X : IVec S64x64x32 1) (j : S64x64.Idx) :
    (Host.reduce IntOp.addi (extui 32 X natLt_1_32) (constantI S_ 32 0#32) reducesTo_S64x64x32_S64x64_d2 h_S_ j).toNat ≤ 32 := by
  rw [count_eq, BitVec.toNat_ofNat]
  refine (Nat.mod_le _ _).trans ((Finset.card_filter_le _ _).trans ?_)
  simp

/-- The lower bounds: how many thresholds lie below the tile's smallest distance. -/
theorem V_lo (c : Dev nD) : V m c main_v138 = Host.reduce IntOp.addi (extui 32 (V m c main_v136) natLt_1_32) (constantI S_ 32 0#32) reducesTo_S64x64x32_S64x64_d2 h_S_ := by
  unfold V
  after_reads_simp

/-- The upper bounds: how many thresholds do not exceed the tile's largest distance. -/
theorem V_hi (c : Dev nD) : V m c main_v145 = Host.reduce IntOp.addi (extui 32 (V m c main_v143) natLt_1_32) (constantI S_ 32 0#32) reducesTo_S64x64x32_S64x64_d2 h_S_ := by
  unfold V
  after_reads_simp

theorem lo_le (c : Dev nD) (j : S64x64.Idx) : BitVec.toNat (w := 32) (V m c main_v138 j) ≤ 32 := by
  rw [V_lo]; exact count_le _ j

theorem hi_le (c : Dev nD) (j : S64x64.Idx) : BitVec.toNat (w := 32) (V m c main_v145 j) ≤ 32 := by
  rw [V_hi]; exact count_le _ j

/-- The block of lower bounds that every grid point is handed is the whole array. -/
theorem iblk0_le (c : Dev nD) (t : Fin cfg0.N) (j) : BitVec.toNat (w := 32) (iblk m c 0 t j) ≤ 32 := by
  unfold iblk; rw [View.read_apply]; exact lo_le m c _

theorem iblk1_le (c : Dev nD) (t : Fin cfg0.N) (j) : BitVec.toNat (w := 32) (iblk m c 1 t j) ≤ 32 := by
  unfold iblk; rw [View.read_apply]; exact hi_le m c _

end Cert.Proof.Kernel

end
-- ==== Proof.Kernel.Body.lean ====
module

public import proofs.«01_k».proof.Proof.Gen.Kernel.Loops
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import proofs.«01_k».proof.Proof.Kernel.Loop
public import proofs.«01_k».proof.Proof.Kernel.Counts
@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option maxHeartbeats 0 in
/-- The body's triple: from the input windows at their blocks and the output window and the scratch at anything, the kernel
    runs to its return, the inputs as they were, the output and the scratch at something. -/
theorem sound_kernel (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec F S64x64 .i32) (X3 : Vec F S64x64 .i32) (X4 : Vec F S32 .f32) (X5 : Vec F S33x40 .f32) (X6 : Vec F S33x40 .f32) (X7 : Vec F S32x40 .f32) (X8 : Vec F S1 .f32) (X9 : Vec F S5x256x96 .fp8e4m3) (X10 : Vec F S1x16384x96 .fp8e4m3) (X11 : Vec F S1x96x16384 .fp8e4m3) (X12 : Vec F S1x1x16384 .f32) (X13 : Vec F S1x16384x128 .f32) (X14 : Vec F S5x1x256 .f32) (X15 : Vec F S1x256 .f32)
    (hX2 : ∀ j, BitVec.toNat (w := 32) (X2 j) ≤ 32) (hX3 : ∀ j, BitVec.toNat (w := 32) (X3 j) ≤ 32) (K : PUnit → sProp 𝕄G) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none (c : Thread nD τ) none) Set.univ (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_attention_eq_skeleton]; unfold cc0_attention_skel
  simp only [k0_part21_eq_skeleton, k0_part22_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
  subst hf2 hf3 hf4 hf5 hf6 hf7 hf8 hf9 hf10 hf11 hf12 hf13 hf14 hf15
  have htr : (k0_t12_loop i).trips = 0 := Nat.le_zero.1 (k0_t12_abs i).2.1
  sl_exec
  sl_for (fun (k : ℕ) (_ : BitVec 32) => iprop(∃ g17 g18 g19 g20, TripR (F := F) c arg2 arg3 arg4 arg5 arg6 arg7 arg9 arg10 arg11 arg12 arg13 arg14 arg17 arg18 arg19 arg20 f2 f3 f4 f5 f6 f7 f9 f10 f11 f12 f13 f14 g17 g18 g19 g20)) $$ [H2 H3 H4 H5 H6 H7 H9 H10 H11 H12 H13 H14 H17 H18 H19 H20]
  case region =>
    have hs := LoopInv.step (self := loopInv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (BitVec.ofNat 32 ↑(i 1)) (sound_kernel.sl.v0 i) (sound_kernel.sl.r c arg8 f8) (View.readAt (Elt F) arg15.view (Rect.unit ![0, 0] S1x256.size inb_S1x256_S1x256_0_0).toLoadRect f15) f2 f3 f4 f5 f6 f7 f9 f10 f11 f12 f13 f14 hX2 hX3 0#32)
    intro k acc
    have hs2 := hs k acc
    delta sound_kernel.sl.prog.body_1
    exact hs2
  · iexists _, _, _, _
    sl_close
  iintro %acc ⟨%g17, %g18, %g19, %g20, H2, H3, H4, H5, H6, H7, H9, H10, H11, H12, H13, H14, H17, H18, H19, H20⟩
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

/-! ## The proof data -/

variable (m : (ℓ : Loc nD τ sig) → Buf (Elt F) ℓ) (ρ : Dev nD → PrngReg)

/-- Only the output window is forgotten: the frame does not read it. -/
def forgets0 : Fin 15 → Bool := ![false, false, false, false, false, false, false, false, false, false, false, false, false, false, true]

/-- The proof data on core `c`: the inputs stay at their blocks, the output is unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => Pipeline.Dat.unnamed (cfg := cfg0) 14 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare d))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ (∃ d, owns (c : Thread nD τ) (st0_14 t) fullShare d))

set_option maxHeartbeats 0 in
/-- The class invariant, opened: the four scratch buffers at some contents and the generator register. -/
theorem PhiA_eq (c : Dev nD) : (Pipeline.ΦA spec0 c : sProp 𝕄G)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
      ∗ (∃ r, prngReg c r)) := by
  unfold Pipeline.ΦA; rw [scopedRest0_eq]; simp only [owns_whole]

set_option maxHeartbeats 0 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7, after0_8, after0_9, after0_10, after0_11, after0_12, after0_13]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply (sound_kernel c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk0_le m c t) (iblk1_le m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  isplitl [S3]; · iexact S3
  iintro ⟨H0, H1, H2, H3, H4, H5, H6, H7, H8, H9, H10, H11, H12, H13, H14, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the output forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the implicit arguments are found by unifying the conclusion with this one, which takes unfolding plain definitions in a
-- metavariable's type
set_option backward.isDefEq.respectTransparency.types false in
set_option maxHeartbeats 0 in
/-- Every weakly fair execution of @main terminates with the counters at zero and every buffer that is no window's array as
    the region found it. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every weakly fair execution terminates, the arguments end as they were and the counters end at zero. -/
theorem quiescent : θ_run defs (onTc (τ := τ) (main (F := F))) ⟨m, fun _ => 0, ρ⟩ (fun r => (∀ c : Dev nD,
r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10)) ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c), ((h.1 c).2 main_arg9 (Pipeline.mem_restRefs_of main_arg9 (by decide) (by decide))).trans (V_main_arg9 m c), ((h.1 c).2 main_arg10 (Pipeline.mem_restRefs_of main_arg10 (by decide) (by decide))).trans (V_main_arg10 m c)⟩, h.2⟩) (run_main m ρ)

end Cert.Proof.Kernel

end
-- ==== Proof.KernelIdeal.Chk.lean ====
module

public import proofs.«01_k».proof.Proof.Gen.KernelIdeal.Loops
public import Idealize.ShloMosaic.Lib.LoopRemainder
public import Idealize.ShloMosaic.Lib.Tactic

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! The side conditions of one trip of the loop over key tiles: the table rows it reads are in range when the two segment
    words of the tile are at most 32. -/

theorem toInt_le (w : BitVec 32) (h : w.toNat ≤ 32) : w.toInt = w.toNat := by
  rw [BitVec.toInt_eq_toNat_cond, if_pos (by omega)]

theorem main_ub (a b : BitVec 32) :
    Scalar.addi a (Scalar.muli (Scalar.divsi (Scalar.subi b a) 1#32) 1#32) = b := by
  rw [Scalar.muli_divsi_one]
  show a + (b - a) = b
  bv_omega

theorem trips_word (a b : BitVec 32) (ha : a.toNat ≤ 32) (hb : b.toNat ≤ 32) :
    Scf.trips a b 1#32 = b.toNat - a.toNat := by
  have h1 : (1#32 : BitVec 32).toInt = 1 := by decide
  unfold Scf.trips
  rw [h1, toInt_le a ha, toInt_le b hb]
  omega

theorem ok_word (a b : BitVec 32) (ha : a.toNat ≤ 32) (hb : b.toNat ≤ 32) : Scf.OK a b 1#32 := by
  have h1 : (1#32 : BitVec 32).toInt = 1 := by decide
  unfold Scf.OK
  rw [trips_word a b ha hb, h1, toInt_le a ha]
  constructor <;> omega

theorem iv_word (a : BitVec 32) (k : ℕ) (h : a.toNat + k < 64) : (Scf.iv a 1#32 k).toNat = a.toNat + k := by
  unfold Scf.iv
  rw [BitVec.mul_one, BitVec.toNat_add, BitVec.toNat_ofNat]
  omega

theorem iv_lt (a b : BitVec 32) (ha : a.toNat ≤ 32) (hb : b.toNat ≤ 32) (k : ℕ) (hk : k < Scf.trips a b 1#32) :
    (Scf.iv a 1#32 k).toNat = a.toNat + k ∧ a.toNat + k < 32 := by
  rw [trips_word a b ha hb] at hk
  exact ⟨iv_word a k (by omega), by omega⟩

theorem index_word (w : BitVec 32) (h : w.toNat ≤ 64) : (Scalar.indexCast w).toNat = w.toNat := by
  simp only [Scalar.indexCast]

theorem head_word (i : grid0.Coords) (c : ℕ) (hc : c < 5) :
    (Scalar.addi (Scalar.muli (BitVec.ofNat 32 (i 0).val) 5#32) (BitVec.ofNat 32 c)).toNat = (i 0).val * 5 + c := by
  have h0 : (i 0).val < 8 := (i 0).isLt
  show (BitVec.ofNat 32 (i 0).val * 5#32 + BitVec.ofNat 32 c).toNat = _
  simp only [BitVec.toNat_add, BitVec.toNat_mul, BitVec.toNat_ofNat]
  omega

theorem chk1_of (i : grid0.Coords) (w : BitVec 32) (h : w.toNat ≤ 32) : k0_chk1 i w := by
  have h0 : (i 0).val < 8 := (i 0).isLt
  have hw := index_word w (by omega)
  refine ⟨fun a => ?_, fun r a => ?_⟩
  · have hh := head_word i 0 (by omega)
    have hi := index_word _ (show (Scalar.addi (Scalar.muli (BitVec.ofNat 32 (i 0).val) 5#32) (BitVec.ofNat 32 0)).toNat ≤ 64 by rw [hh]; omega)
    match a with
    | ⟨0, _⟩ => show (Scalar.indexCast w).toNat + 1 ≤ 33; omega
    | ⟨1, _⟩ => show (Scalar.indexCast (Scalar.addi (Scalar.muli (BitVec.ofNat 32 (i 0).val) 5#32) (BitVec.ofNat 32 0))).toNat + 1 ≤ 40; omega
  · have hr : r.val < 4 := r.isLt
    have hh := head_word i (1 + r.val) (by omega)
    have hi := index_word _ (show (Scalar.addi (Scalar.muli (BitVec.ofNat 32 (i 0).val) 5#32) (BitVec.ofNat 32 (1 + r.val))).toNat ≤ 64 by rw [hh]; omega)
    match a with
    | ⟨0, _⟩ => show (Scalar.indexCast w).toNat + 1 ≤ 33; omega
    | ⟨1, _⟩ => show (Scalar.indexCast (Scalar.addi (Scalar.muli (BitVec.ofNat 32 (i 0).val) 5#32) (BitVec.ofNat 32 (1 + r.val)))).toNat + 1 ≤ 40; omega

theorem off1_inb (a b : BitVec 32) (ha : a.toNat ≤ 32) (hb : b.toNat ≤ 32) (k : ℕ) (hk : k < Scf.trips a b 1#32) (x : Fin 1) :
    (![(Scalar.indexCast (Scf.iv a 1#32 k)).toNat] : Fin 1 → ℕ) x + S1.size x ≤ S32.size x := by
  obtain ⟨h1, h2⟩ := iv_lt a b ha hb k hk
  have h3 := index_word (Scf.iv a 1#32 k) (by omega)
  match x with
  | ⟨0, _⟩ => show (Scalar.indexCast (Scf.iv a 1#32 k)).toNat + 1 ≤ 32; omega

theorem off2_inb (i : grid0.Coords) (c : ℕ) (hc : c < 5) (a b : BitVec 32) (ha : a.toNat ≤ 32) (hb : b.toNat ≤ 32) (k : ℕ)
    (hk : k < Scf.trips a b 1#32) (x : Fin 2) :
    (![(Scalar.indexCast (Scf.iv a 1#32 k)).toNat,
       (Scalar.indexCast (Scalar.addi (Scalar.muli (BitVec.ofNat 32 (i 0).val) 5#32) (BitVec.ofNat 32 c))).toNat] : Fin 2 → ℕ) x + S1x1.size x ≤ S32x40.size x := by
  have h0 : (i 0).val < 8 := (i 0).isLt
  obtain ⟨h1, h2⟩ := iv_lt a b ha hb k hk
  have h3 := index_word (Scf.iv a 1#32 k) (by omega)
  have hh := head_word i c hc
  have hi := index_word _ (show (Scalar.addi (Scalar.muli (BitVec.ofNat 32 (i 0).val) 5#32) (BitVec.ofNat 32 c)).toNat ≤ 64 by rw [hh]; omega)
  match x with
  | ⟨0, _⟩ => show (Scalar.indexCast (Scf.iv a 1#32 k)).toNat + 1 ≤ 32; omega
  | ⟨1, _⟩ => show (Scalar.indexCast (Scalar.addi (Scalar.muli (BitVec.ofNat 32 (i 0).val) 5#32) (BitVec.ofNat 32 c))).toNat + 1 ≤ 40; omega

theorem main_ok (a b : BitVec 32) (ha : a.toNat ≤ 32) (hb : b.toNat ≤ 32) :
    Scf.OK a (Scalar.addi a (Scalar.muli (Scalar.divsi (Scalar.subi b a) 1#32) 1#32)) 1#32 := by
  rw [main_ub]; exact ok_word a b ha hb

theorem main_trip (a b : BitVec 32) (k : Fin (Scf.trips a (Scalar.addi a (Scalar.muli (Scalar.divsi (Scalar.subi b a) 1#32) 1#32)) 1#32)) :
    k.val < Scf.trips a b 1#32 := by
  exact lt_of_lt_of_eq k.isLt (by rw [main_ub])

theorem chk2_of (i : grid0.Coords) (a b : BitVec 32) (ha : a.toNat ≤ 32) (hb : b.toNat ≤ 32) : k0_chk2 i a b :=
  ⟨main_ok a b ha hb, fun k x => off1_inb a b ha hb k (main_trip a b k) x, fun k x => off2_inb i 0 (by decide) a b ha hb k (main_trip a b k) x,
   Scf.rem_ok a _, fun k => (Scf.rem_no_trip a _ k).elim, fun k => (Scf.rem_no_trip a _ k).elim,
   main_ok a b ha hb, fun k x => off1_inb a b ha hb k (main_trip a b k) x, fun k x => off2_inb i 1 (by decide) a b ha hb k (main_trip a b k) x,
   Scf.rem_ok a _, fun k => (Scf.rem_no_trip a _ k).elim, fun k => (Scf.rem_no_trip a _ k).elim,
   main_ok a b ha hb, fun k x => off1_inb a b ha hb k (main_trip a b k) x, fun k x => off2_inb i 2 (by decide) a b ha hb k (main_trip a b k) x,
   Scf.rem_ok a _, fun k => (Scf.rem_no_trip a _ k).elim, fun k => (Scf.rem_no_trip a _ k).elim,
   main_ok a b ha hb, fun k x => off1_inb a b ha hb k (main_trip a b k) x, fun k x => off2_inb i 3 (by decide) a b ha hb k (main_trip a b k) x,
   Scf.rem_ok a _, fun k => (Scf.rem_no_trip a _ k).elim, fun k => (Scf.rem_no_trip a _ k).elim,
   main_ok a b ha hb, fun k x => off1_inb a b ha hb k (main_trip a b k) x, fun k x => off2_inb i 4 (by decide) a b ha hb k (main_trip a b k) x,
   Scf.rem_ok a _, fun k => (Scf.rem_no_trip a _ k).elim, fun k => (Scf.rem_no_trip a _ k).elim⟩

/-- Every word a load reads is one of the words the array holds. -/
theorem word_le {sp : Space} {s : Shape} (arg : Memref sig .tc sp s .i32) (x : BufTy.Contents (Elt F) arg.view.ty)
    (h : ∀ j, BitVec.toNat (arg.view.read (Elt F) x j) ≤ 32) (r : LoadRect s) (j : r.shape.Idx) :
    BitVec.toNat (View.readAt (Elt F) arg.view r x j) ≤ 32 := by
  rw [View.readAt_apply]; exact h _

end Cert.Proof.KernelIdeal

end
-- ==== Proof.KernelIdeal.Trip.lean ====
module

public import proofs.«01_k».proof.Proof.Gen.KernelIdeal.Loops
public import Idealize.ShloMosaic.Lib.LoopRemainder
public import Idealize.ShloMosaic.Lib.Tactic
public import proofs.«01_k».proof.Proof.KernelIdeal.Chk
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What one trip of the loop over key tiles touches: the twelve operands it reads, at the contents `x`, and the four
    scratch buffers (running maximum, running sum, accumulator, the tile's distances), at the contents `f`. -/
abbrev TripR (c : Dev nD) (arg2 : Memref sig .tc .smem S64x64 .i32) (arg3 : Memref sig .tc .smem S64x64 .i32) (arg4 : Memref sig .tc .smem S32 .f32) (arg5 : Memref sig .tc .smem S33x40 .f32) (arg6 : Memref sig .tc .smem S33x40 .f32) (arg7 : Memref sig .tc .smem S32x40 .f32) (arg9 : Memref sig .tc .vmem S5x256x96 .fp8e4m3) (arg10 : Memref sig .tc .vmem S1x16384x96 .fp8e4m3) (arg11 : Memref sig .tc .vmem S1x96x16384 .fp8e4m3) (arg12 : Memref sig .tc .vmem S1x1x16384 .f32) (arg13 : Memref sig .tc .vmem S1x16384x128 .f32) (arg14 : Memref sig .tc .vmem S5x1x256 .f32) (arg17 : Memref sig .tc .vmem S5x1x256 .f32) (arg18 : Memref sig .tc .vmem S5x1x256 .f32) (arg19 : Memref sig .tc .vmem S5x96x256 .f32) (arg20 : Memref sig .tc .vmem S256x256 .f32) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (f17 : BufTy.Contents (Elt F) arg17.view.ty) (f18 : BufTy.Contents (Elt F) arg18.view.ty) (f19 : BufTy.Contents (Elt F) arg19.view.ty) (f20 : BufTy.Contents (Elt F) arg20.view.ty) : sProp 𝕄G :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} x13) ∗ (arg14.view.loc (c : Thread nD τ) ↦[arg14.view.set]{fullShare} x14) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20))

set_option maxHeartbeats 0 in
/-- One trip of the loop over key tiles: the pieces it writes to the running maximum, the running sum and the accumulator,
    found by the run, as functions of what those buffers held. The segment words are at most 32. -/
@[irreducible] def trip (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt F .f32) (v14 : Vec F S1x256 .f32) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (hw2 : ∀ j, BitVec.toNat (arg2.view.read (Elt F) x2 j) ≤ 32) (hw3 : ∀ j, BitVec.toNat (arg3.view.read (Elt F) x3 j) ≤ 32) (k : Fin (k0_t1_loop i).trips) :
    Σ' (L17 : BufTy.Contents (Elt F) arg17.view.ty → BufTy.Contents (Elt F) arg18.view.ty → BufTy.Contents (Elt F) arg19.view.ty → List (View.Piece (Elt F) S5x1x256 .f32)) (L18 : BufTy.Contents (Elt F) arg17.view.ty → BufTy.Contents (Elt F) arg18.view.ty → BufTy.Contents (Elt F) arg19.view.ty → List (View.Piece (Elt F) S5x1x256 .f32)),
    { L19 : BufTy.Contents (Elt F) arg17.view.ty → BufTy.Contents (Elt F) arg18.view.ty → BufTy.Contents (Elt F) arg19.view.ty → List (View.Piece (Elt F) S5x96x256 .f32) // ∀ (E : Set ℕ) (acc : BitVec 32) (f17 : BufTy.Contents (Elt F) arg17.view.ty) (f18 : BufTy.Contents (Elt F) arg18.view.ty) (f19 : BufTy.Contents (Elt F) arg19.view.ty) (f20 : BufTy.Contents (Elt F) arg20.view.ty),
      TripR (F := F) c arg2 arg3 arg4 arg5 arg6 arg7 arg9 arg10 arg11 arg12 arg13 arg14 arg17 arg18 arg19 arg20 x2 x3 x4 x5 x6 x7 x9 x10 x11 x12 x13 x14 f17 f18 f19 f20
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 k acc)
          (fun yld => iprop(∃ g20, TripR (F := F) c arg2 arg3 arg4 arg5 arg6 arg7 arg9 arg10 arg11 arg12 arg13 arg14 arg17 arg18 arg19 arg20 x2 x3 x4 x5 x6 x7 x9 x10 x11 x12 x13 x14 (arg17.view.writes (Elt F) f17 (L17 f17 f18 f19)) (arg18.view.writes (Elt F) f18 (L18 f17 f18 f19)) (arg19.view.writes (Elt F) f19 (L19 f17 f18 f19)) g20)) } := by
  refine ⟨?_, ?_, ?_, fun E acc f17 f18 f19 f20 => ?run⟩
  case run =>
    unfold k0_t1_body
    iintro ⟨H2, H3, H4, H5, H6, H7, H9, H10, H11, H12, H13, H14, H17, H18, H19, H20⟩
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    sl_exec (disch := first | exact chk1_of i _ (word_le arg2 x2 hw2 _ _) | exact chk2_of i _ _ (word_le arg2 x2 hw2 _ _) (word_le arg3 x3 hw3 _ _))
    sl_step
    iexists _
    sl_close

end Cert.Proof.KernelIdeal

end
-- ==== Proof.KernelIdeal.Loop.lean ====
module

public import proofs.«01_k».proof.Proof.Gen.KernelIdeal.Loops
public import Idealize.ShloMosaic.Lib.LoopRemainder
public import Idealize.ShloMosaic.Lib.Tactic
public import proofs.«01_k».proof.Proof.KernelIdeal.Trip
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- `k` steps of `f`, at most `n`, from `a`. -/
def iter {α : Type} (n : ℕ) (f : Fin n → α → α) (a : α) : ℕ → α
  | 0 => a
  | k + 1 => if h : k < n then f ⟨k, h⟩ (iter n f a k) else iter n f a k

theorem iter_zero {α : Type} (n : ℕ) (f : Fin n → α → α) (a : α) : iter n f a 0 = a := rfl

theorem iter_succ {α : Type} (n : ℕ) (f : Fin n → α → α) (a : α) (k : Fin n) :
    iter n f a (k + 1) = f k (iter n f a k) := dif_pos k.isLt

/-- What one trip of the loop over key tiles makes of the three carried buffers (running maximum, running sum,
    accumulator). -/
def next (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt F .f32) (v14 : Vec F S1x256 .f32) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (hw2 : ∀ j, BitVec.toNat (arg2.view.read (Elt F) x2 j) ≤ 32) (hw3 : ∀ j, BitVec.toNat (arg3.view.read (Elt F) x3 j) ≤ 32) (k : Fin (k0_t1_loop i).trips)
    (p : (BufTy.Contents (Elt F) arg17.view.ty) × (BufTy.Contents (Elt F) arg18.view.ty) × (BufTy.Contents (Elt F) arg19.view.ty)) :
    (BufTy.Contents (Elt F) arg17.view.ty) × (BufTy.Contents (Elt F) arg18.view.ty) × (BufTy.Contents (Elt F) arg19.view.ty) :=
  (arg17.view.writes (Elt F) p.1 ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 x2 x3 x4 x5 x6 x7 x9 x10 x11 x12 x13 x14 hw2 hw3 k).1 p.1 p.2.1 p.2.2), arg18.view.writes (Elt F) p.2.1 ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 x2 x3 x4 x5 x6 x7 x9 x10 x11 x12 x13 x14 hw2 hw3 k).2.1 p.1 p.2.1 p.2.2),
    arg19.view.writes (Elt F) p.2.2 ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 x2 x3 x4 x5 x6 x7 x9 x10 x11 x12 x13 x14 hw2 hw3 k).2.2.1 p.1 p.2.1 p.2.2))

set_option maxHeartbeats 0 in
/-- The loop over key tiles: before trip `k` the carried buffers hold `pb k`. -/
@[instance_reducible] def loopInv (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt F .f32) (v14 : Vec F S1x256 .f32) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (hw2 : ∀ j, BitVec.toNat (arg2.view.read (Elt F) x2 j) ≤ 32) (hw3 : ∀ j, BitVec.toNat (arg3.view.read (Elt F) x3 j) ≤ 32) (G17 : BufTy.Contents (Elt F) arg17.view.ty) (G18 : BufTy.Contents (Elt F) arg18.view.ty) (G19 : BufTy.Contents (Elt F) arg19.view.ty) (init : BitVec 32) : LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 init where
  inv k acc := iprop(∃ g17 g18 g19 g20, TripR (F := F) c arg2 arg3 arg4 arg5 arg6 arg7 arg9 arg10 arg11 arg12 arg13 arg14 arg17 arg18 arg19 arg20 x2 x3 x4 x5 x6 x7 x9 x10 x11 x12 x13 x14 g17 g18 g19 g20 ∗ ⌜g17 = (iter (k0_t1_loop i).trips (next (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 x2 x3 x4 x5 x6 x7 x9 x10 x11 x12 x13 x14 hw2 hw3) (G17, G18, G19) k).1⌝ ∗ ⌜g18 = (iter (k0_t1_loop i).trips (next (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 x2 x3 x4 x5 x6 x7 x9 x10 x11 x12 x13 x14 hw2 hw3) (G17, G18, G19) k).2.1⌝ ∗ ⌜g19 = (iter (k0_t1_loop i).trips (next (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 x2 x3 x4 x5 x6 x7 x9 x10 x11 x12 x13 x14 hw2 hw3) (G17, G18, G19) k).2.2⌝)
  step k acc := by
    iintro ⟨%g17, %g18, %g19, %g20, H, %h17, %h18, %h19⟩
    subst h17 h18 h19
    iapply (wp_wand_r Idealize.ShloMosaic.frame (wpE (defs₀ (F := F)) Variants.none (c : Thread nD τ) none) Set.univ)
    isplitl [H]
    · iapply ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 x2 x3 x4 x5 x6 x7 x9 x10 x11 x12 x13 x14 hw2 hw3 k).2.2.2 Set.univ acc _ _ _ g20)
      iexact H
    iintro %yld ⟨%g20', H⟩
    iexists _, _, _, g20'
    isplitl [H]
    · iexact H
    rw [iter_succ]
    isplitr
    · ipureintro; rfl
    isplitr
    · ipureintro; rfl
    ipureintro; rfl

end Cert.Proof.KernelIdeal

end
-- ==== Proof.KernelIdeal.Counts.lean ====
module

public import proofs.«01_k».proof.Proof.Gen.KernelIdeal.Frame
public import Idealize.ShloMosaic.Lib.StableHlo.RunRead
public import Idealize.ShloMosaic.Lib.IndicatorCount
@[expose] public section

/-! The segment bounds that the host computes are counts of thresholds, so each of them is at most 32. -/

set_option maxRecDepth 16384
noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- The counts are over the last axis. -/
theorem red : S64x64x32.Reduces [2] S64x64 := by decide

/-- Adding up the bits of a row of 32 counts the ones in it. -/
theorem count_eq (X : IVec S64x64x32 1) (j : S64x64.Idx) :
    Host.reduce IntOp.addi (extui 32 X natLt_1_32) (constantI S_ 32 0#32) reducesTo_S64x64x32_S64x64_d2 h_S_ j
      = BitVec.ofNat 32 (Finset.univ.filter fun k : Fin 32 => X (red.lift j k) = 1#1).card := by
  refine (Host.reduce_eq_fold_single IntOp.addi _ _ reducesTo_S64x64x32_S64x64_d2 red h_S_ j).trans ?_
  exact IndicatorCount.fold_addi_setWidth_eq_card (fun k => X (red.lift j k)) Finset.univ

theorem count_le (X : IVec S64x64x32 1) (j : S64x64.Idx) :
    (Host.reduce IntOp.addi (extui 32 X natLt_1_32) (constantI S_ 32 0#32) reducesTo_S64x64x32_S64x64_d2 h_S_ j).toNat ≤ 32 := by
  rw [count_eq, BitVec.toNat_ofNat]
  refine (Nat.mod_le _ _).trans ((Finset.card_filter_le _ _).trans ?_)
  simp

/-- The lower bounds: how many thresholds lie below the tile's smallest distance. -/
theorem V_lo (c : Dev nD) : V m c main_v138 = Host.reduce IntOp.addi (extui 32 (V m c main_v136) natLt_1_32) (constantI S_ 32 0#32) reducesTo_S64x64x32_S64x64_d2 h_S_ := by
  unfold V
  after_reads_simp

/-- The upper bounds: how many thresholds do not exceed the tile's largest distance. -/
theorem V_hi (c : Dev nD) : V m c main_v145 = Host.reduce IntOp.addi (extui 32 (V m c main_v143) natLt_1_32) (constantI S_ 32 0#32) reducesTo_S64x64x32_S64x64_d2 h_S_ := by
  unfold V
  after_reads_simp

theorem lo_le (c : Dev nD) (j : S64x64.Idx) : BitVec.toNat (w := 32) (V m c main_v138 j) ≤ 32 := by
  rw [V_lo]; exact count_le _ j

theorem hi_le (c : Dev nD) (j : S64x64.Idx) : BitVec.toNat (w := 32) (V m c main_v145 j) ≤ 32 := by
  rw [V_hi]; exact count_le _ j

/-- The block of lower bounds that every grid point is handed is the whole array. -/
theorem iblk0_le (c : Dev nD) (t : Fin cfg0.N) (j) : BitVec.toNat (w := 32) (iblk m c 0 t j) ≤ 32 := by
  unfold iblk; rw [View.read_apply]; exact lo_le m c _

theorem iblk1_le (c : Dev nD) (t : Fin cfg0.N) (j) : BitVec.toNat (w := 32) (iblk m c 1 t j) ≤ 32 := by
  unfold iblk; rw [View.read_apply]; exact hi_le m c _

end Cert.Proof.KernelIdeal

end
-- ==== Proof.KernelIdeal.Body.lean ====
module

public import proofs.«01_k».proof.Proof.Gen.KernelIdeal.Loops
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import proofs.«01_k».proof.Proof.KernelIdeal.Loop
public import proofs.«01_k».proof.Proof.KernelIdeal.Counts
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The three carried buffers before trip `k` of the loop over key tiles, from what the input windows hold. -/
def carried (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec F S64x64 .i32) (X3 : Vec F S64x64 .i32) (X4 : Vec F S32 .f32) (X5 : Vec F S33x40 .f32) (X6 : Vec F S33x40 .f32) (X7 : Vec F S32x40 .f32) (X8 : Vec F S1 .f32) (X9 : Vec F S5x256x96 .fp8e4m3) (X10 : Vec F S1x16384x96 .fp8e4m3) (X11 : Vec F S1x96x16384 .fp8e4m3) (X12 : Vec F S1x1x16384 .f32) (X13 : Vec F S1x16384x128 .f32) (X14 : Vec F S5x1x256 .f32) (X15 : Vec F S1x256 .f32)
    (hX2 : ∀ j, BitVec.toNat (w := 32) (X2 j) ≤ 32) (hX3 : ∀ j, BitVec.toNat (w := 32) (X3 j) ≤ 32) (k : ℕ) : (BufTy.Contents (Elt F) arg17.view.ty) × (BufTy.Contents (Elt F) arg18.view.ty) × (BufTy.Contents (Elt F) arg19.view.ty) :=
  iter (k0_t1_loop i).trips (next (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (BitVec.ofNat 32 ↑(i 1)) (Scalar.muli (BitVec.ofNat 32 ↑(i 1)) 256#32) (View.readAt (Elt F) arg8.view (Rect.unit ![0] S1.size inb_S1_S1_0).toLoadRect (harg8.unread X8) (Shape.Idx.first (by decide))) (View.readAt (Elt F) arg15.view (Rect.unit ![0, 0] S1x256.size inb_S1x256_S1x256_0_0).toLoadRect (harg15.unread X15)) (harg2.unread X2) (harg3.unread X3) (harg4.unread X4) (harg5.unread X5) (harg6.unread X6) (harg7.unread X7) (harg9.unread X9) (harg10.unread X10) (harg11.unread X11) (harg12.unread X12) (harg13.unread X13) (harg14.unread X14) (by intro j; rw [harg2.read_unread]; exact hX2 j) (by intro j; rw [harg3.read_unread]; exact hX3 j))
    ((arg17.view.writes (Elt F) arg17.view.junk [⟨Rect.unit ![0, 0, 0] S5x1x256.size inb_S5x1x256_S5x1x256_0_0_0, k0_pay135⟩]), (arg18.view.writes (Elt F) arg18.view.junk [⟨Rect.unit ![0, 0, 0] S5x1x256.size inb_S5x1x256_S5x1x256_0_0_0, k0_pay136⟩]), (arg19.view.writes (Elt F) arg19.view.junk [⟨Rect.unit ![0, 0, 0] S5x96x256.size inb_S5x96x256_S5x96x256_0_0_0, k0_pay137⟩])) k

/-- What the body stores in the output window, one piece per head of the group: the accumulator over the running sum. -/
def outPieces (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (p : (BufTy.Contents (Elt F) arg17.view.ty) × (BufTy.Contents (Elt F) arg18.view.ty) × (BufTy.Contents (Elt F) arg19.view.ty)) : List (View.Piece (Elt F) S1x256x480 .bf16) :=
  [⟨Rect.unit ![0, 0, 384] ![1, 256, 96] inb_S1x256x480_S1x256x96_0_0_384, k0_pay2 (View.readAt (Elt F) arg19.view (Rect.unit (s := S5x96x256) ![4, 0, 0] S1x96x256.size inb_S5x96x256_S1x96x256_4_0_0).toLoadRect p.2.2) (View.readAt (Elt F) arg18.view (Rect.unit (s := S5x1x256) ![4, 0, 0] S1x1x256.size inb_S5x1x256_S1x1x256_4_0_0).toLoadRect p.2.1)⟩,
    ⟨Rect.unit ![0, 0, 288] ![1, 256, 96] inb_S1x256x480_S1x256x96_0_0_288, k0_pay1 (View.readAt (Elt F) arg19.view (Rect.unit (s := S5x96x256) ![3, 0, 0] S1x96x256.size inb_S5x96x256_S1x96x256_3_0_0).toLoadRect p.2.2) (View.readAt (Elt F) arg18.view (Rect.unit (s := S5x1x256) ![3, 0, 0] S1x1x256.size inb_S5x1x256_S1x1x256_3_0_0).toLoadRect p.2.1)⟩,
    ⟨Rect.unit ![0, 0, 192] ![1, 256, 96] inb_S1x256x480_S1x256x96_0_0_192, k0_pay144 (View.readAt (Elt F) arg19.view (Rect.unit (s := S5x96x256) ![2, 0, 0] S1x96x256.size inb_S5x96x256_S1x96x256_2_0_0).toLoadRect p.2.2) (View.readAt (Elt F) arg18.view (Rect.unit (s := S5x1x256) ![2, 0, 0] S1x1x256.size inb_S5x1x256_S1x1x256_2_0_0).toLoadRect p.2.1)⟩,
    ⟨Rect.unit ![0, 0, 96] ![1, 256, 96] inb_S1x256x480_S1x256x96_0_0_96, k0_pay143 (View.readAt (Elt F) arg19.view (Rect.unit (s := S5x96x256) ![1, 0, 0] S1x96x256.size inb_S5x96x256_S1x96x256_1_0_0).toLoadRect p.2.2) (View.readAt (Elt F) arg18.view (Rect.unit (s := S5x1x256) ![1, 0, 0] S1x1x256.size inb_S5x1x256_S1x1x256_1_0_0).toLoadRect p.2.1)⟩,
    ⟨Rect.unit ![0, 0, 0] ![1, 256, 96] inb_S1x256x480_S1x256x96_0_0_0, k0_pay142 (k0_pay141 (View.readAt (Elt F) arg19.view (Rect.unit (s := S5x96x256) ![0, 0, 0] S1x96x256.size inb_S5x96x256_S1x96x256_0_0_0).toLoadRect p.2.2)) (View.readAt (Elt F) arg18.view (Rect.unit (s := S5x1x256) ![0, 0, 0] S1x1x256.size inb_S5x1x256_S1x1x256_0_0_0).toLoadRect p.2.1)⟩]

theorem outPieces_cover (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (p : (BufTy.Contents (Elt F) arg17.view.ty) × (BufTy.Contents (Elt F) arg18.view.ty) × (BufTy.Contents (Elt F) arg19.view.ty)) (y : S1x256x480.Idx) :
    ∃ pc ∈ outPieces (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p, y ∈ pc.1.set := by
  unfold outPieces
  exact View.cover_of_tiled _ ![1, 256, 96] (by rfl) y

/-- The output window's block after the body. -/
def outBlock (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec F S64x64 .i32) (X3 : Vec F S64x64 .i32) (X4 : Vec F S32 .f32) (X5 : Vec F S33x40 .f32) (X6 : Vec F S33x40 .f32) (X7 : Vec F S32x40 .f32) (X8 : Vec F S1 .f32) (X9 : Vec F S5x256x96 .fp8e4m3) (X10 : Vec F S1x16384x96 .fp8e4m3) (X11 : Vec F S1x96x16384 .fp8e4m3) (X12 : Vec F S1x1x16384 .f32) (X13 : Vec F S1x16384x128 .f32) (X14 : Vec F S5x1x256 .f32) (X15 : Vec F S1x256 .f32)
    (hX2 : ∀ j, BitVec.toNat (w := 32) (X2 j) ≤ 32) (hX3 : ∀ j, BitVec.toNat (w := 32) (X3 j) ≤ 32) : Vec F S1x256x480 .bf16 :=
  View.canon (outPieces (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (carried (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 (k0_t1_loop i).trips))

set_option maxHeartbeats 0 in
/-- The body's triple: from the input windows at their blocks and the output window and the scratch at anything, the kernel
    runs to its return, the inputs as they were, the output at `outBlock`, the scratch at something. -/
theorem sound_kernel (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec F S64x64 .i32) (X3 : Vec F S64x64 .i32) (X4 : Vec F S32 .f32) (X5 : Vec F S33x40 .f32) (X6 : Vec F S33x40 .f32) (X7 : Vec F S32x40 .f32) (X8 : Vec F S1 .f32) (X9 : Vec F S5x256x96 .fp8e4m3) (X10 : Vec F S1x16384x96 .fp8e4m3) (X11 : Vec F S1x96x16384 .fp8e4m3) (X12 : Vec F S1x1x16384 .f32) (X13 : Vec F S1x16384x128 .f32) (X14 : Vec F S5x1x256 .f32) (X15 : Vec F S1x256 .f32)
    (hX2 : ∀ j, BitVec.toNat (w := 32) (X2 j) ≤ 32) (hX3 : ∀ j, BitVec.toNat (w := 32) (X3 j) ≤ 32) (K : PUnit → sProp 𝕄G) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare (outBlock (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none (c : Thread nD τ) none) Set.univ (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_attention_eq_skeleton]; unfold cc0_attention_skel
  simp only [k0_part21_eq_skeleton, k0_part22_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
  have hw2 : ∀ j, BitVec.toNat (w := 32) (arg2.view.read (Elt F) f2 j) ≤ 32 := by rw [hf2]; exact hX2
  have hw3 : ∀ j, BitVec.toNat (w := 32) (arg3.view.read (Elt F) f3 j) ≤ 32 := by rw [hf3]; exact hX3
  have htr : (k0_t12_loop i).trips = 0 := Nat.le_zero.1 (k0_t12_abs i).2.1
  sl_exec
  sl_for (fun (k : ℕ) (_ : BitVec 32) => iprop(∃ g17 g18 g19 g20, TripR (F := F) c arg2 arg3 arg4 arg5 arg6 arg7 arg9 arg10 arg11 arg12 arg13 arg14 arg17 arg18 arg19 arg20 f2 f3 f4 f5 f6 f7 f9 f10 f11 f12 f13 f14 g17 g18 g19 g20 ∗ ⌜g17 = (iter (k0_t1_loop i).trips (next (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (BitVec.ofNat 32 ↑(i 1)) (sound_kernel.sl.v0 i) (sound_kernel.sl.r c arg8 f8) (View.readAt (Elt F) arg15.view (Rect.unit ![0, 0] S1x256.size inb_S1x256_S1x256_0_0).toLoadRect f15) f2 f3 f4 f5 f6 f7 f9 f10 f11 f12 f13 f14 hw2 hw3) ((arg17.view.writes (Elt F) arg17.view.junk sound_kernel.sl.H17_1), (arg18.view.writes (Elt F) arg18.view.junk sound_kernel.sl.H18_1), (arg19.view.writes (Elt F) arg19.view.junk sound_kernel.sl.H19_1)) k).1⌝ ∗ ⌜g18 = (iter (k0_t1_loop i).trips (next (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (BitVec.ofNat 32 ↑(i 1)) (sound_kernel.sl.v0 i) (sound_kernel.sl.r c arg8 f8) (View.readAt (Elt F) arg15.view (Rect.unit ![0, 0] S1x256.size inb_S1x256_S1x256_0_0).toLoadRect f15) f2 f3 f4 f5 f6 f7 f9 f10 f11 f12 f13 f14 hw2 hw3) ((arg17.view.writes (Elt F) arg17.view.junk sound_kernel.sl.H17_1), (arg18.view.writes (Elt F) arg18.view.junk sound_kernel.sl.H18_1), (arg19.view.writes (Elt F) arg19.view.junk sound_kernel.sl.H19_1)) k).2.1⌝ ∗ ⌜g19 = (iter (k0_t1_loop i).trips (next (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (BitVec.ofNat 32 ↑(i 1)) (sound_kernel.sl.v0 i) (sound_kernel.sl.r c arg8 f8) (View.readAt (Elt F) arg15.view (Rect.unit ![0, 0] S1x256.size inb_S1x256_S1x256_0_0).toLoadRect f15) f2 f3 f4 f5 f6 f7 f9 f10 f11 f12 f13 f14 hw2 hw3) ((arg17.view.writes (Elt F) arg17.view.junk sound_kernel.sl.H17_1), (arg18.view.writes (Elt F) arg18.view.junk sound_kernel.sl.H18_1), (arg19.view.writes (Elt F) arg19.view.junk sound_kernel.sl.H19_1)) k).2.2⌝)) $$ [H2 H3 H4 H5 H6 H7 H9 H10 H11 H12 H13 H14 H17 H18 H19 H20]
  case region =>
    have hs := LoopInv.step (self := loopInv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (BitVec.ofNat 32 ↑(i 1)) (sound_kernel.sl.v0 i) (sound_kernel.sl.r c arg8 f8) (View.readAt (Elt F) arg15.view (Rect.unit ![0, 0] S1x256.size inb_S1x256_S1x256_0_0).toLoadRect f15) f2 f3 f4 f5 f6 f7 f9 f10 f11 f12 f13 f14 hw2 hw3 (arg17.view.writes (Elt F) arg17.view.junk sound_kernel.sl.H17_1) (arg18.view.writes (Elt F) arg18.view.junk sound_kernel.sl.H18_1) (arg19.view.writes (Elt F) arg19.view.junk sound_kernel.sl.H19_1) 0#32)
    intro k acc
    have hs2 := hs k acc
    delta sound_kernel.sl.prog.body_1
    exact hs2
  · iexists _, _, _, _
    isplitl
    · sl_close
    isplitr
    · ipureintro; rw [iter_zero]
    isplitr
    · ipureintro; rw [iter_zero]
    ipureintro; rw [iter_zero]
  iintro %acc ⟨%g17, %g18, %g19, %g20, ⟨H2, H3, H4, H5, H6, H7, H9, H10, H11, H12, H13, H14, H17, H18, H19, H20⟩, %h17, %h18, %h19⟩
  subst h17 h18 h19
  sl_exec
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _; isplitr; swap; · iexact H13
    ipureintro; exact hf13
  isplitl [H14]
  · iexists _; isplitr; swap; · iexact H14
    ipureintro; exact hf14
  isplitl [H15]
  · iexists _; isplitr; swap; · iexact H15
    ipureintro; exact hf15
  isplitl [H16]
  · iexists _; isplitr; swap; · iexact H16
    ipureintro
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    exact View.read_writes_eq_canon _ _ _ (outPieces_cover arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _)
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

/-! ## The proof data -/

variable (m : (ℓ : Loc nD τ sig) → Buf (Elt F) ℓ) (ρ : Dev nD → PrngReg)

/-- The proof data on core `c`: the inputs stay at their blocks, the output window ends at `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outBlock (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk0_le m c t) (iblk1_le m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outBlock (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk0_le m c t) (iblk1_le m c t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 0 in
/-- The class invariant, opened: the four scratch buffers at some contents and the generator register. -/
theorem PhiA_eq (c : Dev nD) : (Pipeline.ΦA spec0 c : sProp 𝕄G)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
      ∗ (∃ r, prngReg c r)) := by
  unfold Pipeline.ΦA; rw [scopedRest0_eq]; simp only [owns_whole]

set_option maxHeartbeats 0 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7, after0_8, after0_9, after0_10, after0_11, after0_12, after0_13, after0_14]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk0_le m c t) (iblk1_le m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [S0]; · iexact S0
  isplitl [S1]; · iexact S1
  isplitl [S2]; · iexact S2
  isplitl [S3]; · iexact S3
  iintro ⟨H0, H1, H2, H3, H4, H5, H6, H7, H8, H9, H10, H11, H12, H13, H14, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments are found by unifying the conclusion with this one, which takes unfolding plain definitions in a
-- metavariable's type
set_option backward.isDefEq.respectTransparency.types false in
set_option maxHeartbeats 0 in
/-- Every weakly fair execution of @main terminates with the counters at zero and every buffer that is no window's array as
    the region found it. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every weakly fair execution terminates, the arguments end as they were and the counters end at zero. -/
theorem quiescent : θ_run defs (onTc (τ := τ) (main (F := F))) ⟨m, fun _ => 0, ρ⟩ (fun r => (∀ c : Dev nD,
r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10)) ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c), ((h.1 c).2 main_arg9 (Pipeline.mem_restRefs_of main_arg9 (by decide) (by decide))).trans (V_main_arg9 m c), ((h.1 c).2 main_arg10 (Pipeline.mem_restRefs_of main_arg10 (by decide) (by decide))).trans (V_main_arg10 m c)⟩, h.2⟩) (run_main m ρ)

end Cert.Proof.KernelIdeal

end
-- ==== Proof.KernelIdeal.Host0.lean ====
module

public import proofs.«01_k».proof.Proof.Gen.KernelIdeal.Frame
public import Idealize.ShloMosaic.Lib.StableHlo.RunRead
@[expose] public section

/-! What arrays of the host code hold, each in terms of a few earlier ones. -/

set_option maxRecDepth 16384
noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- The thresholds before sorting. -/
theorem V7 (c : Dev nD) : V m c main_v7 = (select (cmpf .oeq (V m c main_arg8 : (⟨S32, .f32⟩ : BufTy).Contents (Elt F)) (broadcastInDim S32 ![] bcast_S_S32 (constant S_ .f32 0x00000000#32))) (broadcastInDim S32 ![] bcast_S_S32 (constant S_ .f32 0x7F800000#32)) (Host.divf (Host.negf (V m c main_arg9 : (⟨S32, .f32⟩ : BufTy).Contents (Elt F))) (select (cmpf .oeq (V m c main_arg8 : (⟨S32, .f32⟩ : BufTy).Contents (Elt F)) (broadcastInDim S32 ![] bcast_S_S32 (constant S_ .f32 0x00000000#32))) (broadcastInDim S32 ![] bcast_S_S32 (constant S_ .f32 0x3F800000#32)) (V m c main_arg8 : (⟨S32, .f32⟩ : BufTy).Contents (Elt F))))) := by
  unfold V
  after_reads_simp
  all_goals try simp only [StableHlo.TRef.toBuf, StableHlo.TRef.ofBuf, cast_cast, cast_eq]
  all_goals try rfl

/-- The order of the thresholds. -/
theorem V8 (c : Dev nD) : V m c main_v8 = ((Host.sort2 S32 0 comparator_f32_i32_d0 (V m c main_v7 : (⟨S32, .f32⟩ : BufTy).Contents (Elt F)) (iotaInDim S32 32 0)).2) := by
  unfold V
  after_reads_simp
  all_goals try simp only [StableHlo.TRef.toBuf, StableHlo.TRef.ofBuf, cast_cast, cast_eq]
  all_goals try rfl

/-- The sorted thresholds. -/
theorem V15 (c : Dev nD) : V m c main_v15 = (Host.gather gather_S32_S32x1_S32_n_0_n_n_0_1_1 (V m c main_v7 : (⟨S32, .f32⟩ : BufTy).Contents (Elt F)) (broadcastInDim S32x1 ![0] bcast_S32_S32x1_0 (select (cmpi .slt (V m c main_v8 : (⟨S32, .i32⟩ : BufTy).Contents (Elt F)) (broadcastInDim S32 ![] bcast_S_S32 (constantI S_ 32 0#32))) (addi (V m c main_v8 : (⟨S32, .i32⟩ : BufTy).Contents (Elt F)) (broadcastInDim S32 ![] bcast_S_S32 (constantI S_ 32 32#32))) (V m c main_v8 : (⟨S32, .i32⟩ : BufTy).Contents (Elt F))))) := by
  unfold V
  after_reads_simp

end Cert.Proof.KernelIdeal

end
-- ==== Proof.KernelIdeal.Host1.lean ====
module

public import proofs.«01_k».proof.Proof.Gen.KernelIdeal.Frame
public import Idealize.ShloMosaic.Lib.StableHlo.RunRead
@[expose] public section

/-! What arrays of the host code hold, each in terms of a few earlier ones. -/

set_option maxRecDepth 16384
noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- The first weights in that order. -/
theorem V22 (c : Dev nD) : V m c main_v22 = (Host.gather gather_S32_S32x1_S32_n_0_n_n_0_1_1 (V m c main_arg8 : (⟨S32, .f32⟩ : BufTy).Contents (Elt F)) (broadcastInDim S32x1 ![0] bcast_S32_S32x1_0 (select (cmpi .slt (V m c main_v8 : (⟨S32, .i32⟩ : BufTy).Contents (Elt F)) (broadcastInDim S32 ![] bcast_S_S32 (constantI S_ 32 0#32))) (addi (V m c main_v8 : (⟨S32, .i32⟩ : BufTy).Contents (Elt F)) (broadcastInDim S32 ![] bcast_S_S32 (constantI S_ 32 32#32))) (V m c main_v8 : (⟨S32, .i32⟩ : BufTy).Contents (Elt F))))) := by
  unfold V
  after_reads_simp

/-- The first biases in that order. -/
theorem V29 (c : Dev nD) : V m c main_v29 = (Host.gather gather_S32_S32x1_S32_n_0_n_n_0_1_1 (V m c main_arg9 : (⟨S32, .f32⟩ : BufTy).Contents (Elt F)) (broadcastInDim S32x1 ![0] bcast_S32_S32x1_0 (select (cmpi .slt (V m c main_v8 : (⟨S32, .i32⟩ : BufTy).Contents (Elt F)) (broadcastInDim S32 ![] bcast_S_S32 (constantI S_ 32 0#32))) (addi (V m c main_v8 : (⟨S32, .i32⟩ : BufTy).Contents (Elt F)) (broadcastInDim S32 ![] bcast_S_S32 (constantI S_ 32 32#32))) (V m c main_v8 : (⟨S32, .i32⟩ : BufTy).Contents (Elt F))))) := by
  unfold V
  after_reads_simp

/-- The second weights in that order. -/
theorem V36 (c : Dev nD) : V m c main_v36 = (Host.gather gather_S32x40_S32x1_S32x40_1_0_n_n_0_1_140 (V m c main_arg10 : (⟨S32x40, .f32⟩ : BufTy).Contents (Elt F)) (broadcastInDim S32x1 ![0] bcast_S32_S32x1_0 (select (cmpi .slt (V m c main_v8 : (⟨S32, .i32⟩ : BufTy).Contents (Elt F)) (broadcastInDim S32 ![] bcast_S_S32 (constantI S_ 32 0#32))) (addi (V m c main_v8 : (⟨S32, .i32⟩ : BufTy).Contents (Elt F)) (broadcastInDim S32 ![] bcast_S_S32 (constantI S_ 32 32#32))) (V m c main_v8 : (⟨S32, .i32⟩ : BufTy).Contents (Elt F))))) := by
  unfold V
  after_reads_simp

end Cert.Proof.KernelIdeal

end
-- ==== Proof.KernelIdeal.Host2.lean ====
module

public import proofs.«01_k».proof.Proof.Gen.KernelIdeal.Frame
public import Idealize.ShloMosaic.Lib.StableHlo.RunRead
@[expose] public section

/-! What arrays of the host code hold, each in terms of a few earlier ones. -/

set_option maxRecDepth 16384
noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- Which hidden units are active with a given number of thresholds passed. -/
theorem V54 (c : Dev nD) : V m c main_v54 = (select (broadcastInDim S33x32 ![1] bcast_S32_S33x32_1 (cmpf .ogt (V m c main_v22 : (⟨S32, .f32⟩ : BufTy).Contents (Elt F)) (broadcastInDim S32 ![] bcast_S_S32 (constant S_ .f32 0x00000000#32)))) (cmpi .slt (broadcastInDim S33x32 ![0, 1] bcast_S1x32_S33x32_0_1 (broadcastInDim S1x32 ![1] bcast_S32_S1x32_1 (iotaInDim S32 32 0))) (broadcastInDim S33x32 ![0, 1] bcast_S33x1_S33x32_0_1 (broadcastInDim S33x1 ![0] bcast_S33_S33x1_0 (iotaInDim S33 32 0)))) (select (broadcastInDim S33x32 ![1] bcast_S32_S33x32_1 (cmpf .olt (V m c main_v22 : (⟨S32, .f32⟩ : BufTy).Contents (Elt F)) (broadcastInDim S32 ![] bcast_S_S32 (constant S_ .f32 0x00000000#32)))) (cmpi .sge (broadcastInDim S33x32 ![0, 1] bcast_S1x32_S33x32_0_1 (broadcastInDim S1x32 ![1] bcast_S32_S1x32_1 (iotaInDim S32 32 0))) (broadcastInDim S33x32 ![0, 1] bcast_S33x1_S33x32_0_1 (broadcastInDim S33x1 ![0] bcast_S33_S33x1_0 (iotaInDim S33 32 0)))) (broadcastInDim S33x32 ![1] bcast_S32_S33x32_1 (cmpf .ogt (V m c main_v29 : (⟨S32, .f32⟩ : BufTy).Contents (Elt F)) (broadcastInDim S32 ![] bcast_S_S32 (constant S_ .f32 0x00000000#32)))))) := by
  unfold V
  after_reads_simp
  all_goals try simp only [StableHlo.TRef.toBuf, StableHlo.TRef.ofBuf, cast_cast, cast_eq]
  all_goals try rfl

/-- The slopes. -/
theorem V59 (c : Dev nD) : V m c main_v59 = (Host.dotGeneral dot_S33x32_S32x40_S33x40_1_0_0_1_n_n (some .fp32) (uitofp .f32 (V m c main_v54 : (⟨S33x32, .i1⟩ : BufTy).Contents (Elt F))) (mulf (broadcastInDim S32x40 ![0, 1] bcast_S32x1_S32x40_0_1 (broadcastInDim S32x1 ![0] bcast_S32_S32x1_0 (V m c main_v22 : (⟨S32, .f32⟩ : BufTy).Contents (Elt F)))) (V m c main_v36 : (⟨S32x40, .f32⟩ : BufTy).Contents (Elt F)))) := by
  unfold V
  after_reads_simp

/-- The offsets. -/
theorem V63 (c : Dev nD) : V m c main_v63 = (Host.dotGeneral dot_S33x32_S32x40_S33x40_1_0_0_1_n_n (some .fp32) (uitofp .f32 (V m c main_v54 : (⟨S33x32, .i1⟩ : BufTy).Contents (Elt F))) (mulf (broadcastInDim S32x40 ![0, 1] bcast_S32x1_S32x40_0_1 (broadcastInDim S32x1 ![0] bcast_S32_S32x1_0 (V m c main_v29 : (⟨S32, .f32⟩ : BufTy).Contents (Elt F)))) (V m c main_v36 : (⟨S32x40, .f32⟩ : BufTy).Contents (Elt F)))) := by
  unfold V
  after_reads_simp

end Cert.Proof.KernelIdeal

end
-- ==== Proof.KernelIdeal.Host3.lean ====
module

public import proofs.«01_k».proof.Proof.Gen.KernelIdeal.Frame
public import Idealize.ShloMosaic.Lib.StableHlo.RunRead
@[expose] public section

/-! What arrays of the host code hold, each in terms of a few earlier ones. -/

set_option maxRecDepth 16384
noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- The kinks. -/
theorem V67 (c : Dev nD) : V m c main_v67 = (mulf (broadcastInDim S32x40 ![0, 1] bcast_S32x1_S32x40_0_1 (broadcastInDim S32x1 ![0] bcast_S32_S32x1_0 (Host.absf (V m c main_v22 : (⟨S32, .f32⟩ : BufTy).Contents (Elt F))))) (V m c main_v36 : (⟨S32x40, .f32⟩ : BufTy).Contents (Elt F))) := by
  unfold V
  after_reads_simp

/-- The reciprocal normalisers. -/
theorem V75 (c : Dev nD) : V m c main_v75 = (Host.divf (broadcastInDim S16384 ![] bcast_S_S16384 (constant S_ .f32 0x3F800000#32)) (Host.log1p (mulf (broadcastInDim S16384 ![] bcast_S_S16384 (V m c main_arg6 : (⟨S_, .f32⟩ : BufTy).Contents (Elt F))) (maximumf (broadcastInDim S16384 ![] bcast_S_S16384 (V m c main_arg7 : (⟨S_, .f32⟩ : BufTy).Contents (Elt F))) (sitofp .f32 (iotaInDim S16384 32 0)))))) := by
  unfold V
  after_reads_simp

/-- The lower ends of the tiles. -/
theorem V107 (c : Dev nD) : V m c main_v107 = (subf (mulf (Host.log1p (mulf (broadcastInDim S64x64 ![] bcast_S_S64x64 (V m c main_arg6 : (⟨S_, .f32⟩ : BufTy).Contents (Elt F))) (sitofp .f32 (maxsi (subi (broadcastInDim S64x64 ![0, 1] bcast_S64x1_S64x64_0_1 (muli (broadcastInDim S64x1 ![0] bcast_S64_S64x1_0 (iotaInDim S64 32 0)) (broadcastInDim S64x1 ![] bcast_S_S64x1 (constantI S_ 32 256#32)))) (broadcastInDim S64x64 ![0, 1] bcast_S1x64_S64x64_0_1 (subi (addi (muli (broadcastInDim S1x64 ![1] bcast_S64_S1x64_1 (iotaInDim S64 32 0)) (broadcastInDim S1x64 ![] bcast_S_S1x64 (constantI S_ 32 256#32))) (broadcastInDim S1x64 ![] bcast_S_S1x64 (constantI S_ 32 256#32))) (broadcastInDim S1x64 ![] bcast_S_S1x64 (constantI S_ 32 1#32))))) (broadcastInDim S64x64 ![] bcast_S_S64x64 (constantI S_ 32 0#32)))))) (broadcastInDim S64x64 ![0, 1] bcast_S64x1_S64x64_0_1 (Host.gather gather_S16384_S64x1x1_S64x1_n_0_n_n_0_2_1 (V m c main_v75 : (⟨S16384, .f32⟩ : BufTy).Contents (Elt F)) (broadcastInDim S64x1x1 ![0, 1] bcast_S64x1_S64x1x1_0_1 (select (cmpi .slt (muli (broadcastInDim S64x1 ![0] bcast_S64_S64x1_0 (iotaInDim S64 32 0)) (broadcastInDim S64x1 ![] bcast_S_S64x1 (constantI S_ 32 256#32))) (broadcastInDim S64x1 ![] bcast_S_S64x1 (constantI S_ 32 0#32))) (addi (muli (broadcastInDim S64x1 ![0] bcast_S64_S64x1_0 (iotaInDim S64 32 0)) (broadcastInDim S64x1 ![] bcast_S_S64x1 (constantI S_ 32 256#32))) (broadcastInDim S64x1 ![] bcast_S_S64x1 (constantI S_ 32 16384#32))) (muli (broadcastInDim S64x1 ![0] bcast_S64_S64x1_0 (iotaInDim S64 32 0)) (broadcastInDim S64x1 ![] bcast_S_S64x1 (constantI S_ 32 256#32)))))))) (broadcastInDim S64x64 ![] bcast_S_S64x64 (constant S_ .f32 0x3727C5AC#32))) := by
  unfold V
  after_reads_simp

end Cert.Proof.KernelIdeal

end
-- ==== Proof.KernelIdeal.Host4.lean ====
module

public import proofs.«01_k».proof.Proof.Gen.KernelIdeal.Frame
public import Idealize.ShloMosaic.Lib.StableHlo.RunRead
@[expose] public section

/-! What arrays of the host code hold, each in terms of a few earlier ones. -/

set_option maxRecDepth 16384
noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- The upper ends of the tiles. -/
theorem V131 (c : Dev nD) : V m c main_v131 = (addf (mulf (Host.log1p (mulf (broadcastInDim S64x64 ![] bcast_S_S64x64 (V m c main_arg6 : (⟨S_, .f32⟩ : BufTy).Contents (Elt F))) (sitofp .f32 (maxsi (subi (broadcastInDim S64x64 ![0, 1] bcast_S64x1_S64x64_0_1 (subi (addi (muli (broadcastInDim S64x1 ![0] bcast_S64_S64x1_0 (iotaInDim S64 32 0)) (broadcastInDim S64x1 ![] bcast_S_S64x1 (constantI S_ 32 256#32))) (broadcastInDim S64x1 ![] bcast_S_S64x1 (constantI S_ 32 256#32))) (broadcastInDim S64x1 ![] bcast_S_S64x1 (constantI S_ 32 1#32)))) (broadcastInDim S64x64 ![0, 1] bcast_S1x64_S64x64_0_1 (muli (broadcastInDim S1x64 ![1] bcast_S64_S1x64_1 (iotaInDim S64 32 0)) (broadcastInDim S1x64 ![] bcast_S_S1x64 (constantI S_ 32 256#32))))) (broadcastInDim S64x64 ![] bcast_S_S64x64 (constantI S_ 32 0#32)))))) (broadcastInDim S64x64 ![0, 1] bcast_S64x1_S64x64_0_1 (Host.gather gather_S16384_S64x1x1_S64x1_n_0_n_n_0_2_1 (V m c main_v75 : (⟨S16384, .f32⟩ : BufTy).Contents (Elt F)) (broadcastInDim S64x1x1 ![0, 1] bcast_S64x1_S64x1x1_0_1 (select (cmpi .slt (subi (addi (muli (broadcastInDim S64x1 ![0] bcast_S64_S64x1_0 (iotaInDim S64 32 0)) (broadcastInDim S64x1 ![] bcast_S_S64x1 (constantI S_ 32 256#32))) (broadcastInDim S64x1 ![] bcast_S_S64x1 (constantI S_ 32 256#32))) (broadcastInDim S64x1 ![] bcast_S_S64x1 (constantI S_ 32 1#32))) (broadcastInDim S64x1 ![] bcast_S_S64x1 (constantI S_ 32 0#32))) (addi (subi (addi (muli (broadcastInDim S64x1 ![0] bcast_S64_S64x1_0 (iotaInDim S64 32 0)) (broadcastInDim S64x1 ![] bcast_S_S64x1 (constantI S_ 32 256#32))) (broadcastInDim S64x1 ![] bcast_S_S64x1 (constantI S_ 32 256#32))) (broadcastInDim S64x1 ![] bcast_S_S64x1 (constantI S_ 32 1#32))) (broadcastInDim S64x1 ![] bcast_S_S64x1 (constantI S_ 32 16384#32))) (subi (addi (muli (broadcastInDim S64x1 ![0] bcast_S64_S64x1_0 (iotaInDim S64 32 0)) (broadcastInDim S64x1 ![] bcast_S_S64x1 (constantI S_ 32 256#32))) (broadcastInDim S64x1 ![] bcast_S_S64x1 (constantI S_ 32 256#32))) (broadcastInDim S64x1 ![] bcast_S_S64x1 (constantI S_ 32 1#32)))))))) (broadcastInDim S64x64 ![] bcast_S_S64x64 (constant S_ .f32 0x3727C5AC#32))) := by
  unfold V
  after_reads_simp

/-- Which thresholds lie below a tile. -/
theorem V136 (c : Dev nD) : V m c main_v136 = (cmpf .olt (broadcastInDim S64x64x32 ![0, 1, 2] bcast_S1x1x32_S64x64x32_0_1_2 (broadcastInDim S1x1x32 ![2] bcast_S32_S1x1x32_2 (V m c main_v15 : (⟨S32, .f32⟩ : BufTy).Contents (Elt F)))) (broadcastInDim S64x64x32 ![0, 1, 2] bcast_S64x64x1_S64x64x32_0_1_2 (broadcastInDim S64x64x1 ![0, 1] bcast_S64x64_S64x64x1_0_1 (V m c main_v107 : (⟨S64x64, .f32⟩ : BufTy).Contents (Elt F))))) := by
  unfold V
  after_reads_simp

/-- Which thresholds do not lie above a tile. -/
theorem V143 (c : Dev nD) : V m c main_v143 = (cmpf .ole (broadcastInDim S64x64x32 ![0, 1, 2] bcast_S1x1x32_S64x64x32_0_1_2 (broadcastInDim S1x1x32 ![2] bcast_S32_S1x1x32_2 (V m c main_v15 : (⟨S32, .f32⟩ : BufTy).Contents (Elt F)))) (broadcastInDim S64x64x32 ![0, 1, 2] bcast_S64x64x1_S64x64x32_0_1_2 (broadcastInDim S64x64x1 ![0, 1] bcast_S64x64_S64x64x1_0_1 (V m c main_v131 : (⟨S64x64, .f32⟩ : BufTy).Contents (Elt F))))) := by
  unfold V
  after_reads_simp

end Cert.Proof.KernelIdeal

end
-- ==== Proof.KernelIdeal.Payload.lean ====
module

public import proofs.«01_k».proof.Proof.Gen.KernelIdeal.Loops
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import Idealize.ShloMosaic.Lib.Pointwise
public import Idealize.ShloMosaic.Lib.WholeRead
public import Idealize.ShloMosaic.Lib.IdealHost
public import Idealize.ShloMosaic.Lib.Pipeline.ValueKit.Tiles
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

/-! The payloads of one head, element by element. -/

theorem ofBits_neg_inf : Ideal.ofBits .f32 0xFF800000#32 = ⊥ := by simp [Ideal.ofBits, Ideal.ieee]

theorem select_sgt {α : Type} (x y : BitVec 32) (a b : α) :
    Scalar.select (IntOp.cmpi CmpIPredicate.sgt x y) a b = if BitVec.slt y x then a else b := by
  by_cases h : BitVec.slt y x = true
  · rw [if_pos h]; simp [Scalar.select, IntOp.cmpi, h]
  · rw [if_neg h]; simp [Scalar.select, IntOp.cmpi, h]

theorem pay14_apply (x : FVec Ideal S256x256 .f32) (m : Vec Ideal S1x1x256 .f32) (j : Fin 256) :
    k0_pay14 (F := Ideal) x m (ix2 0 j) = max (m (ix3 0 0 j)) (Finset.univ.sup fun r : Fin 256 => x (ix2 r j)) := by
  pointwise [k0_pay14, k0_pay13]
  rw [ofBits_neg_inf]
  rfl

theorem pay15_apply (x : FVec Ideal S256x256 .f32) (m : Vec Ideal S1x1x256 .f32) (r j : Fin 256) :
    k0_pay15 (F := Ideal) x m (ix2 r j) = Ideal.exp2 (x (ix2 r j) - k0_pay14 (F := Ideal) x m (ix2 0 j)) := by
  pointwise [k0_pay15]
  rfl

theorem pay16_apply (x : FVec Ideal S256x256 .f32) (m : Vec Ideal S1x1x256 .f32) (j : Fin 256) :
    k0_pay16 (F := Ideal) x m (ix2 0 j) = Ideal.exp2 (m (ix3 0 0 j) - k0_pay14 (F := Ideal) x m (ix2 0 j)) := by
  pointwise [k0_pay16, k0_pay13]
  rfl

theorem pay17_apply (x : FVec Ideal S256x256 .f32) (m : Vec Ideal S1x1x256 .f32) (j : Fin 256) :
    k0_pay17 (F := Ideal) x m (ix3 0 0 j) = k0_pay14 (F := Ideal) x m (ix2 0 j) := by
  pointwise [k0_pay17]

theorem pay18_apply (x : FVec Ideal S256x256 .f32) (m l : Vec Ideal S1x1x256 .f32) (j : Fin 256) :
    k0_pay18 (F := Ideal) x m l (ix3 0 0 j) = l (ix3 0 0 j) * k0_pay16 (F := Ideal) x m (ix2 0 j) + ∑ r : Fin 256, k0_pay15 (F := Ideal) x m (ix2 r j) := by
  pointwise [k0_pay18]

theorem pay19_apply (v : FVec Ideal S96x256 .bf16) (x : FVec Ideal S256x256 .f32) (m : Vec Ideal S1x1x256 .f32) (a : Vec Ideal S1x96x256 .f32) (d : Fin 96) (j : Fin 256) :
    k0_pay19 (F := Ideal) v x m a (ix3 0 d j) = a (ix3 0 d j) * k0_pay16 (F := Ideal) x m (ix2 0 j) + ∑ r : Fin 256, v (ix2 d r) * k0_pay15 (F := Ideal) x m (ix2 r j) := by
  pointwise [k0_pay19, dot_S96x256_S256x256_S96x256_1_0_0_1_n_n]

theorem pay12_apply (kk qq : IVec S256x256 32) (kb : FVec Ideal S256x96 .fp8e4m3) (ks : Vec Ideal S1x256x128 .f32) (q : Vec Ideal S1x256x96 .fp8e4m3)
    (b : FVec Ideal S256x256 .f32) (a : Vec Ideal S1x1x256 .f32) (r j : Fin 256) :
    k0_pay12 (F := Ideal) kk qq kb ks q b a (ix2 r j)
      = if BitVec.slt (qq (ix2 r j)) (kk (ix2 r j)) then ⊥
        else (∑ d : Fin 96, kb (ix2 r d) * q (ix3 0 j d)) * ks (ix3 0 r 0) * (a (ix3 0 0 j) * (((Real.sqrt 96)⁻¹ * (Real.log 2)⁻¹ : ℝ) : EReal))
          + b (ix2 r j) * (((Real.log 2)⁻¹ : ℝ) : EReal) := by
  pointwise [k0_pay12, k0_pay8, dot_S256x96_S256x96_S256x256_1_1_0_0_n_n]
  rw [ofBits_neg_inf, select_sgt, IdealRules.named_const.ideal_named_scalar Cert.KernelIdeal.κ "score_log2e" _ _ rfl,
    IdealRules.named_const.ideal_named_scalar Cert.KernelIdeal.κ "log2e" _ _ rfl]

theorem pay7_apply (v : Vec Ideal S1x96x256 .fp8e4m3) (s : Vec Ideal S1x1x256 .f32) (d : Fin 96) (r : Fin 256) :
    k0_pay7 (F := Ideal) v s (ix2 d r) = v (ix3 0 d r) * s (ix3 0 0 r) := by
  pointwise [k0_pay7]

theorem pay6_apply (k : Vec Ideal S1x256x96 .fp8e4m3) (r : Fin 256) (d : Fin 96) :
    k0_pay6 (F := Ideal) k (ix2 r d) = k (ix3 0 r d) := by
  pointwise [k0_pay6]

theorem pay5_apply (i : grid0.Coords) (v0 : BitVec 32) (c : Elt Ideal .f32) (rn : FVec Ideal S1x256 .f32) (k : Fin (k0_t1_loop i).trips) (r j : Fin 256) :
    k0_pay5 (F := Ideal) i v0 c (k0_pay138 rn) 0#32 1#32 k (ix2 r j)
      = if BitVec.slt (k0_pay4 v0 (ix2 r j)) (k0_pay3 i 0#32 1#32 k (ix2 r j)) then (Ideal.ofBits .f32 0x7FC00000#32)
        else Ideal.log1p (c * (((IntOp.maxsi (k0_pay4 v0 (ix2 r j) - k0_pay3 i 0#32 1#32 k (ix2 r j)) 0#32).toInt : ℝ) : EReal)) * rn (ix2 0 j) := by
  pointwise [k0_pay5, k0_pay138]
  rw [select_sgt]
  rfl

theorem pay3_apply (i : grid0.Coords) (k : Fin (k0_t1_loop i).trips) (r j : Fin 256) :
    k0_pay3 i 0#32 1#32 k (ix2 r j) = BitVec.ofNat 32 (256 * k.val + r.val) := by
  pointwise [k0_pay3]
  show (0#32 + BitVec.ofNat 32 k.val * 1#32) * 256#32 + BitVec.ofNat 32 r.val = _
  apply BitVec.eq_of_toNat_eq
  simp only [BitVec.toNat_add, BitVec.toNat_mul, BitVec.toNat_ofNat]
  omega

theorem pay4_apply (v0 : BitVec 32) (r j : Fin 256) :
    k0_pay4 v0 (ix2 r j) = v0 + BitVec.ofNat 32 j.val := by
  pointwise [k0_pay4]
  rfl

theorem out_apply (acc : Vec Ideal S1x96x256 .f32) (l : Vec Ideal S1x1x256 .f32) (j : Fin 256) (d : Fin 96) :
    k0_pay142 (F := Ideal) (k0_pay141 acc) l (ix3 0 j d) = Ideal.div (acc (ix3 0 d j)) (l (ix3 0 0 j)) := by
  pointwise [k0_pay142, k0_pay141]

end Cert.Proof.KernelIdeal

end
-- ==== Proof.KernelIdeal.Tables.lean ====
module

public import proofs.«01_k».proof.Proof.KernelIdeal.Host0
public import proofs.«01_k».proof.Proof.KernelIdeal.Host1
public import proofs.«01_k».proof.Proof.KernelIdeal.Host2
public import proofs.«01_k».proof.Proof.KernelIdeal.Host3
public import proofs.«01_k».proof.Proof.KernelIdeal.Host4
public import proofs.«01_k».proof.Proof.KernelIdeal.Counts
public import proofs.«01_k».proof.Proof.KernelIdeal.Payload
public import Idealize.ShloMosaic.Lib.SortFacts
@[expose] public section

/-! The tables of the bias, element by element: the thresholds in sorted order, the weights in that order, the lines
between the thresholds, and the thresholds that lie below and not above a tile. -/

set_option maxRecDepth 8192

noncomputable section

namespace Cert.Proof.KernelIdeal

open Cert.KernelIdeal Cert.KernelIdeal.Gen
open Idealize.ShloMosaic Idealize.ShloMosaic.TcCoe Idealize.ShloMosaic.Tactic

/-! ## Gathers at an index -/

theorem gather32_apply {α : Type} (x : S32.Idx → α) (idx : IVec S32x1 32) (n : Fin 32) :
    Host.gather gather_S32_S32x1_S32_n_0_n_n_0_1_1 x idx (ix1 n)
      = x (ix1 ⟨min (idx (ix2 n 0)).toInt.toNat 31, by omega⟩) := by
  unfold Host.gather
  congr 1
  funext a
  obtain rfl : a = 0 := Subsingleton.elim _ _
  refine Fin.ext ?_
  show GatherDims.start gather_S32_S32x1_S32_n_0_n_n_0_1_1 (ix1 n) idx 0 + GatherDims.batchCoord gather_S32_S32x1_S32_n_0_n_n_0_1_1 (ix1 n) 0 + GatherDims.offCoord gather_S32_S32x1_S32_n_0_n_n_0_1_1 (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S32_S32x1_S32_n_0_n_n_0_1_1).startIndexMap from List.mem_singleton.mpr rfl)]
  have hsi : GatherDims.siIdx gather_S32_S32x1_S32_n_0_n_n_0_1_1 (ix1 n) ⟨List.idxOf (0 : Fin 1) (gather_S32_S32x1_S32_n_0_n_n_0_1_1).startIndexMap,
      List.idxOf_lt_length_iff.2 (List.mem_singleton.mpr rfl)⟩ = ix2 n 0 := by
    funext b; refine Fin.ext ?_
    match b with
    | ⟨0, _⟩ => rfl
    | ⟨1, _⟩ => rfl
  rw [hsi]
  rfl

theorem gather32x40_apply {α : Type} (x : S32x40.Idx → α) (idx : IVec S32x1 32) (n : Fin 32) (h : Fin 40) :
    Host.gather gather_S32x40_S32x1_S32x40_1_0_n_n_0_1_140 x idx (ix2 n h)
      = x (ix2 ⟨min (idx (ix2 n 0)).toInt.toNat 31, by omega⟩ h) := by
  unfold Host.gather
  congr 1
  funext a
  refine Fin.ext ?_
  show GatherDims.start gather_S32x40_S32x1_S32x40_1_0_n_n_0_1_140 (ix2 n h) idx a + GatherDims.batchCoord gather_S32x40_S32x1_S32x40_1_0_n_n_0_1_140 (ix2 n h) a + GatherDims.offCoord gather_S32x40_S32x1_S32x40_1_0_n_n_0_1_140 (ix2 n h) a = _
  rw [GatherDims.batchCoord_eq_zero _ _ _ List.not_mem_nil]
  have ha : a = (0 : Fin 2) ∨ a = (1 : Fin 2) := by revert a; decide
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x40_S32x1_S32x40_1_0_n_n_0_1_140).startIndexMap from List.mem_singleton.mpr rfl)]
    have hsi : GatherDims.siIdx gather_S32x40_S32x1_S32x40_1_0_n_n_0_1_140 (ix2 n h) ⟨List.idxOf (0 : Fin 2) (gather_S32x40_S32x1_S32x40_1_0_n_n_0_1_140).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  · unfold GatherDims.start
    rw [dif_neg (show (1 : Fin 2) ∉ (gather_S32x40_S32x1_S32x40_1_0_n_n_0_1_140).startIndexMap by decide)]
    unfold GatherDims.offCoord
    rw [dif_pos (show (1 : Fin 2) ∈ (gather_S32x40_S32x1_S32x40_1_0_n_n_0_1_140).sKept by decide)]
    simp only [Nat.zero_add]
    rfl

theorem gather16384_apply {α : Type} (x : S16384.Idx → α) (idx : IVec S64x1x1 32) (a : Fin 64) :
    Host.gather gather_S16384_S64x1x1_S64x1_n_0_n_n_0_2_1 x idx (ix2 a 0)
      = x (ix1 ⟨min (idx (ix3 a 0 0)).toInt.toNat 16383, by omega⟩) := by
  unfold Host.gather
  congr 1
  funext b
  obtain rfl : b = 0 := Subsingleton.elim _ _
  refine Fin.ext ?_
  show GatherDims.start gather_S16384_S64x1x1_S64x1_n_0_n_n_0_2_1 (ix2 a 0) idx 0 + GatherDims.batchCoord gather_S16384_S64x1x1_S64x1_n_0_n_n_0_2_1 (ix2 a 0) 0 + GatherDims.offCoord gather_S16384_S64x1x1_S64x1_n_0_n_n_0_2_1 (ix2 a 0) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S16384_S64x1x1_S64x1_n_0_n_n_0_2_1).startIndexMap from List.mem_singleton.mpr rfl)]
  have hsi : GatherDims.siIdx gather_S16384_S64x1x1_S64x1_n_0_n_n_0_2_1 (ix2 a 0) ⟨List.idxOf (0 : Fin 1) (gather_S16384_S64x1x1_S64x1_n_0_n_n_0_2_1).startIndexMap,
      List.idxOf_lt_length_iff.2 (List.mem_singleton.mpr rfl)⟩ = ix3 a 0 0 := by
    funext b; refine Fin.ext ?_
    match b with
    | ⟨0, _⟩ => rfl
    | ⟨1, _⟩ => rfl
    | ⟨2, _⟩ => rfl
  rw [hsi]
  rfl

/-! ## The sorted order -/

variable (m : (ℓ : Loc nD τ sig) → Buf (Elt Ideal) ℓ)

/-- The threshold of a hidden unit: where its line crosses zero. -/
def thr (c : Dev nD) (n : Fin 32) : EReal := V m c main_v7 (ix1 n)

/-- The comparator of the sort is the order of the thresholds. -/
theorem comparator_eq (l r : EReal × BitVec 32) :
    (comparator_f32_i32_d0 (F := Ideal) l r == 1#1) = decide (l.1 < r.1) := by
  have h0 : (FloatOps.ofBits .f32 0x00000000#32 : Ideal .f32) = (0 : EReal) := Ideal.ofBits_zero_f32
  have hs : ∀ x : EReal, Scalar.select (Ideal.cmp .une x x) (FloatOps.ofBits (F := Ideal) .f32 0x7FC00000#32)
      (Scalar.select (Ideal.cmp .oeq x 0) (0 : EReal) x) = x := by
    intro x
    by_cases hx : x = 0 <;> simp [Ideal.cmp, Scalar.select, hx]
  have : comparator_f32_i32_d0 (F := Ideal) l r = Ideal.cmp .olt l.1 r.1 := by
    unfold comparator_f32_i32_d0
    simp only [h0]
    show Ideal.cmp .olt (Scalar.select (Ideal.cmp .une l.1 l.1) (FloatOps.ofBits (F := Ideal) .f32 0x7FC00000#32)
      (Scalar.select (Ideal.cmp .oeq l.1 0) (0 : EReal) l.1)) (Scalar.select (Ideal.cmp .une r.1 r.1) (FloatOps.ofBits (F := Ideal) .f32 0x7FC00000#32)
      (Scalar.select (Ideal.cmp .oeq r.1 0) (0 : EReal) r.1)) = _
    rw [hs, hs]
  rw [this]
  by_cases h : l.1 < r.1 <;> simp [Ideal.cmp, h]

/-- The hidden unit at a place of the sorted order. -/
def ord (c : Dev nD) : Fin 32 → Fin 32 := sortedFrom fun k k' => decide (thr m c k < thr m c k')

theorem ord_bijective (c : Dev nD) : Function.Bijective (ord m c) :=
  ⟨sortedFrom_injective _, sortedFrom_surjective _⟩

theorem thr_ord_mono (c : Dev nD) {i j : Fin 32} (h : i < j) : thr m c (ord m c i) ≤ thr m c (ord m c j) := by
  have := sortedFrom_noInversion (fun k k' => decide (thr m c k < thr m c k')) (fun k k' => decide (thr m c k < thr m c k'))
    (fun a b h => by simp only [decide_eq_true_eq, decide_eq_false_iff_not] at h ⊢; exact h.le.not_gt)
    (fun a b h => h)
    (fun a b c h h' => by simp only [decide_eq_false_iff_not, not_lt] at h h' ⊢; exact h'.trans h) i j h
  simpa [ord] using this

theorem V8_apply (c : Dev nD) (n : Fin 32) : V m c main_v8 (ix1 n) = BitVec.ofNat 32 (ord m c n).val := by
  rw [V8]
  generalize hx : (V m c main_v7 : (⟨S32, .f32⟩ : BufTy).Contents (Elt Ideal)) = x
  have hp : ∀ k : Fin 32, (Shape.Idx.along (s := S32) (ix1 n) (0 : Fin 1) k) = ix1 k := by
    intro k; funext a; match a with | ⟨0, _⟩ => rfl
  have hs : (Host.sort2 S32 0 (comparator_f32_i32_d0 (F := Ideal)) x (iotaInDim S32 32 0)).2 (ix1 n)
      = iotaInDim S32 32 0 (Shape.Idx.along (s := S32) (ix1 n) (0 : Fin 1) (sortedFrom (n := 32) (fun k k' =>
          comparator_f32_i32_d0 (F := Ideal) (x (Shape.Idx.along (s := S32) (ix1 n) (0 : Fin 1) k), iotaInDim S32 32 0 (Shape.Idx.along (s := S32) (ix1 n) (0 : Fin 1) k))
            (x (Shape.Idx.along (s := S32) (ix1 n) (0 : Fin 1) k'), iotaInDim S32 32 0 (Shape.Idx.along (s := S32) (ix1 n) (0 : Fin 1) k')) == 1#1) n)) := rfl
  rw [hs]
  simp only [hp]
  have hb : (fun k k' : Fin 32 => comparator_f32_i32_d0 (F := Ideal) (x (ix1 k), iotaInDim S32 32 0 (ix1 k)) (x (ix1 k'), iotaInDim S32 32 0 (ix1 k')) == 1#1)
      = fun k k' => decide (thr m c k < thr m c k') := by
    funext k k'
    rw [comparator_eq, ← hx]
    rfl
  rw [hb]
  rfl

end Cert.Proof.KernelIdeal

end
-- ==== Proof.Math.Bias.lean ====
module

public import Mathlib.Analysis.SpecialFunctions.Log.Basic
public import Mathlib.Algebra.BigOperators.Group.Finset.Basic
@[expose] public section

/-!
The bias network as a piecewise linear function. A network of one input `u`, `n` hidden units with weights `w1`, offsets
`b1`, a `max · 0` each and output weights `w2` is the sum of a linear part (the units known to be on) and of one term per
unit whose kink `-b1/w1` may lie near `u`.
-/

namespace Cert.Proof.Math

open Finset

/-- One unit's share, split at two ranks `lo` and `hi`: below `lo` the kink is at most `u`, from `hi` on it is at least
    `u`, between them the kink is met by a term of its own. -/
theorem unit_split (w1 b1 w2 u : ℝ) (pre mid : Prop) [Decidable pre] [Decidable mid]
    (hpre : pre → w1 ≠ 0 ∧ -b1 / w1 ≤ u) (hmid : mid → w1 ≠ 0) (hpm : mid → ¬ pre)
    (hpost : ¬ pre → ¬ mid → w1 ≠ 0 → u ≤ -b1 / w1) :
    u * ((if 0 < w1 then (if pre then 1 else 0) else if w1 < 0 then (if pre then 0 else 1) else if 0 < b1 then 1 else 0)
          * (w1 * w2))
      + (if 0 < w1 then (if pre then 1 else 0) else if w1 < 0 then (if pre then 0 else 1) else if 0 < b1 then 1 else 0)
          * (b1 * w2)
      + (if mid then max (u - -b1 / w1) 0 * (|w1| * w2) else 0)
      = max (u * w1 + b1) 0 * w2 := by
  rcases lt_trichotomy w1 0 with h | h | h
  · have e : u * w1 + b1 = (u - -b1 / w1) * w1 := by have := h.ne; field_simp; ring
    rw [if_neg (not_lt.mpr h.le), if_pos h, abs_of_neg h]
    by_cases hp : pre
    · have hm : ¬ mid := fun q => hpm q hp
      rw [if_pos hp, if_neg hm, e, max_eq_right (mul_nonpos_of_nonneg_of_nonpos (sub_nonneg.mpr (hpre hp).2) h.le)]
      ring
    · rw [if_neg hp]
      by_cases hm : mid
      · rw [if_pos hm]
        rcases le_total 0 (u - -b1 / w1) with q | q
        · rw [max_eq_left q, e, max_eq_right (mul_nonpos_of_nonneg_of_nonpos q h.le)]
          linear_combination w2 * e
        · rw [max_eq_right q, e, max_eq_left (mul_nonneg_of_nonpos_of_nonpos q h.le)]
          linear_combination w2 * e
      · rw [if_neg hm, e, max_eq_left (mul_nonneg_of_nonpos_of_nonpos (sub_nonpos.mpr (hpost hp hm h.ne)) h.le)]
        linear_combination w2 * e
  · subst h
    have hp : ¬ pre := fun q => (hpre q).1 rfl
    have hm : ¬ mid := fun q => hmid q rfl
    rw [if_neg (lt_irrefl _), if_neg (lt_irrefl _), if_neg hm]
    by_cases hb : 0 < b1
    · rw [if_pos hb, mul_zero, zero_add, max_eq_left hb.le]; ring
    · rw [if_neg hb, mul_zero, zero_add, max_eq_right (not_lt.mp hb)]; ring
  · have e : u * w1 + b1 = (u - -b1 / w1) * w1 := by field_simp; ring
    rw [if_pos h, abs_of_pos h]
    by_cases hp : pre
    · have hm : ¬ mid := fun q => hpm q hp
      rw [if_pos hp, if_neg hm, e, max_eq_left (mul_nonneg (sub_nonneg.mpr (hpre hp).2) h.le)]
      linear_combination w2 * e
    · rw [if_neg hp]
      by_cases hm : mid
      · rw [if_pos hm]
        rcases le_total 0 (u - -b1 / w1) with q | q
        · rw [max_eq_left q, e, max_eq_left (mul_nonneg q h.le)]; ring
        · rw [max_eq_right q, e, max_eq_right (mul_nonpos_of_nonpos_of_nonneg q h.le)]; ring
      · rw [if_neg hm, e, max_eq_right (mul_nonpos_of_nonpos_of_nonneg (sub_nonpos.mpr (hpost hp hm h.ne')) h.le)]
        ring

/-- A quotient of logarithms grows when the numerator's argument grows by the larger factor. -/
theorem log_div_mono {a a' b b' : ℝ} (ha : 1 ≤ a) (hab : a ≤ b) (hb : 1 < b) (hbb : b ≤ b') (h : b' * a ≤ a' * b) :
    Real.log a / Real.log b ≤ Real.log a' / Real.log b' := by
  have ha0 : 0 < a := by linarith
  have hb0 : 0 < b := by linarith
  have hb'0 : 0 < b' := by linarith
  have ha'0 : 0 < a' := by
    have := mul_pos hb'0 ha0
    exact pos_of_mul_pos_left (lt_of_lt_of_le this h) hb0.le
  have la := Real.log_nonneg ha
  have lab := Real.log_le_log ha0 hab
  have lb := Real.log_pos hb
  have lbb := Real.log_le_log hb0 hbb
  have key := Real.log_le_log (mul_pos hb'0 ha0) h
  rw [Real.log_mul hb'0.ne' ha0.ne', Real.log_mul ha'0.ne' hb0.ne'] at key
  rw [div_le_div_iff₀ lb (lt_of_lt_of_le lb lbb)]
  nlinarith [mul_nonneg (sub_nonneg.mpr lbb) (sub_nonneg.mpr lab), mul_nonneg la (sub_nonneg.mpr lbb)]

/-- The scaled distance of a query `i` to a key `j`. -/
noncomputable def dist (c L i j : ℝ) : ℝ := Real.log (1 + c * max (i - j) 0) / Real.log (1 + c * max L i)

/-- The scaled distance grows with the query and falls with the key. -/
theorem dist_mono {c L i i' j j' : ℝ} (hc : 0 < c) (hL : 0 < L) (hi0 : 0 ≤ i) (hi : i ≤ i') (hj0 : 0 ≤ j') (hj : j' ≤ j) :
    dist c L i j ≤ dist c L i' j' := by
  unfold dist
  have p1 : 0 ≤ max (i - j) 0 := le_max_right _ _
  have p2 : max (i - j) 0 ≤ max L i := max_le (by
    have := le_max_right L i; linarith) (le_trans hi0 (le_max_right _ _))
  have p3 : 0 < max L i := lt_of_lt_of_le hL (le_max_left _ _)
  have p4 : max L i ≤ max L i' := max_le_max le_rfl hi
  -- the increments
  have p5 : max L i' - max L i ≤ i' - i := by
    rcases le_total L i' with q | q
    · rw [max_eq_right q]; have := le_max_right L i; linarith
    · rw [max_eq_left q, max_eq_left (le_trans hi q)]; linarith
  have p7 : 0 ≤ max (i' - j') 0 := le_max_right _ _
  by_cases hz : i - j ≤ 0
  · rw [max_eq_right hz]
    simp only [mul_zero, add_zero, Real.log_one, zero_div]
    refine div_nonneg (Real.log_nonneg ?_) (Real.log_nonneg ?_)
    · have := mul_nonneg hc.le p7; linarith
    · have := mul_nonneg hc.le (le_trans p3.le p4); linarith
  · have hz' : 0 < i - j := not_le.mp hz
    have e1 : max (i - j) 0 = i - j := max_eq_left hz'.le
    have e2 : max (i' - j') 0 = i' - j' := max_eq_left (by linarith)
    rw [e1] at p1 p2 ⊢
    rw [e2] at p7 ⊢
    refine log_div_mono ?_ ?_ ?_ ?_ ?_
    · have := mul_nonneg hc.le p1; linarith
    · have := mul_le_mul_of_nonneg_left p2 hc.le; linarith
    · have := mul_pos hc p3; linarith
    · have := mul_le_mul_of_nonneg_left p4 hc.le; linarith
    · generalize max L i = B at *
      generalize max L i' = B' at *
      have k1 : B' - B ≤ (i' - j') - (i - j) := by linarith
      generalize i - j = x at *
      generalize i' - j' = y at *
      have k2 : 0 ≤ B' - B := by linarith
      have k3 : 0 ≤ c * (y - x - (B' - B)) := mul_nonneg hc.le (by linarith)
      have k4 : 0 ≤ c * c * ((y - x) * B - (B' - B) * x) := by
        refine mul_nonneg (mul_nonneg hc.le hc.le) ?_
        have : (B' - B) * x ≤ (y - x) * B := mul_le_mul k1 p2 p1 (by linarith)
        linarith
      nlinarith [k3, k4]

end Cert.Proof.Math
-- ==== Proof.Math.Softmax.lean ====
/-
  The streaming softmax over the extended reals: a running maximum, a running sum of exponentials and a running weighted
  sum, updated tile by tile, end at the softmax's own weighted mean. Scores, weights may be infinite.
-/
module

public import Idealize.ShloMosaic.PureOps.Ideal

@[expose] public section

namespace Cert.Proof.Math

open Idealize.ShloMosaic

/-! ## Extended-real arithmetic -/

theorem sum_mul_coe {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem exp2_sub_top (x : EReal) : Ideal.exp2 (x - ⊤) = 0 := by
  rw [EReal.sub_top]; rfl

theorem exp2_bot_sub (x : EReal) : Ideal.exp2 (⊥ - x) = 0 := by
  rw [EReal.bot_sub]; rfl

/-- Moving the reference point of a base-two exponential up. -/
theorem exp2_mul_exp2 {x m m' : EReal} (hx : x ≤ m) (hm : m ≤ m') (hb : m ≠ ⊥) :
    Ideal.exp2 (x - m) * Ideal.exp2 (m - m') = Ideal.exp2 (x - m') := by
  induction m' with
  | bot => exact absurd (le_bot_iff.mp hm) hb
  | top => rw [exp2_sub_top, exp2_sub_top, mul_zero]
  | coe m' =>
    induction m with
    | bot => exact absurd rfl hb
    | top => exact absurd (top_le_iff.mp hm) (EReal.coe_ne_top _)
    | coe m =>
      induction x with
      | bot => rw [exp2_bot_sub, exp2_bot_sub, zero_mul]
      | top => exact absurd (top_le_iff.mp hx) (EReal.coe_ne_top _)
      | coe x =>
        rw [← EReal.coe_sub, ← EReal.coe_sub, ← EReal.coe_sub, Ideal.exp2_coe, Ideal.exp2_coe, Ideal.exp2_coe, ← EReal.coe_mul]
        congr 1
        show (2 : ℝ) ^ (x - m) * (2 : ℝ) ^ (m - m') = (2 : ℝ) ^ (x - m')
        rw [← Real.rpow_add (by norm_num)]; congr 1; ring

/-- The rescaling factor is a real number that is not negative. -/
theorem exp2_sub_coe {m m' : EReal} (hm : m ≤ m') (hb : m ≠ ⊥) : ∃ r : ℝ, 0 ≤ r ∧ Ideal.exp2 (m - m') = (r : EReal) := by
  induction m' with
  | bot => exact absurd (le_bot_iff.mp hm) hb
  | top => exact ⟨0, le_rfl, by rw [exp2_sub_top]; rfl⟩
  | coe m' =>
    induction m with
    | bot => exact absurd rfl hb
    | top => exact absurd (top_le_iff.mp hm) (EReal.coe_ne_top _)
    | coe m => exact ⟨(2 : ℝ) ^ (m - m'), Real.rpow_nonneg (by norm_num) _, by rw [← EReal.coe_sub, Ideal.exp2_coe]; rfl⟩

/-! ## The recursion -/

/-- What the three running quantities are after the first `N` keys, whose scores are `x` and weights `w`. -/
structure Running (x w : ℕ → EReal) (m0 : EReal) (N : ℕ) (m l a : EReal) : Prop where
  max : m = m0 ⊔ (Finset.range N).sup x
  sum : l = ∑ j ∈ Finset.range N, Ideal.exp2 (x j - m)
  acc : a = ∑ j ∈ Finset.range N, w j * Ideal.exp2 (x j - m)

theorem Running.zero (x w : ℕ → EReal) (m0 : EReal) : Running x w m0 0 m0 0 0 := ⟨by simp, by simp, by simp⟩

theorem sum_range_add' (f : ℕ → EReal) (N n : ℕ) :
    ∑ j ∈ Finset.range (N + n), f j = ∑ j ∈ Finset.range N, f j + ∑ r : Fin n, f (N + r) := by
  rw [Finset.sum_range_add, Finset.sum_range (fun r => f (N + r))]

theorem sup_range_add (f : ℕ → EReal) (N n : ℕ) :
    (Finset.range (N + n)).sup f = (Finset.range N).sup f ⊔ Finset.univ.sup fun r : Fin n => f (N + r) := by
  apply le_antisymm
  · refine Finset.sup_le fun j hj => ?_
    rcases lt_or_ge j N with h | h
    · exact le_sup_of_le_left (Finset.le_sup (f := f) (Finset.mem_range.mpr h))
    · refine le_sup_of_le_right ?_
      have hj' := Finset.mem_range.mp hj
      have := Finset.le_sup (f := fun r : Fin n => f (N + r)) (Finset.mem_univ (⟨j - N, by omega⟩ : Fin n))
      simpa [Nat.add_sub_cancel' h] using this
  · refine sup_le (Finset.sup_mono (Finset.range_subset_range.mpr (Nat.le_add_right N n))) (Finset.sup_le fun r _ => ?_)
    exact Finset.le_sup (f := f) (Finset.mem_range.mpr (by have := r.isLt; omega))

/-- One tile of `n` keys. -/
theorem Running.step {x w : ℕ → EReal} {m0 : EReal} (h0 : m0 ≠ ⊥) {N n : ℕ} {m l a m' l' a' : EReal} (h : Running x w m0 N m l a)
    (hm : m' = m ⊔ Finset.univ.sup fun r : Fin n => x (N + r))
    (hl : l' = l * Ideal.exp2 (m - m') + ∑ r : Fin n, Ideal.exp2 (x (N + r) - m'))
    (ha : a' = a * Ideal.exp2 (m - m') + ∑ r : Fin n, w (N + r) * Ideal.exp2 (x (N + r) - m')) :
    Running x w m0 (N + n) m' l' a' := by
  have hmb : m ≠ ⊥ := by
    rw [h.max]; intro hb; exact h0 (le_bot_iff.mp (hb ▸ le_sup_left))
  have hle : m ≤ m' := hm ▸ le_sup_left
  have hx : ∀ j ∈ Finset.range N, x j ≤ m := fun j hj => by
    rw [h.max]; exact le_sup_of_le_right (Finset.le_sup (f := x) hj)
  obtain ⟨r, hr, hre⟩ := exp2_sub_coe hle hmb
  refine ⟨?_, ?_, ?_⟩
  · rw [hm, h.max, sup_range_add, sup_assoc]
  · rw [hl, h.sum, hre, sum_mul_coe _ _ _ hr, sum_range_add']
    congr 1
    refine Finset.sum_congr rfl fun j hj => ?_
    rw [← hre, exp2_mul_exp2 (hx j hj) hle hmb]
  · rw [ha, h.acc, hre, sum_mul_coe _ _ _ hr, sum_range_add']
    congr 1
    refine Finset.sum_congr rfl fun j hj => ?_
    rw [← hre, mul_assoc, exp2_mul_exp2 (hx j hj) hle hmb]

/-! ## The end of the recursion against the softmax -/

theorem coe_mul_top_of_pos {κ : ℝ} (h : 0 < κ) : (⊤ : EReal) * (κ : EReal) = ⊤ := EReal.top_mul_coe_of_pos h
theorem bot_mul_coe_of_pos {κ : ℝ} (h : 0 < κ) : (⊥ : EReal) * (κ : EReal) = ⊥ := EReal.bot_mul_coe_of_pos h

theorem le_sup_univ {n : ℕ} (s : Fin n → EReal) (j : Fin n) : s j ≤ Finset.univ.sup s := Finset.le_sup (Finset.mem_univ j)

/-- A maximum over a nonempty finite family is one of its members. -/
theorem exists_eq_sup {n : ℕ} (hn : 0 < n) (s : Fin n → EReal) : ∃ j, s j = Finset.univ.sup s := by
  haveI : Nonempty (Fin n) := ⟨⟨0, hn⟩⟩
  obtain ⟨j, -, hj⟩ := Finset.exists_mem_eq_sup Finset.univ Finset.univ_nonempty s
  exact ⟨j, hj.symm⟩

/-- Over `n` keys with scores `s` in the natural base: the running quantities of the scores in base two, over the first `N`
    keys, the later ones being masked (`⊥`), give the quotient of the softmax. -/
theorem Running.quotient {n N : ℕ} (hN : N ≤ n) (hn : 0 < n) (s w : Fin n → EReal) (x w' : ℕ → EReal)
    (hx : ∀ j : Fin n, j.val < N → x j = s j * (((Real.log 2)⁻¹ : ℝ) : EReal)) (hw : ∀ j : Fin n, j.val < N → w' j = w j)
    (hs : ∀ j : Fin n, N ≤ j.val → s j = ⊥) (r0 : ℝ) {m l a : EReal} (h : Running x w' (r0 : EReal) N m l a) :
    Ideal.div a l = Ideal.div (∑ j, w j * Ideal.exp (s j - Finset.univ.sup s)) (∑ j, Ideal.exp (s j - Finset.univ.sup s)) := by
  have hlog : 0 < Real.log 2 := Real.log_pos (by norm_num)
  have hκ : 0 < (Real.log 2)⁻¹ := inv_pos.mpr hlog
  set κ := (Real.log 2)⁻¹ with hκd
  set M := Finset.univ.sup s with hM
  -- the running sums over all keys
  have hl : l = ∑ j : Fin n, Ideal.exp2 (s j * (κ : EReal) - m) := by
    rw [h.sum, Finset.sum_range]
    rw [← Finset.sum_subset (Finset.subset_univ (Finset.univ.map (Fin.castLEEmb hN)))]
    · rw [Finset.sum_map]
      exact Finset.sum_congr rfl fun j _ => by
        rw [show (Fin.castLEEmb hN) j = Fin.castLE hN j from rfl, ← hx (Fin.castLE hN j) j.isLt]; rfl
    · intro j _ hj
      have : N ≤ j.val := by
        by_contra hc
        exact hj (Finset.mem_map.mpr ⟨⟨j.val, by omega⟩, Finset.mem_univ _, rfl⟩)
      rw [hs j this, bot_mul_coe_of_pos hκ, exp2_bot_sub]
  have ha : a = ∑ j : Fin n, w j * Ideal.exp2 (s j * (κ : EReal) - m) := by
    rw [h.acc, Finset.sum_range]
    rw [← Finset.sum_subset (Finset.subset_univ (Finset.univ.map (Fin.castLEEmb hN)))]
    · rw [Finset.sum_map]
      exact Finset.sum_congr rfl fun j _ => by
        rw [show (Fin.castLEEmb hN) j = Fin.castLE hN j from rfl, ← hx (Fin.castLE hN j) j.isLt, ← hw (Fin.castLE hN j) j.isLt]; rfl
    · intro j _ hj
      have : N ≤ j.val := by
        by_contra hc
        exact hj (Finset.mem_map.mpr ⟨⟨j.val, by omega⟩, Finset.mem_univ _, rfl⟩)
      rw [hs j this, bot_mul_coe_of_pos hκ, exp2_bot_sub, mul_zero]
  have hmr : (r0 : EReal) ≤ m := by rw [h.max]; exact le_sup_left
  have hmle : ∀ j, s j * (κ : EReal) ≤ m := fun j => by
    rcases lt_or_ge j.val N with hj | hj
    · rw [h.max, ← hx j hj]; exact le_sup_of_le_right (Finset.le_sup (f := x) (Finset.mem_range.mpr hj))
    · rw [hs j hj, bot_mul_coe_of_pos hκ]; exact bot_le
  -- the cases of the maximum
  have hzero : (∀ j, Ideal.exp2 (s j * (κ : EReal) - m) = 0) → (∀ j, Ideal.exp (s j - M) = 0) →
      Ideal.div a l = Ideal.div (∑ j, w j * Ideal.exp (s j - M)) (∑ j, Ideal.exp (s j - M)) := fun h1 h2 => by
    rw [ha, hl]; simp only [h1, h2, mul_zero]
  obtain ⟨jm, hjm⟩ := exists_eq_sup hn s
  rcases eq_or_ne M ⊥ with hb | hb
  · have : ∀ j, s j = ⊥ := fun j => le_bot_iff.mp (hb ▸ le_sup_univ s j)
    refine hzero (fun j => ?_) fun j => ?_
    · rw [this, bot_mul_coe_of_pos hκ, exp2_bot_sub]
    · rw [this, EReal.bot_sub]; rfl
  rcases eq_or_ne M ⊤ with ht | ht
  · have hmt : m = ⊤ := by
      have := hmle jm
      rw [hjm, ← hM, ht, coe_mul_top_of_pos hκ] at this
      exact top_le_iff.mp this
    refine hzero (fun j => ?_) fun j => ?_
    · rw [hmt, exp2_sub_top]
    · rw [ht, EReal.sub_top]; rfl
  -- the maximum is a real number
  obtain ⟨M', hM'⟩ : ∃ M' : ℝ, M = (M' : EReal) := ⟨M.toReal, (EReal.coe_toReal ht hb).symm⟩
  have hmt : m ≠ ⊤ := by
    rw [h.max]
    refine (sup_lt_iff.mpr ⟨EReal.coe_lt_top r0, (Finset.sup_lt_iff bot_lt_top).mpr fun j hj => ?_⟩).ne
    have hj' := Finset.mem_range.mp hj
    have := hx ⟨j, by omega⟩ hj'
    simp only at this
    rw [this]
    have hsM : s ⟨j, by omega⟩ ≤ (M' : EReal) := hM' ▸ le_sup_univ s _
    generalize s ⟨j, _⟩ = y at hsM ⊢
    induction y with
    | bot => rw [bot_mul_coe_of_pos hκ]; exact bot_lt_top
    | top => exact absurd (top_le_iff.mp hsM) (EReal.coe_ne_top _)
    | coe y => rw [← EReal.coe_mul]; exact EReal.coe_lt_top _
  have hmb : m ≠ ⊥ := fun hb' => by rw [hb'] at hmr; exact EReal.coe_ne_bot _ (le_bot_iff.mp hmr)
  obtain ⟨m', hm'⟩ : ∃ m' : ℝ, m = (m' : EReal) := ⟨m.toReal, (EReal.coe_toReal hmt hmb).symm⟩
  set C : ℝ := (2 : ℝ) ^ (M' * κ - m') with hC
  have hCpos : 0 < C := Real.rpow_pos_of_pos (by norm_num) _
  have key : ∀ j, Ideal.exp2 (s j * (κ : EReal) - m) = Ideal.exp (s j - M) * (C : EReal) := fun j => by
    have hsM : s j ≤ (M' : EReal) := hM' ▸ le_sup_univ s j
    rw [hm', hM']
    generalize s j = y at hsM ⊢
    induction y with
    | bot => rw [bot_mul_coe_of_pos hκ, exp2_bot_sub, EReal.bot_sub, Ideal.exp_bot, zero_mul]
    | top => exact absurd (top_le_iff.mp hsM) (EReal.coe_ne_top _)
    | coe y =>
      rw [← EReal.coe_mul, ← EReal.coe_sub, ← EReal.coe_sub, Ideal.exp2_coe, Ideal.exp_coe, ← EReal.coe_mul]
      congr 1
      show (2 : ℝ) ^ (y * κ - m') = Real.exp (y - M') * C
      rw [hC, Real.rpow_def_of_pos (by norm_num), Real.rpow_def_of_pos (by norm_num), ← Real.exp_add]
      congr 1
      rw [hκd]; field_simp; ring
  have hsum : ∃ L : ℝ, 0 < L ∧ ∑ j, Ideal.exp (s j - M) = (L : EReal) := by
    have hr : ∀ j, ∃ e : ℝ, 0 ≤ e ∧ Ideal.exp (s j - M) = (e : EReal) := fun j => by
      have hsM : s j ≤ (M' : EReal) := hM' ▸ le_sup_univ s j
      rw [hM']
      generalize s j = y at hsM ⊢
      induction y with
      | bot => exact ⟨0, le_rfl, by rw [EReal.bot_sub]; rfl⟩
      | top => exact absurd (top_le_iff.mp hsM) (EReal.coe_ne_top _)
      | coe y => exact ⟨Real.exp (y - M'), (Real.exp_pos _).le, by rw [← EReal.coe_sub, Ideal.exp_coe]⟩
    choose e he hee using hr
    refine ⟨∑ j, e j, ?_, ?_⟩
    · refine Finset.sum_pos' (fun j _ => he j) ⟨jm, Finset.mem_univ _, ?_⟩
      have : Ideal.exp (s jm - M) = ((1 : ℝ) : EReal) := by
        rw [hjm, ← hM, hM', ← EReal.coe_sub, sub_self, Ideal.exp_coe, Real.exp_zero]
      rw [hee] at this
      rw [EReal.coe_eq_coe_iff.mp this]; norm_num
    · simp only [hee]; exact (map_sum (⟨⟨fun r : ℝ => (r : EReal), rfl⟩, fun _ _ => EReal.coe_add _ _⟩ : ℝ →+ EReal) e Finset.univ).symm
  obtain ⟨L, hL, hLe⟩ := hsum
  have hl' : l = ((L * C : ℝ) : EReal) := by
    rw [hl]; simp only [key]; rw [← sum_mul_coe _ _ _ hCpos.le, hLe, ← EReal.coe_mul]
  have ha' : a = (∑ j, w j * Ideal.exp (s j - M)) * (C : EReal) := by
    rw [ha]; simp only [key, ← mul_assoc]; rw [← sum_mul_coe _ _ _ hCpos.le]
  rw [hLe, hl', ha', Ideal.div_coe (mul_pos hL hCpos).ne', Ideal.div_coe hL.ne', mul_assoc, ← EReal.coe_mul]
  congr 2
  field_simp

end Cert.Proof.Math

end
-- ==== Proof.Math.BiasValue.lean ====
module

public import proofs.«01_k».proof.Proof.Math.Bias
public import proofs.«01_k».proof.Proof.Math.Softmax
@[expose] public section

/-! The bias of a pair of positions, from the tables: the line of its segment and the kinks inside its tile add up to
the network's output. -/

noncomputable section

namespace Cert.Proof.Math

open Finset

/-- A sum of coerced reals. -/
theorem coe_sum' {ι : Type*} (s : Finset ι) (f : ι → ℝ) : ((∑ n ∈ s, f n : ℝ) : EReal) = ∑ n ∈ s, (f n : EReal) := by
  classical
  induction s using Finset.induction_on with
  | empty => simp
  | insert a s ha ih => rw [Finset.sum_insert ha, Finset.sum_insert ha, EReal.coe_add, ih]

/-- The terms from `lo` up to `hi` are the terms of all 32 places with the others dropped. -/
theorem sum_range_mid (lo hi : ℕ) (hhi : hi ≤ 32) (f : ℕ → EReal) :
    (∑ n ∈ range (hi - lo), f (lo + n)) = ∑ n : Fin 32, if lo ≤ n.val ∧ n.val < hi then f n.val else 0 := by
  rw [Fin.sum_univ_eq_sum_range (fun n => if lo ≤ n ∧ n < hi then f n else 0) 32, ← Finset.sum_filter,
    ← Finset.sum_Ico_eq_sum_range]
  refine Finset.sum_congr ?_ fun _ _ => rfl
  ext n; simp only [Finset.mem_Ico, Finset.mem_filter, Finset.mem_range]; omega

/-- Whether a hidden unit counts as on, from its weight, its offset and whether its threshold lies below the tile. -/
def on (w : ℝ) (b : EReal) (pre : Prop) [Decidable pre] : ℝ :=
  if 0 < w then (if pre then 1 else 0) else if w < 0 then (if pre then 0 else 1) else if 0 < b then 1 else 0

/-- What is known of a hidden unit. A real offset has a threshold, which lies where the tile's range says; a unit with an
    infinite offset is on or off everywhere and has no kink. -/
def Placed (w : ℝ) (b : EReal) (u : ℝ) (pre mid : Prop) (t : EReal) : Prop :=
  (∃ r : ℝ, b = (r : EReal) ∧ (pre → w ≠ 0 ∧ -r / w ≤ u) ∧ (mid → w ≠ 0 ∧ t = ((-r / w : ℝ) : EReal))
      ∧ (¬ pre → ¬ mid → w ≠ 0 → u ≤ -r / w))
    ∨ (b = ⊤ ∧ ¬ mid ∧ (0 < w → pre) ∧ (w < 0 → ¬ pre))
    ∨ (b = ⊥ ∧ ¬ mid ∧ (0 < w → ¬ pre) ∧ (w < 0 → pre))

/-- One unit's share: its line and its kink add up to its output. -/
theorem unit_value (w v u : ℝ) (b t k : EReal) (pre mid : Prop) [Decidable pre] [Decidable mid] (hpm : mid → ¬ pre)
    (h : Placed w b u pre mid t) (hk : k = (|w| : ℝ) * (v : EReal)) :
    ((u * (on w b pre * (w * v)) : ℝ) : EReal) + (on w b pre : EReal) * (b * (v : EReal))
        + (if mid then max ((u : EReal) - t) 0 * k else 0)
      = max ((u : EReal) * (w : EReal) + b) 0 * (v : EReal) := by
  rcases h with ⟨r, rfl, h1, h2, h3⟩ | ⟨rfl, h1, h2, h3⟩ | ⟨rfl, h1, h2, h3⟩
  · have key := unit_split w r v u pre mid h1 (fun q => (h2 q).1) hpm h3
    have hon : on w (r : EReal) pre = if 0 < w then (if pre then 1 else 0) else if w < 0 then (if pre then 0 else 1) else if 0 < r then 1 else 0 := by
      unfold on
      simp only [EReal.coe_pos]
    have hmax : max ((u : EReal) * (w : EReal) + (r : EReal)) 0 = ((max (u * w + r) 0 : ℝ) : EReal) := by
      rw [EReal.coe_strictMono.monotone.map_max]; rfl
    rw [hmax, ← EReal.coe_mul (max (u * w + r) 0), ← key, hon, EReal.coe_add, EReal.coe_add]
    congr 1
    by_cases hm : mid
    · rw [if_pos hm, if_pos hm, (h2 hm).2, hk]
      have hmax' : max ((u : EReal) - ((-r / w : ℝ) : EReal)) 0 = ((max (u - -r / w) 0 : ℝ) : EReal) := by
        rw [EReal.coe_strictMono.monotone.map_max]; rfl
      rw [hmax']
      push_cast
      rfl
    · rw [if_neg hm, if_neg hm]; rfl
  · have hon : on w ⊤ pre = 1 := by
      unfold on
      split_ifs <;> simp_all
    rw [hon, if_neg h1, add_zero, one_mul, EReal.coe_one, one_mul, ← EReal.coe_mul, EReal.coe_add_top, max_eq_left le_top]
    rcases lt_trichotomy v 0 with hv | hv | hv
    · rw [EReal.top_mul_coe_of_neg hv, EReal.add_bot]
    · subst hv; simp
    · rw [EReal.top_mul_coe_of_pos hv, EReal.coe_add_top]
  · have hon : on w ⊥ pre = 0 := by
      unfold on
      split_ifs <;> simp_all
    rw [hon, if_neg h1]
    simp

/-- The line of the tile's segment and the kinks inside the tile add up to the network's output. -/
theorem bias_value (w v : Fin 32 → ℝ) (b : Fin 32 → EReal) (u : ℝ) (lo hi : ℕ) (hhi : hi ≤ 32) (α β : EReal)
    (hα : α = ∑ n : Fin 32, ((on (w n) (b n) (n.val < lo) : ℝ) : EReal) * ((w n : EReal) * (v n : EReal)))
    (hβ : β = ∑ n : Fin 32, ((on (w n) (b n) (n.val < lo) : ℝ) : EReal) * (b n * (v n : EReal)))
    (t k : ℕ → EReal) (hplaced : ∀ n : Fin 32, Placed (w n) (b n) u (n.val < lo) (lo ≤ n.val ∧ n.val < hi) (t n.val))
    (hk : ∀ n : Fin 32, k n.val = (|w n| : ℝ) * (v n : EReal)) :
    (u : EReal) * α + β + (∑ n ∈ range (hi - lo), max ((u : EReal) - t (lo + n)) 0 * k (lo + n))
      = ∑ n, max ((u : EReal) * (w n : EReal) + b n) 0 * (v n : EReal) := by
  rw [sum_range_mid lo hi hhi fun n => max ((u : EReal) - t n) 0 * k n]
  have hu : (u : EReal) * α = ∑ n : Fin 32, ((u * (on (w n) (b n) (n.val < lo) * (w n * v n)) : ℝ) : EReal) := by
    rw [hα, ← coe_sum', ← Finset.mul_sum, EReal.coe_mul]
    push_cast [coe_sum']
    rfl
  rw [hu, hβ, ← Finset.sum_add_distrib, ← Finset.sum_add_distrib]
  exact Finset.sum_congr rfl fun n _ => unit_value (w n) (v n) u (b n) (t n.val) (k n.val) _ _ (fun q => by omega) (hplaced n) (hk n)

end Cert.Proof.Math

end
-- ==== Proof.KernelIdeal.Values.lean ====
module

public import proofs.«01_k».proof.Proof.KernelIdeal.Tables
public import proofs.«01_k».proof.Proof.Math.BiasValue
@[expose] public section

/-! The tables of the bias as reals, when the network's weights and the two constants of the distance are finite. -/

set_option maxRecDepth 8192

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ)

/-! ## Words -/

theorem row_fix (k : Fin 32) :
    (Scalar.select (IntOp.cmpi CmpIPredicate.slt (BitVec.ofNat 32 k.val) 0#32) (IntOp.addi (BitVec.ofNat 32 k.val) 32#32) (BitVec.ofNat 32 k.val)).toInt.toNat = k.val := by
  revert k; decide

theorem toInt_small (x : ℕ) (hx : x < 2 ^ 31) : (BitVec.ofNat 32 x).toInt = x := by
  rw [BitVec.toInt_eq_toNat_of_lt (by simp; omega), BitVec.toNat_ofNat, Nat.mod_eq_of_lt (by omega)]

theorem pos_fix (x : ℕ) (hx : x < 16384) :
    (Scalar.select (IntOp.cmpi CmpIPredicate.slt (BitVec.ofNat 32 x) 0#32) (IntOp.addi (BitVec.ofNat 32 x) 16384#32) (BitVec.ofNat 32 x)).toInt.toNat = x := by
  have h : BitVec.slt (BitVec.ofNat 32 x) 0#32 = false := by
    rw [BitVec.slt, toInt_small x (by omega)]; simp
  have : IntOp.cmpi CmpIPredicate.slt (BitVec.ofNat 32 x) 0#32 = 0#1 := by
    show BitVec.ofBool (BitVec.slt (BitVec.ofNat 32 x) 0#32) = 0#1
    rw [h]; rfl
  rw [this]
  show (BitVec.ofNat 32 x).toInt.toNat = x
  rw [toInt_small x (by omega)]; rfl

/-- The distance of two positions, none when the key is the later one. -/
theorem maxsi_sub (x y : ℕ) (hx : x < 2 ^ 20) (hy : y < 2 ^ 20) :
    (((IntOp.maxsi (BitVec.ofNat 32 x - BitVec.ofNat 32 y) 0#32).toInt : ℝ)) = max ((x : ℝ) - y) 0 := by
  have hs : (BitVec.ofNat 32 x - BitVec.ofNat 32 y).toInt = (x : ℤ) - y := by
    rw [BitVec.toInt_sub, toInt_small x (by omega), toInt_small y (by omega)]
    exact Int.bmod_eq_of_le (by omega) (by omega)
  have h : (IntOp.maxsi (BitVec.ofNat 32 x - BitVec.ofNat 32 y) 0#32).toInt = max ((x : ℤ) - y) 0 := by
    unfold IntOp.maxsi
    rw [BitVec.slt, hs]
    by_cases hxy : (0 : ℤ) < (x : ℤ) - y
    · rw [if_pos (by simpa using hxy), hs, max_eq_left hxy.le]
    · rw [if_neg (by simpa using hxy), max_eq_right (by omega)]; rfl
  rw [h]; push_cast; rfl

theorem mul256 (a : Fin 64) : IntOp.muli (BitVec.ofNat 32 a.val) 256#32 = BitVec.ofNat 32 (256 * a.val) := by
  revert a; decide

theorem last256 (a : Fin 64) : IntOp.subi (IntOp.addi (IntOp.muli (BitVec.ofNat 32 a.val) 256#32) 256#32) 1#32 = BitVec.ofNat 32 (256 * a.val + 255) := by
  revert a; decide

/-! ## The arrays of the network and of the distance -/

/-- The first weights. -/
def hw1 (c : Dev nD) (n : Fin 32) : EReal := V m c main_arg8 (ix1 n)
/-- The first biases. -/
def hb1 (c : Dev nD) (n : Fin 32) : EReal := V m c main_arg9 (ix1 n)
/-- The second weights. -/
def hw2 (c : Dev nD) (n : Fin 32) (h : Fin 40) : EReal := V m c main_arg10 (ix2 n h)
/-- The factor of the distance. -/
def hc (c : Dev nD) : EReal := V m c main_arg6 ix0
/-- The threshold of the normaliser. -/
def hL (c : Dev nD) : EReal := V m c main_arg7 ix0

theorem idx_fix (v8 : (⟨S32, .i32⟩ : BufTy).Contents (Elt Ideal)) (n k : Fin 32) (h : v8 (ix1 n) = BitVec.ofNat 32 k.val) :
    ((broadcastInDim S32x1 ![0] bcast_S32_S32x1_0 (select (cmpi .slt v8 (broadcastInDim S32 ![] bcast_S_S32 (constantI S_ 32 0#32))) (addi v8 (broadcastInDim S32 ![] bcast_S_S32 (constantI S_ 32 32#32))) v8)) (ix2 n 0) : BitVec 32).toInt.toNat = k.val := by
  pointwise
  rw [h]
  exact row_fix k

theorem ix_fix (k : Fin 32) (x : ℕ) (hx : x = k.val) (h : min x 31 < 32) : (⟨min x 31, h⟩ : Fin 32) = k := by
  apply Fin.ext; show min x 31 = k.val; rw [hx]; omega

theorem V15_apply (c : Dev nD) (n : Fin 32) : V m c main_v15 (ix1 n) = thr m c (ord m c n) := by
  rw [V15, gather32_apply, ix_fix _ _ (idx_fix _ _ _ (V8_apply m c n))]
  rfl

theorem V22_apply (c : Dev nD) (n : Fin 32) : V m c main_v22 (ix1 n) = hw1 m c (ord m c n) := by
  rw [V22, gather32_apply, ix_fix _ _ (idx_fix _ _ _ (V8_apply m c n))]
  rfl

theorem V29_apply (c : Dev nD) (n : Fin 32) : V m c main_v29 (ix1 n) = hb1 m c (ord m c n) := by
  rw [V29, gather32_apply, ix_fix _ _ (idx_fix _ _ _ (V8_apply m c n))]
  rfl

theorem V36_apply (c : Dev nD) (n : Fin 32) (h : Fin 40) : V m c main_v36 (ix2 n h) = hw2 m c (ord m c n) h := by
  rw [V36, gather32x40_apply, ix_fix _ _ (idx_fix _ _ _ (V8_apply m c n))]
  rfl

theorem ofBits_inf : Ideal.ofBits .f32 0x7F800000#32 = ⊤ := by simp [Ideal.ofBits, Ideal.ieee]

theorem thr_eq (c : Dev nD) (n : Fin 32) :
    thr m c n = if hw1 m c n = 0 then ⊤ else Ideal.div (-(hb1 m c n)) (hw1 m c n) := by
  have h : thr m c n = (if hw1 m c n = 0 then Ideal.ofBits FTy.f32 2139095040#32
      else Ideal.div (-(hb1 m c n)) (if hw1 m c n = 0 then 1 else hw1 m c n)) := by
    unfold thr
    rw [V7]
    pointwise
    rfl
  rw [h, ofBits_inf]
  split_ifs <;> rfl

theorem slt32 (n : Fin 32) (s : Fin 33) : IntOp.cmpi CmpIPredicate.slt (BitVec.ofNat 32 n.val) (BitVec.ofNat 32 s.val) = if n.val < s.val then 1#1 else 0#1 := by
  revert n s; decide

theorem sge32 (n : Fin 32) (s : Fin 33) : IntOp.cmpi CmpIPredicate.sge (BitVec.ofNat 32 n.val) (BitVec.ofNat 32 s.val) = if n.val < s.val then 0#1 else 1#1 := by
  revert n s; decide

/-- Whether a unit is active once `s` thresholds have been passed. -/
theorem V54_apply (c : Dev nD) (s : Fin 33) (n : Fin 32) :
    V m c main_v54 (ix2 s n) = if 0 < hw1 m c (ord m c n) then (if n.val < s.val then 1#1 else 0#1)
      else if hw1 m c (ord m c n) < 0 then (if n.val < s.val then 0#1 else 1#1)
      else BitVec.ofBool (decide (0 < hb1 m c (ord m c n))) := by
  rw [V54]
  pointwise
  rw [V22_apply, V29_apply, slt32, sge32]

theorem V59_apply (c : Dev nD) (s : Fin 33) (h : Fin 40) :
    @Eq EReal (V m c main_v59 (ix2 s h)) (∑ n : Fin 32, (((BitVec.toNat (w := 1) (V m c main_v54 (ix2 s n)) : ℕ) : ℝ) : EReal) * (hw1 m c (ord m c n) * hw2 m c (ord m c n) h)) := by
  rw [V59]
  pointwise
  refine Finset.sum_congr rfl fun n _ => ?_
  rw [V22_apply, V36_apply]
  rfl

theorem V63_apply (c : Dev nD) (s : Fin 33) (h : Fin 40) :
    @Eq EReal (V m c main_v63 (ix2 s h)) (∑ n : Fin 32, (((BitVec.toNat (w := 1) (V m c main_v54 (ix2 s n)) : ℕ) : ℝ) : EReal) * (hb1 m c (ord m c n) * hw2 m c (ord m c n) h)) := by
  rw [V63]
  pointwise
  refine Finset.sum_congr rfl fun n _ => ?_
  rw [V29_apply, V36_apply]
  rfl

theorem V67_apply (c : Dev nD) (n : Fin 32) (h : Fin 40) :
    V m c main_v67 (ix2 n h) = max (hw1 m c (ord m c n)) (-hw1 m c (ord m c n)) * hw2 m c (ord m c n) h := by
  rw [V67]
  pointwise
  rw [V22_apply, V36_apply]
  rfl

theorem V75_apply (c : Dev nD) (i : Fin 16384) :
    V m c main_v75 (ix1 i) = Ideal.div 1 (Ideal.log1p (hc m c * max (hL m c) ((i.val : ℝ) : EReal))) := by
  rw [V75]
  pointwise
  have h : (FloatOps.sitofp (F := Ideal) FTy.f32 (BitVec.ofNat 32 i.val)) = ((i.val : ℝ) : EReal) := by
    show (((BitVec.ofNat 32 i.val).toInt : ℝ) : EReal) = _
    rw [toInt_small i.val (by have := i.isLt; omega)]
    simp
  rw [h]
  rfl

/-- The slack that the segments of a tile are widened by. -/
def slack : EReal := Ideal.ofBits .f32 0x3727C5AC#32

theorem ix_fix' (k : Fin 16384) (x : ℕ) (hx : x = k.val) (h : min x 16383 < 16384) : (⟨min x 16383, h⟩ : Fin 16384) = k := by
  apply Fin.ext; show min x 16383 = k.val; rw [hx]; omega

theorem V107_apply (c : Dev nD) (a b : Fin 64) :
    V m c main_v107 (ix2 a b) = Ideal.log1p (hc m c * ((max (((256 * a.val : ℕ) : ℝ) - ((256 * b.val + 255 : ℕ) : ℝ)) 0 : ℝ) : EReal))
      * V m c main_v75 (ix1 (⟨256 * a.val, by omega⟩ : Fin 16384)) - slack := by
  rw [V107]
  pointwise
  rw [gather16384_apply]
  pointwise
  rw [ix_fix' ⟨256 * a.val, by omega⟩]
  · rw [last256, mul256, ← maxsi_sub _ _ (by omega) (by omega)]
    rfl
  · rw [mul256]
    exact pos_fix _ (by omega)

theorem V131_apply (c : Dev nD) (a b : Fin 64) :
    V m c main_v131 (ix2 a b) = Ideal.log1p (hc m c * ((max (((256 * a.val + 255 : ℕ) : ℝ) - ((256 * b.val : ℕ) : ℝ)) 0 : ℝ) : EReal))
      * V m c main_v75 (ix1 (⟨256 * a.val + 255, by omega⟩ : Fin 16384)) + slack := by
  rw [V131]
  pointwise
  rw [gather16384_apply]
  pointwise
  rw [ix_fix' ⟨256 * a.val + 255, by omega⟩]
  · rw [last256, mul256, ← maxsi_sub _ _ (by omega) (by omega)]
    rfl
  · rw [last256]
    exact pos_fix _ (by omega)

theorem V136_apply (c : Dev nD) (a b : Fin 64) (n : Fin 32) :
    V m c main_v136 (ix3 a b n) = BitVec.ofBool (decide (thr m c (ord m c n) < V m c main_v107 (ix2 a b))) := by
  rw [V136]
  pointwise
  rw [V15_apply]

theorem V143_apply (c : Dev nD) (a b : Fin 64) (n : Fin 32) :
    V m c main_v143 (ix3 a b n) = BitVec.ofBool (decide (thr m c (ord m c n) ≤ V m c main_v131 (ix2 a b))) := by
  rw [V143]
  pointwise
  rw [V15_apply]

/-- A lower set of 32 places is the places below its number. -/
theorem lower_card (p : Fin 32 → Prop) [DecidablePred p] (hp : ∀ i j : Fin 32, i < j → p j → p i) (n : Fin 32) :
    p n ↔ n.val < (Finset.univ.filter p).card := by
  constructor
  · intro h
    have : (Finset.univ.filter fun i : Fin 32 => i ≤ n) ⊆ Finset.univ.filter p := by
      intro i hi
      simp only [Finset.mem_filter, Finset.mem_univ, true_and] at hi ⊢
      rcases hi.lt_or_eq with hl | rfl
      · exact hp i n hl h
      · exact h
    have hc := Finset.card_le_card this
    have : ∀ n : Fin 32, (Finset.univ.filter fun i : Fin 32 => i ≤ n).card = n.val + 1 := by decide
    have := this n
    omega
  · intro h
    by_contra hn
    have : Finset.univ.filter p ⊆ Finset.univ.filter fun i : Fin 32 => i < n := by
      intro i hi
      simp only [Finset.mem_filter, Finset.mem_univ, true_and] at hi ⊢
      by_contra hin
      rcases (not_lt.mp hin).lt_or_eq with hl | rfl
      · exact hn (hp n i hl hi)
      · exact hn hi
    have hc := Finset.card_le_card this
    have : ∀ n : Fin 32, (Finset.univ.filter fun i : Fin 32 => i < n).card = n.val := by decide
    have := this n
    omega

theorem lift_eq (a b : Fin 64) (k : Fin 32) : red.lift (ix2 a b) k = ix3 a b k := by
  funext x; match x with
  | ⟨0, _⟩ => rfl
  | ⟨1, _⟩ => rfl
  | ⟨2, _⟩ => rfl

/-- The places below the lower bound of a tile are those of the thresholds below the tile. -/
theorem lo_iff (c : Dev nD) (a b : Fin 64) (n : Fin 32) :
    n.val < BitVec.toNat (w := 32) (V m c main_v138 (ix2 a b)) ↔ thr m c (ord m c n) < V m c main_v107 (ix2 a b) := by
  rw [V_lo, count_eq]
  have hle : (Finset.univ.filter fun k : Fin 32 => V m c main_v136 (red.lift (ix2 a b) k) = 1#1).card ≤ 32 :=
    (Finset.card_le_univ _).trans (by simp)
  rw [BitVec.toNat_ofNat, Nat.mod_eq_of_lt (by omega)]
  rw [← lower_card]
  · rw [lift_eq, V136_apply]; by_cases h : thr m c (ord m c n) < V m c main_v107 (ix2 a b) <;> simp [h]
  · intro i j hij h
    rw [lift_eq, V136_apply] at h ⊢
    have h' : thr m c (ord m c j) < V m c main_v107 (ix2 a b) := by
      by_contra hh; simp [hh] at h
    have := (thr_ord_mono m c hij).trans_lt h'
    simp [this]

/-- The places below the upper bound of a tile are those of the thresholds not above the tile. -/
theorem hi_iff (c : Dev nD) (a b : Fin 64) (n : Fin 32) :
    n.val < BitVec.toNat (w := 32) (V m c main_v145 (ix2 a b)) ↔ thr m c (ord m c n) ≤ V m c main_v131 (ix2 a b) := by
  rw [V_hi, count_eq]
  have hle : (Finset.univ.filter fun k : Fin 32 => V m c main_v143 (red.lift (ix2 a b) k) = 1#1).card ≤ 32 :=
    (Finset.card_le_univ _).trans (by simp)
  rw [BitVec.toNat_ofNat, Nat.mod_eq_of_lt (by omega)]
  rw [← lower_card]
  · rw [lift_eq, V143_apply]; by_cases h : thr m c (ord m c n) ≤ V m c main_v131 (ix2 a b) <;> simp [h]
  · intro i j hij h
    rw [lift_eq, V143_apply] at h ⊢
    have h' : thr m c (ord m c j) ≤ V m c main_v131 (ix2 a b) := by
      by_contra hh; simp [hh] at h
    have := (thr_ord_mono m c hij).trans h'
    simp [this]

end Cert.Proof.KernelIdeal

end
-- ==== Proof.KernelIdeal.Hinge.lean ====
module

public import proofs.«01_k».proof.Proof.Gen.KernelIdeal.Loops
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import proofs.«01_k».proof.Proof.KernelIdeal.Chk
public import Idealize.ShloMosaic.Lib.WholeRead
public import Idealize.ShloMosaic.Lib.IdealHost
public import Idealize.ShloMosaic.Lib.Pipeline.ValueKit.Tiles
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

/-! The hinge loops of the five heads, in closed form: each adds one hinge per table row between the tile's two segment words. -/

/-- Row `n` of a table of 32 entries. -/
def row32 (n : ℕ) : S32.Idx := fun a => match a with
  | ⟨0, _⟩ => ⟨n % 32, Nat.mod_lt _ (by decide)⟩

/-- Row `n`, column `h` of a table of 32 rows and 40 columns. -/
def cell32 (n h : ℕ) : S32x40.Idx := fun a => match a with
  | ⟨0, _⟩ => ⟨n % 32, Nat.mod_lt _ (by decide)⟩
  | ⟨1, _⟩ => ⟨h % 40, Nat.mod_lt _ (by decide)⟩

theorem trips_main (a b : BitVec 32) (ha : a.toNat ≤ 32) (hb : b.toNat ≤ 32) :
    Scf.trips a (Scalar.addi a (Scalar.muli (Scalar.divsi (Scalar.subi b a) 1#32) 1#32)) 1#32 = b.toNat - a.toNat := by
  rw [main_ub, trips_word a b ha hb]

theorem eq_row32 (j : S32.Idx) (n : ℕ) (h : (j 0).val = n) (hn : n < 32) : j = row32 n := by
  funext a
  match a with
  | ⟨0, _⟩ => exact Fin.ext (h.trans (Nat.mod_eq_of_lt hn).symm)

theorem eq_cell32 (j : S32x40.Idx) (n h : ℕ) (h0 : (j 0).val = n) (h1 : (j 1).val = h) (hn : n < 32) (hh : h < 40) : j = cell32 n h := by
  funext a
  match a with
  | ⟨0, _⟩ => exact Fin.ext (h0.trans (Nat.mod_eq_of_lt hn).symm)
  | ⟨1, _⟩ => exact Fin.ext (h1.trans (Nat.mod_eq_of_lt hh).symm)

set_option maxHeartbeats 1000000 in
/-- The hinge loop of head 0 of the group after `m` trips. -/
theorem hinge0 (𝒱 : Variants) (c : Dev nD) (bd : Option 𝒱.V) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (k0_t1 : Fin (k0_t1_loop i).trips) (v84 : IVec S256x256 32) (v87 : IVec S256x256 32) (v105 : Elt Ideal .i32) (k0_hw1 : k0_chk1 i v105) (v108 : Elt Ideal .i32) (k0_hw2 : k0_chk2 i v105 v108) (v111 : FVec Ideal S256x96 .fp8e4m3) (v131 : Vec Ideal S256x256 .f32) (X4 : S32.Idx → EReal) (X7 : S32x40.Idx → EReal) (init : FVec Ideal S256x256 .f32) (hlo : v105.toNat ≤ 32) (hhi : v108.toNat ≤ 32) (y : S256x256.Idx) (m : ℕ)
    (hm : m ≤ v108.toNat - v105.toNat) :
    st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 v84 v87 v105 k0_hw1 v108 k0_hw2 v111 v131 (harg4.unread X4) (harg7.unread X7) init m y
      = init y + ∑ n ∈ Finset.range m, max (v131 y - X4 (row32 (v105.toNat + n))) 0 * X7 (cell32 (v105.toNat + n) ((i 0).val * 5 + 0)) := by
  induction m with
  | zero => rw [Finset.range_zero, Finset.sum_empty, add_zero]; rfl
  | succ m ih =>
    have hk : m < (k0_t2_loop v105 v108).trips := lt_of_lt_of_eq (by omega) (trips_main v105 v108 hlo hhi).symm
    have h0 : (i 0).val < 8 := (i 0).isLt
    obtain ⟨e1, e2⟩ := iv_lt v105 v108 hlo hhi m (main_trip v105 v108 ⟨m, hk⟩)
    have hs := st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 v84 v87 v105 k0_hw1 v108 k0_hw2 v111 v131 (harg4.unread X4) (harg7.unread X7) init ⟨m, hk⟩
    rw [Finset.sum_range_succ, ← add_assoc, ← ih (by omega)]
    refine (congrFun hs y).trans ?_
    show (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 v84 v87 v105 k0_hw1 v108 k0_hw2 v111 v131 (harg4.unread X4) (harg7.unread X7) ⟨m, hk⟩).1 _ y = _
    unfold trip_k0_t2
    dsimp only
    generalize st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 v84 v87 v105 k0_hw1 v108 k0_hw2 v111 v131 (harg4.unread X4) (harg7.unread X7) init m = acc
    have hr : trip_k0_t2.sl.r (F := Ideal) i arg4 v105 v108 k0_hw2 (harg4.unread X4) ⟨m, hk⟩ = X4 (row32 (v105.toNat + m)) := by
      unfold trip_k0_t2.sl.r
      refine (harg4.readAt_unread (Val := Elt Ideal) X4 _ _).trans ?_
      refine congrArg X4 (eq_row32 _ (v105.toNat + m) ?_ e2)
      refine (Rect.idx_unit_val _ _ _ _ 0).trans ?_
      exact e1
    have hr1 : trip_k0_t2.sl.r_1 (F := Ideal) i arg7 v105 v108 k0_hw2 (harg7.unread X7) ⟨m, hk⟩ = X7 (cell32 (v105.toNat + m) ((i 0).val * 5 + 0)) := by
      unfold trip_k0_t2.sl.r_1
      refine (harg7.readAt_unread (Val := Elt Ideal) X7 _ _).trans ?_
      refine congrArg X7 (eq_cell32 _ (v105.toNat + m) ((i 0).val * 5 + 0) ?_ ?_ e2 (by omega))
      · refine (Rect.idx_unit_val _ _ _ _ 0).trans ?_
        exact e1
      · refine (Rect.idx_unit_val _ _ _ _ 1).trans ?_
        exact head_word i 0 (by decide)
    refine Eq.trans ?_ (congrArg₂ (fun t kk => acc y + max (v131 y - t) 0 * kk) hr hr1)
    show acc y + max (v131 y - _) (Ideal.ofBits .f32 0x00000000#32) * _ = _
    rw [Ideal.ofBits_zero_f32]
    rfl

set_option maxHeartbeats 1000000 in
/-- The hinge loop of head 1 of the group after `m` trips. -/
theorem hinge1 (𝒱 : Variants) (c : Dev nD) (bd : Option 𝒱.V) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (v84 : IVec S256x256 32) (v87 : IVec S256x256 32) (v105 : Elt Ideal .i32) (k0_hw1 : k0_chk1 i v105) (v108 : Elt Ideal .i32) (k0_hw2 : k0_chk2 i v105 v108) (v111 : FVec Ideal S256x96 .fp8e4m3) (v125 : FVec Ideal S256x1 .f32) (v196 : BitVec 32) (v200 : Vec Ideal S256x256 .f32) (X4 : S32.Idx → EReal) (X7 : S32x40.Idx → EReal) (init : FVec Ideal S256x256 .f32) (hlo : v105.toNat ≤ 32) (hhi : v108.toNat ≤ 32) (y : S256x256.Idx) (m : ℕ)
    (hm : m ≤ v108.toNat - v105.toNat) :
    st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v111 v125 v196 v200 (harg4.unread X4) (harg7.unread X7) init m y
      = init y + ∑ n ∈ Finset.range m, max (v200 y - X4 (row32 (v105.toNat + n))) 0 * X7 (cell32 (v105.toNat + n) ((i 0).val * 5 + 1)) := by
  induction m with
  | zero => rw [Finset.range_zero, Finset.sum_empty, add_zero]; rfl
  | succ m ih =>
    have hk : m < (k0_t4_loop v105 v108).trips := lt_of_lt_of_eq (by omega) (trips_main v105 v108 hlo hhi).symm
    have h0 : (i 0).val < 8 := (i 0).isLt
    obtain ⟨e1, e2⟩ := iv_lt v105 v108 hlo hhi m (main_trip v105 v108 ⟨m, hk⟩)
    have hs := st_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v111 v125 v196 v200 (harg4.unread X4) (harg7.unread X7) init ⟨m, hk⟩
    rw [Finset.sum_range_succ, ← add_assoc, ← ih (by omega)]
    refine (congrFun hs y).trans ?_
    show (trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v111 v125 v196 v200 (harg4.unread X4) (harg7.unread X7) ⟨m, hk⟩).1 _ y = _
    unfold trip_k0_t4
    dsimp only
    generalize st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v111 v125 v196 v200 (harg4.unread X4) (harg7.unread X7) init m = acc
    have hr : trip_k0_t4.sl.r (F := Ideal) i arg4 v105 v108 k0_hw2 (harg4.unread X4) ⟨m, hk⟩ = X4 (row32 (v105.toNat + m)) := by
      unfold trip_k0_t4.sl.r
      refine (harg4.readAt_unread (Val := Elt Ideal) X4 _ _).trans ?_
      refine congrArg X4 (eq_row32 _ (v105.toNat + m) ?_ e2)
      refine (Rect.idx_unit_val _ _ _ _ 0).trans ?_
      exact e1
    have hr1 : trip_k0_t4.sl.r_1 (F := Ideal) i arg7 v105 v108 k0_hw2 (harg7.unread X7) ⟨m, hk⟩ = X7 (cell32 (v105.toNat + m) ((i 0).val * 5 + 1)) := by
      unfold trip_k0_t4.sl.r_1
      refine (harg7.readAt_unread (Val := Elt Ideal) X7 _ _).trans ?_
      refine congrArg X7 (eq_cell32 _ (v105.toNat + m) ((i 0).val * 5 + 1) ?_ ?_ e2 (by omega))
      · refine (Rect.idx_unit_val _ _ _ _ 0).trans ?_
        exact e1
      · refine (Rect.idx_unit_val _ _ _ _ 1).trans ?_
        exact head_word i 1 (by decide)
    refine Eq.trans ?_ (congrArg₂ (fun t kk => acc y + max (v200 y - t) 0 * kk) hr hr1)
    show acc y + max (v200 y - _) (Ideal.ofBits .f32 0x00000000#32) * _ = _
    rw [Ideal.ofBits_zero_f32]
    rfl

set_option maxHeartbeats 1000000 in
/-- The hinge loop of head 2 of the group after `m` trips. -/
theorem hinge2 (𝒱 : Variants) (c : Dev nD) (bd : Option 𝒱.V) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (v84 : IVec S256x256 32) (v87 : IVec S256x256 32) (v105 : Elt Ideal .i32) (k0_hw1 : k0_chk1 i v105) (v108 : Elt Ideal .i32) (k0_hw2 : k0_chk2 i v105 v108) (v125 : FVec Ideal S256x1 .f32) (v265 : BitVec 32) (v268 : FVec Ideal S256x256 .f32) (v269 : Vec Ideal S256x256 .f32) (v272 : Elt Ideal .f32) (X4 : S32.Idx → EReal) (X7 : S32x40.Idx → EReal) (init : FVec Ideal S256x256 .f32) (hlo : v105.toNat ≤ 32) (hhi : v108.toNat ≤ 32) (y : S256x256.Idx) (m : ℕ)
    (hm : m ≤ v108.toNat - v105.toNat) :
    st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v125 v265 v268 v269 v272 (harg4.unread X4) (harg7.unread X7) init m y
      = init y + ∑ n ∈ Finset.range m, max (v269 y - X4 (row32 (v105.toNat + n))) 0 * X7 (cell32 (v105.toNat + n) ((i 0).val * 5 + 2)) := by
  induction m with
  | zero => rw [Finset.range_zero, Finset.sum_empty, add_zero]; rfl
  | succ m ih =>
    have hk : m < (k0_t6_loop v105 v108).trips := lt_of_lt_of_eq (by omega) (trips_main v105 v108 hlo hhi).symm
    have h0 : (i 0).val < 8 := (i 0).isLt
    obtain ⟨e1, e2⟩ := iv_lt v105 v108 hlo hhi m (main_trip v105 v108 ⟨m, hk⟩)
    have hs := st_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v125 v265 v268 v269 v272 (harg4.unread X4) (harg7.unread X7) init ⟨m, hk⟩
    rw [Finset.sum_range_succ, ← add_assoc, ← ih (by omega)]
    refine (congrFun hs y).trans ?_
    show (trip_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v125 v265 v268 v269 v272 (harg4.unread X4) (harg7.unread X7) ⟨m, hk⟩).1 _ y = _
    unfold trip_k0_t6
    dsimp only
    generalize st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v125 v265 v268 v269 v272 (harg4.unread X4) (harg7.unread X7) init m = acc
    have hr : trip_k0_t6.sl.r (F := Ideal) i arg4 v105 v108 k0_hw2 (harg4.unread X4) ⟨m, hk⟩ = X4 (row32 (v105.toNat + m)) := by
      unfold trip_k0_t6.sl.r
      refine (harg4.readAt_unread (Val := Elt Ideal) X4 _ _).trans ?_
      refine congrArg X4 (eq_row32 _ (v105.toNat + m) ?_ e2)
      refine (Rect.idx_unit_val _ _ _ _ 0).trans ?_
      exact e1
    have hr1 : trip_k0_t6.sl.r_1 (F := Ideal) i arg7 v105 v108 k0_hw2 (harg7.unread X7) ⟨m, hk⟩ = X7 (cell32 (v105.toNat + m) ((i 0).val * 5 + 2)) := by
      unfold trip_k0_t6.sl.r_1
      refine (harg7.readAt_unread (Val := Elt Ideal) X7 _ _).trans ?_
      refine congrArg X7 (eq_cell32 _ (v105.toNat + m) ((i 0).val * 5 + 2) ?_ ?_ e2 (by omega))
      · refine (Rect.idx_unit_val _ _ _ _ 0).trans ?_
        exact e1
      · refine (Rect.idx_unit_val _ _ _ _ 1).trans ?_
        exact head_word i 2 (by decide)
    refine Eq.trans ?_ (congrArg₂ (fun t kk => acc y + max (v269 y - t) 0 * kk) hr hr1)
    show acc y + max (v269 y - _) (Ideal.ofBits .f32 0x00000000#32) * _ = _
    rw [Ideal.ofBits_zero_f32]
    rfl

set_option maxHeartbeats 1000000 in
/-- The hinge loop of head 3 of the group after `m` trips. -/
theorem hinge3 (𝒱 : Variants) (c : Dev nD) (bd : Option 𝒱.V) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (v84 : IVec S256x256 32) (v87 : IVec S256x256 32) (v105 : Elt Ideal .i32) (v108 : Elt Ideal .i32) (k0_hw2 : k0_chk2 i v105 v108) (v125 : FVec Ideal S256x1 .f32) (v334 : BitVec 32) (v337 : FVec Ideal S256x256 .f32) (v338 : Vec Ideal S256x256 .f32) (v348 : FVec Ideal S256x256 .f32) (v349 : BitVec 32) (c1_i32_187 : BitVec 32) (X4 : S32.Idx → EReal) (X7 : S32x40.Idx → EReal) (init : FVec Ideal S256x256 .f32) (hlo : v105.toNat ≤ 32) (hhi : v108.toNat ≤ 32) (y : S256x256.Idx) (m : ℕ)
    (hm : m ≤ v108.toNat - v105.toNat) :
    st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 v108 k0_hw2 v125 v334 v337 v338 v348 v349 c1_i32_187 (harg4.unread X4) (harg7.unread X7) init m y
      = init y + ∑ n ∈ Finset.range m, max (v338 y - X4 (row32 (v105.toNat + n))) 0 * X7 (cell32 (v105.toNat + n) ((i 0).val * 5 + 3)) := by
  induction m with
  | zero => rw [Finset.range_zero, Finset.sum_empty, add_zero]; rfl
  | succ m ih =>
    have hk : m < (k0_t8_loop v105 v108).trips := lt_of_lt_of_eq (by omega) (trips_main v105 v108 hlo hhi).symm
    have h0 : (i 0).val < 8 := (i 0).isLt
    obtain ⟨e1, e2⟩ := iv_lt v105 v108 hlo hhi m (main_trip v105 v108 ⟨m, hk⟩)
    have hs := st_k0_t8_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 v108 k0_hw2 v125 v334 v337 v338 v348 v349 c1_i32_187 (harg4.unread X4) (harg7.unread X7) init ⟨m, hk⟩
    rw [Finset.sum_range_succ, ← add_assoc, ← ih (by omega)]
    refine (congrFun hs y).trans ?_
    show (trip_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 v108 k0_hw2 v125 v334 v337 v338 v348 v349 c1_i32_187 (harg4.unread X4) (harg7.unread X7) ⟨m, hk⟩).1 _ y = _
    unfold trip_k0_t8
    dsimp only
    generalize st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 v108 k0_hw2 v125 v334 v337 v338 v348 v349 c1_i32_187 (harg4.unread X4) (harg7.unread X7) init m = acc
    have hr : trip_k0_t8.sl.r (F := Ideal) i arg4 v105 v108 k0_hw2 (harg4.unread X4) ⟨m, hk⟩ = X4 (row32 (v105.toNat + m)) := by
      unfold trip_k0_t8.sl.r
      refine (harg4.readAt_unread (Val := Elt Ideal) X4 _ _).trans ?_
      refine congrArg X4 (eq_row32 _ (v105.toNat + m) ?_ e2)
      refine (Rect.idx_unit_val _ _ _ _ 0).trans ?_
      exact e1
    have hr1 : trip_k0_t8.sl.r_1 (F := Ideal) i arg7 v105 v108 k0_hw2 (harg7.unread X7) ⟨m, hk⟩ = X7 (cell32 (v105.toNat + m) ((i 0).val * 5 + 3)) := by
      unfold trip_k0_t8.sl.r_1
      refine (harg7.readAt_unread (Val := Elt Ideal) X7 _ _).trans ?_
      refine congrArg X7 (eq_cell32 _ (v105.toNat + m) ((i 0).val * 5 + 3) ?_ ?_ e2 (by omega))
      · refine (Rect.idx_unit_val _ _ _ _ 0).trans ?_
        exact e1
      · refine (Rect.idx_unit_val _ _ _ _ 1).trans ?_
        exact head_word i 3 (by decide)
    refine Eq.trans ?_ (congrArg₂ (fun t kk => acc y + max (v338 y - t) 0 * kk) hr hr1)
    show acc y + max (v338 y - _) (Ideal.ofBits .f32 0x00000000#32) * _ = _
    rw [Ideal.ofBits_zero_f32]
    rfl

set_option maxHeartbeats 1000000 in
/-- The hinge loop of head 4 of the group after `m` trips. -/
theorem hinge4 (𝒱 : Variants) (c : Dev nD) (bd : Option 𝒱.V) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (v105 : Elt Ideal .i32) (k0_hw1 : k0_chk1 i v105) (v108 : Elt Ideal .i32) (k0_hw2 : k0_chk2 i v105 v108) (v111 : FVec Ideal S256x96 .fp8e4m3) (v121 : FVec Ideal S96x256 .bf16) (v125 : FVec Ideal S256x1 .f32) (v377 : FVec Ideal S256x256 .f32) (v379 : FVec Ideal S1x256 .f32) (v388 : FVec Ideal S1x256 .f32) (v407 : Vec Ideal S256x256 .f32) (X4 : S32.Idx → EReal) (X7 : S32x40.Idx → EReal) (init : FVec Ideal S256x256 .f32) (hlo : v105.toNat ≤ 32) (hhi : v108.toNat ≤ 32) (y : S256x256.Idx) (m : ℕ)
    (hm : m ≤ v108.toNat - v105.toNat) :
    st_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v105 k0_hw1 v108 k0_hw2 v111 v121 v125 v377 v379 v388 v407 (harg4.unread X4) (harg7.unread X7) init m y
      = init y + ∑ n ∈ Finset.range m, max (v407 y - X4 (row32 (v105.toNat + n))) 0 * X7 (cell32 (v105.toNat + n) ((i 0).val * 5 + 4)) := by
  induction m with
  | zero => rw [Finset.range_zero, Finset.sum_empty, add_zero]; rfl
  | succ m ih =>
    have hk : m < (k0_t10_loop v105 v108).trips := lt_of_lt_of_eq (by omega) (trips_main v105 v108 hlo hhi).symm
    have h0 : (i 0).val < 8 := (i 0).isLt
    obtain ⟨e1, e2⟩ := iv_lt v105 v108 hlo hhi m (main_trip v105 v108 ⟨m, hk⟩)
    have hs := st_k0_t10_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v105 k0_hw1 v108 k0_hw2 v111 v121 v125 v377 v379 v388 v407 (harg4.unread X4) (harg7.unread X7) init ⟨m, hk⟩
    rw [Finset.sum_range_succ, ← add_assoc, ← ih (by omega)]
    refine (congrFun hs y).trans ?_
    show (trip_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v105 k0_hw1 v108 k0_hw2 v111 v121 v125 v377 v379 v388 v407 (harg4.unread X4) (harg7.unread X7) ⟨m, hk⟩).1 _ y = _
    unfold trip_k0_t10
    dsimp only
    generalize st_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v105 k0_hw1 v108 k0_hw2 v111 v121 v125 v377 v379 v388 v407 (harg4.unread X4) (harg7.unread X7) init m = acc
    have hr : trip_k0_t10.sl.r (F := Ideal) i arg4 v105 v108 k0_hw2 (harg4.unread X4) ⟨m, hk⟩ = X4 (row32 (v105.toNat + m)) := by
      unfold trip_k0_t10.sl.r
      refine (harg4.readAt_unread (Val := Elt Ideal) X4 _ _).trans ?_
      refine congrArg X4 (eq_row32 _ (v105.toNat + m) ?_ e2)
      refine (Rect.idx_unit_val _ _ _ _ 0).trans ?_
      exact e1
    have hr1 : trip_k0_t10.sl.r_1 (F := Ideal) i arg7 v105 v108 k0_hw2 (harg7.unread X7) ⟨m, hk⟩ = X7 (cell32 (v105.toNat + m) ((i 0).val * 5 + 4)) := by
      unfold trip_k0_t10.sl.r_1
      refine (harg7.readAt_unread (Val := Elt Ideal) X7 _ _).trans ?_
      refine congrArg X7 (eq_cell32 _ (v105.toNat + m) ((i 0).val * 5 + 4) ?_ ?_ e2 (by omega))
      · refine (Rect.idx_unit_val _ _ _ _ 0).trans ?_
        exact e1
      · refine (Rect.idx_unit_val _ _ _ _ 1).trans ?_
        exact head_word i 4 (by decide)
    refine Eq.trans ?_ (congrArg₂ (fun t kk => acc y + max (v407 y - t) 0 * kk) hr hr1)
    show acc y + max (v407 y - _) (Ideal.ofBits .f32 0x00000000#32) * _ = _
    rw [Ideal.ofBits_zero_f32]
    rfl

end Cert.Proof.KernelIdeal

end
-- ==== Proof.KernelIdeal.Regroup.lean ====
module

public import proofs.«01_k».proof.Proof.Gen.KernelIdeal.Loops
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import Idealize.ShloMosaic.Lib.Pointwise
public import Idealize.ShloMosaic.Lib.WholeRead
public import Idealize.ShloMosaic.Lib.IdealHost
public import Idealize.ShloMosaic.Lib.Pipeline.ValueKit.Tiles
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

/-! The body spells the five heads' updates in different pieces; each is the same three updates of that head's tile of
    scores. -/

theorem head0_17 (kk qq : IVec S256x256 32) (kb : Vec Ideal S1x256x96 .fp8e4m3) (ks : Vec Ideal S1x256x128 .f32) (q : Vec Ideal S1x256x96 .fp8e4m3) {b b' : FVec Ideal S256x256 .f32} (hb : b = b') (a m : Vec Ideal S1x1x256 .f32) :
    k0_pay17 (F := Ideal) (k0_pay12 (F := Ideal) kk qq (k0_pay6 kb) ks q b a) m
      = k0_pay17 (F := Ideal) (k0_pay12 (F := Ideal) kk qq (k0_pay6 kb) ks q b' a) m := by
  subst hb
  rfl

theorem head0_18 (kk qq : IVec S256x256 32) (kb : Vec Ideal S1x256x96 .fp8e4m3) (ks : Vec Ideal S1x256x128 .f32) (q : Vec Ideal S1x256x96 .fp8e4m3) {b b' : FVec Ideal S256x256 .f32} (hb : b = b') (a m l : Vec Ideal S1x1x256 .f32) :
    k0_pay18 (F := Ideal) (k0_pay12 (F := Ideal) kk qq (k0_pay6 kb) ks q b a) m l
      = k0_pay18 (F := Ideal) (k0_pay12 (F := Ideal) kk qq (k0_pay6 kb) ks q b' a) m l := by
  subst hb
  rfl

theorem head0_19 (kk qq : IVec S256x256 32) (kb : Vec Ideal S1x256x96 .fp8e4m3) (ks : Vec Ideal S1x256x128 .f32) (q : Vec Ideal S1x256x96 .fp8e4m3) {b b' : FVec Ideal S256x256 .f32} (hb : b = b') (a m : Vec Ideal S1x1x256 .f32) (v : FVec Ideal S96x256 .bf16) (acc : Vec Ideal S1x96x256 .f32) :
    k0_pay19 (F := Ideal) v (k0_pay12 (F := Ideal) kk qq (k0_pay6 kb) ks q b a) m acc
      = k0_pay19 (F := Ideal) v (k0_pay12 (F := Ideal) kk qq (k0_pay6 kb) ks q b' a) m acc := by
  subst hb
  rfl

theorem head1_17 (kk qq : IVec S256x256 32) (kb : Vec Ideal S1x256x96 .fp8e4m3) (ks : Vec Ideal S1x256x128 .f32) (q : Vec Ideal S1x256x96 .fp8e4m3) {b b' : FVec Ideal S256x256 .f32} (hb : b = b') (a m : Vec Ideal S1x1x256 .f32) :
    k0_pay29 (F := Ideal) (k0_pay25 kk qq (k0_pay6 kb) (k0_pay8 ks) q b a m)
      = k0_pay17 (F := Ideal) (k0_pay12 (F := Ideal) kk qq (k0_pay6 kb) ks q b' a) m := by
  subst hb
  rfl

theorem head1_18 (kk qq : IVec S256x256 32) (kb : Vec Ideal S1x256x96 .fp8e4m3) (ks : Vec Ideal S1x256x128 .f32) (q : Vec Ideal S1x256x96 .fp8e4m3) {b b' : FVec Ideal S256x256 .f32} (hb : b = b') (a m l : Vec Ideal S1x1x256 .f32) :
    k0_pay30 (F := Ideal) (k0_pay26 kk qq (k0_pay6 kb) (k0_pay8 ks) q b a m) (k0_pay27 kk qq (k0_pay6 kb) (k0_pay8 ks) q b a m) l
      = k0_pay18 (F := Ideal) (k0_pay12 (F := Ideal) kk qq (k0_pay6 kb) ks q b' a) m l := by
  subst hb
  rfl

theorem head1_19 (kk qq : IVec S256x256 32) (kb : Vec Ideal S1x256x96 .fp8e4m3) (ks : Vec Ideal S1x256x128 .f32) (q : Vec Ideal S1x256x96 .fp8e4m3) {b b' : FVec Ideal S256x256 .f32} (hb : b = b') (a m : Vec Ideal S1x1x256 .f32) (v : FVec Ideal S96x256 .bf16) (acc : Vec Ideal S1x96x256 .f32) :
    k0_pay31 (F := Ideal) v (k0_pay26 kk qq (k0_pay6 kb) (k0_pay8 ks) q b a m) (k0_pay27 kk qq (k0_pay6 kb) (k0_pay8 ks) q b a m) acc
      = k0_pay19 (F := Ideal) v (k0_pay12 (F := Ideal) kk qq (k0_pay6 kb) ks q b' a) m acc := by
  subst hb
  rfl

theorem head2_17 (kk qq : IVec S256x256 32) (kb : Vec Ideal S1x256x96 .fp8e4m3) (ks : Vec Ideal S1x256x128 .f32) (q : Vec Ideal S1x256x96 .fp8e4m3) {b b' : FVec Ideal S256x256 .f32} (hb : b = b') (a m : Vec Ideal S1x1x256 .f32) :
    k0_pay41 (F := Ideal) kk qq (k0_pay8 ks) (k0_pay32 (k0_pay6 kb) q) b a m
      = k0_pay17 (F := Ideal) (k0_pay12 (F := Ideal) kk qq (k0_pay6 kb) ks q b' a) m := by
  subst hb
  rfl

theorem head2_18 (kk qq : IVec S256x256 32) (kb : Vec Ideal S1x256x96 .fp8e4m3) (ks : Vec Ideal S1x256x128 .f32) (q : Vec Ideal S1x256x96 .fp8e4m3) {b b' : FVec Ideal S256x256 .f32} (hb : b = b') (a m l : Vec Ideal S1x1x256 .f32) :
    k0_pay42 (F := Ideal) (k0_pay39 kk qq (k0_pay8 ks) (k0_pay32 (k0_pay6 kb) q) b a m) (k0_pay40 kk qq (k0_pay8 ks) (k0_pay32 (k0_pay6 kb) q) b a m) l
      = k0_pay18 (F := Ideal) (k0_pay12 (F := Ideal) kk qq (k0_pay6 kb) ks q b' a) m l := by
  subst hb
  rfl

theorem head2_19 (kk qq : IVec S256x256 32) (kb : Vec Ideal S1x256x96 .fp8e4m3) (ks : Vec Ideal S1x256x128 .f32) (q : Vec Ideal S1x256x96 .fp8e4m3) {b b' : FVec Ideal S256x256 .f32} (hb : b = b') (a m : Vec Ideal S1x1x256 .f32) (v : FVec Ideal S96x256 .bf16) (acc : Vec Ideal S1x96x256 .f32) :
    k0_pay43 (F := Ideal) v (k0_pay39 kk qq (k0_pay8 ks) (k0_pay32 (k0_pay6 kb) q) b a m) (k0_pay40 kk qq (k0_pay8 ks) (k0_pay32 (k0_pay6 kb) q) b a m) acc
      = k0_pay19 (F := Ideal) v (k0_pay12 (F := Ideal) kk qq (k0_pay6 kb) ks q b' a) m acc := by
  subst hb
  rfl

theorem head3_17 (kk qq : IVec S256x256 32) (kb : Vec Ideal S1x256x96 .fp8e4m3) (ks : Vec Ideal S1x256x128 .f32) (q : Vec Ideal S1x256x96 .fp8e4m3) {b b' : FVec Ideal S256x256 .f32} (hb : b = b') (a m : Vec Ideal S1x1x256 .f32) :
    k0_pay53 (F := Ideal) kk qq (k0_pay8 ks) (k0_pay44 (k0_pay6 kb) q) b a m
      = k0_pay17 (F := Ideal) (k0_pay12 (F := Ideal) kk qq (k0_pay6 kb) ks q b' a) m := by
  subst hb
  rfl

theorem head3_18 (kk qq : IVec S256x256 32) (kb : Vec Ideal S1x256x96 .fp8e4m3) (ks : Vec Ideal S1x256x128 .f32) (q : Vec Ideal S1x256x96 .fp8e4m3) {b b' : FVec Ideal S256x256 .f32} (hb : b = b') (a m l : Vec Ideal S1x1x256 .f32) :
    k0_pay55 (F := Ideal) (k0_pay54 kk qq (k0_pay8 ks) (k0_pay44 (k0_pay6 kb) q) b a m l)
      = k0_pay18 (F := Ideal) (k0_pay12 (F := Ideal) kk qq (k0_pay6 kb) ks q b' a) m l := by
  subst hb
  rfl

theorem head3_19 (kk qq : IVec S256x256 32) (kb : Vec Ideal S1x256x96 .fp8e4m3) (ks : Vec Ideal S1x256x128 .f32) (q : Vec Ideal S1x256x96 .fp8e4m3) {b b' : FVec Ideal S256x256 .f32} (hb : b = b') (a m : Vec Ideal S1x1x256 .f32) (v : FVec Ideal S96x256 .bf16) (acc : Vec Ideal S1x96x256 .f32) :
    k0_pay56 (F := Ideal) v (k0_pay51 kk qq (k0_pay8 ks) (k0_pay44 (k0_pay6 kb) q) b a m) (k0_pay52 kk qq (k0_pay8 ks) (k0_pay44 (k0_pay6 kb) q) b a m) acc
      = k0_pay19 (F := Ideal) v (k0_pay12 (F := Ideal) kk qq (k0_pay6 kb) ks q b' a) m acc := by
  subst hb
  rfl

theorem head4_17 (kk qq : IVec S256x256 32) (kb : Vec Ideal S1x256x96 .fp8e4m3) (ks : Vec Ideal S1x256x128 .f32) (q : Vec Ideal S1x256x96 .fp8e4m3) {b b' : FVec Ideal S256x256 .f32} (hb : b = b') (a m : Vec Ideal S1x1x256 .f32) :
    k0_pay66 (F := Ideal) kk qq b (k0_pay60 (k0_pay6 kb) (k0_pay8 ks) q) a m
      = k0_pay17 (F := Ideal) (k0_pay12 (F := Ideal) kk qq (k0_pay6 kb) ks q b' a) m := by
  subst hb
  rfl

theorem head4_18 (kk qq : IVec S256x256 32) (kb : Vec Ideal S1x256x96 .fp8e4m3) (ks : Vec Ideal S1x256x128 .f32) (q : Vec Ideal S1x256x96 .fp8e4m3) {b b' : FVec Ideal S256x256 .f32} (hb : b = b') (a m l : Vec Ideal S1x1x256 .f32) :
    k0_pay67 (F := Ideal) kk qq b (k0_pay60 (k0_pay6 kb) (k0_pay8 ks) q) a m l
      = k0_pay18 (F := Ideal) (k0_pay12 (F := Ideal) kk qq (k0_pay6 kb) ks q b' a) m l := by
  subst hb
  rfl

theorem head4_19 (kk qq : IVec S256x256 32) (kb : Vec Ideal S1x256x96 .fp8e4m3) (ks : Vec Ideal S1x256x128 .f32) (q : Vec Ideal S1x256x96 .fp8e4m3) {b b' : FVec Ideal S256x256 .f32} (hb : b = b') (a m : Vec Ideal S1x1x256 .f32) (v : FVec Ideal S96x256 .bf16) (acc : Vec Ideal S1x96x256 .f32) :
    k0_pay139 (F := Ideal) (k0_pay65 kk qq b (k0_pay60 (k0_pay6 kb) (k0_pay8 ks) q) a m) (k0_pay68 kk qq v b (k0_pay60 (k0_pay6 kb) (k0_pay8 ks) q) a m) acc
      = k0_pay19 (F := Ideal) v (k0_pay12 (F := Ideal) kk qq (k0_pay6 kb) ks q b' a) m acc := by
  subst hb
  rfl

end Cert.Proof.KernelIdeal

end
-- ==== Proof.KernelIdeal.Heads.lean ====
module

public import proofs.«01_k».proof.Proof.Gen.KernelIdeal.Loops
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import proofs.«01_k».proof.Proof.KernelIdeal.Chk
public import proofs.«01_k».proof.Proof.KernelIdeal.Loop
public import proofs.«01_k».proof.Proof.KernelIdeal.Hinge
public import proofs.«01_k».proof.Proof.KernelIdeal.Regroup
public import Idealize.ShloMosaic.Lib.WritesUnit
public import Idealize.ShloMosaic.Lib.VecWindow
public import Idealize.ShloMosaic.Lib.WholeRead
public import Idealize.ShloMosaic.Lib.IdealHost
public import Idealize.ShloMosaic.Lib.Pipeline.ValueKit.Tiles
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

/-! One trip of the loop over key tiles, head by head: the same three payloads for each head of the group, of that head's
    own tile of scores. -/

def cell64 (a b : ℕ) : S64x64.Idx := fun x => match x with
  | ⟨0, _⟩ => ⟨a % 64, Nat.mod_lt _ (by decide)⟩
  | ⟨1, _⟩ => ⟨b % 64, Nat.mod_lt _ (by decide)⟩

def cell33 (n h : ℕ) : S33x40.Idx := fun x => match x with
  | ⟨0, _⟩ => ⟨n % 33, Nat.mod_lt _ (by decide)⟩
  | ⟨1, _⟩ => ⟨h % 40, Nat.mod_lt _ (by decide)⟩

/-- The kernel's bias at distance value `u` for head `h`: the line of table row `lo`, plus the hinges of rows `lo ≤ n < hi`. -/
def biasOf (u : EReal) (X4 : S32.Idx → EReal) (X5 X6 : S33x40.Idx → EReal) (X7 : S32x40.Idx → EReal) (lo hi h : ℕ) : EReal :=
  u * X5 (cell33 lo h) + X6 (cell33 lo h)
    + ∑ n ∈ Finset.range (hi - lo), max (u - X4 (row32 (lo + n))) 0 * X7 (cell32 (lo + n) h)

/-- The tile of biases of head `h` of the group. -/
def biasTile (u : FVec Ideal S256x256 .f32) (X4 : S32.Idx → EReal) (X5 X6 : S33x40.Idx → EReal) (X7 : S32x40.Idx → EReal) (lo hi h : ℕ) :
    FVec Ideal S256x256 .f32 := fun y => biasOf (u y) X4 X5 X6 X7 lo hi h

theorem eq_cell33 (j : S33x40.Idx) (n h : ℕ) (h0 : (j 0).val = n) (h1 : (j 1).val = h) (hn : n < 33) (hh : h < 40) : j = cell33 n h := by
  funext x
  match x with
  | ⟨0, _⟩ => exact Fin.ext (h0.trans (Nat.mod_eq_of_lt hn).symm)
  | ⟨1, _⟩ => exact Fin.ext (h1.trans (Nat.mod_eq_of_lt hh).symm)

theorem eq_cell64 (j : S64x64.Idx) (n h : ℕ) (h0 : (j 0).val = n) (h1 : (j 1).val = h) (hn : n < 64) (hh : h < 64) : j = cell64 n h := by
  funext x
  match x with
  | ⟨0, _⟩ => exact Fin.ext (h0.trans (Nat.mod_eq_of_lt hn).symm)
  | ⟨1, _⟩ => exact Fin.ext (h1.trans (Nat.mod_eq_of_lt hh).symm)

/-- A head's line plus hinges is its tile of biases. -/
theorem biasTile_of (u : FVec Ideal S256x256 .f32) (X4 : S32.Idx → EReal) (X5 X6 : S33x40.Idx → EReal) (X7 : S32x40.Idx → EReal) (lo hi h n : ℕ)
    (st init u' : FVec Ideal S256x256 .f32) (r5 r6 : EReal)
    (hst : ∀ y, st y = init y + ∑ n ∈ Finset.range n, max (u' y - X4 (row32 (lo + n))) 0 * X7 (cell32 (lo + n) h))
    (hinit : ∀ y, init y = u' y * r5 + r6) (hu : u' = u) (hn : n = hi - lo)
    (h5 : r5 = X5 (cell33 lo h)) (h6 : r6 = X6 (cell33 lo h)) : st = biasTile u X4 X5 X6 X7 lo hi h := by
  subst hu hn h5 h6
  funext y
  rw [hst, hinit]
  rfl

theorem cons_congr {α β : Type} {f : α → β} {x x' : α} {L L' : List β} (h : x = x') (hL : L = L') : f x :: L = f x' :: L' := by
  rw [h, hL]

theorem iv_tile (k : ℕ) (hk : k < 64) : (Scf.iv 0#32 1#32 k).toNat = k := by
  have := iv_word 0#32 k (by simp; omega)
  simpa using this

theorem off_tile (k : ℕ) (hk : k < 64) : (Scalar.indexCast (Scalar.muli (Scf.iv 0#32 1#32 k) 256#32)).toNat = 256 * k := by
  show (Scf.iv 0#32 1#32 k * 256#32).toNat = _
  rw [BitVec.toNat_mul, iv_tile k hk]
  simp
  omega

theorem trip_lt (i : grid0.Coords) (k : Fin (k0_t1_loop i).trips) : k.val < 64 := lt_of_lt_of_le k.isLt (k0_t1_abs i).2.1

theorem off1_0 (i : grid0.Coords) (k : Fin (k0_t1_loop i).trips) : k0_off1 i k 0 = (i 1).val := by
  have h1 : (i 1).val < 64 := (i 1).isLt
  show (BitVec.ofNat 32 (i 1).val).toNat = _
  simp
  omega

theorem off1_1 (i : grid0.Coords) (k : Fin (k0_t1_loop i).trips) : k0_off1 i k 1 = k.val := iv_tile k.val (trip_lt i k)

theorem bias0 (𝒱 : Variants) (c : Dev nD) (bd : Option 𝒱.V) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (k0_t1 : Fin (k0_t1_loop i).trips) (v84 : IVec S256x256 32) (v87 : IVec S256x256 32) (v105 : Elt Ideal .i32) (k0_hw1 : k0_chk1 i v105) (v108 : Elt Ideal .i32) (k0_hw2 : k0_chk2 i v105 v108) (v111 : FVec Ideal S256x96 .fp8e4m3) (v131 : Vec Ideal S256x256 .f32) (X4 : S32.Idx → EReal) (X7 : S32x40.Idx → EReal) (X5 X6 : S33x40.Idx → EReal) (u : FVec Ideal S256x256 .f32) (r5 r6 : EReal) (hlo : v105.toNat ≤ 32) (hhi : v108.toNat ≤ 32)
    (hu : v131 = u) (h5 : r5 = X5 (cell33 v105.toNat ((i 0).val * 5 + 0))) (h6 : r6 = X6 (cell33 v105.toNat ((i 0).val * 5 + 0))) :
    st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 v84 v87 v105 k0_hw1 v108 k0_hw2 v111 v131 (harg4.unread X4) (harg7.unread X7) (k0_pay9 (F := Ideal) v131 r5 r6) (Scf.trips (k0_t2_loop v105 v108).lb (k0_t2_loop v105 v108).ub (k0_t2_loop v105 v108).st)
      = biasTile u X4 X5 X6 X7 v105.toNat v108.toNat ((i 0).val * 5 + 0) :=
  biasTile_of u X4 X5 X6 X7 _ _ _ _ _ (k0_pay9 (F := Ideal) v131 r5 r6) v131 r5 r6
    (fun y => hinge0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 v84 v87 v105 k0_hw1 v108 k0_hw2 v111 v131 X4 X7 (k0_pay9 (F := Ideal) v131 r5 r6) hlo hhi y _ (le_of_eq (trips_main v105 v108 hlo hhi)))
    (fun y => rfl) hu (trips_main v105 v108 hlo hhi) h5 h6

theorem bias1 (𝒱 : Variants) (c : Dev nD) (bd : Option 𝒱.V) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (v84 : IVec S256x256 32) (v87 : IVec S256x256 32) (v105 : Elt Ideal .i32) (k0_hw1 : k0_chk1 i v105) (v108 : Elt Ideal .i32) (k0_hw2 : k0_chk2 i v105 v108) (v111 : FVec Ideal S256x96 .fp8e4m3) (v125 : FVec Ideal S256x1 .f32) (v196 : BitVec 32) (v200 : Vec Ideal S256x256 .f32) (X4 : S32.Idx → EReal) (X7 : S32x40.Idx → EReal) (X5 X6 : S33x40.Idx → EReal) (u : FVec Ideal S256x256 .f32) (r5 r6 : EReal) (hlo : v105.toNat ≤ 32) (hhi : v108.toNat ≤ 32)
    (hu : v200 = u) (h5 : r5 = X5 (cell33 v105.toNat ((i 0).val * 5 + 1))) (h6 : r6 = X6 (cell33 v105.toNat ((i 0).val * 5 + 1))) :
    st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v111 v125 v196 v200 (harg4.unread X4) (harg7.unread X7) (k0_pay20 (F := Ideal) v200 r5 r6) (Scf.trips (k0_t4_loop v105 v108).lb (k0_t4_loop v105 v108).ub (k0_t4_loop v105 v108).st)
      = biasTile u X4 X5 X6 X7 v105.toNat v108.toNat ((i 0).val * 5 + 1) :=
  biasTile_of u X4 X5 X6 X7 _ _ _ _ _ (k0_pay20 (F := Ideal) v200 r5 r6) v200 r5 r6
    (fun y => hinge1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v111 v125 v196 v200 X4 X7 (k0_pay20 (F := Ideal) v200 r5 r6) hlo hhi y _ (le_of_eq (trips_main v105 v108 hlo hhi)))
    (fun y => rfl) hu (trips_main v105 v108 hlo hhi) h5 h6

theorem bias2 (𝒱 : Variants) (c : Dev nD) (bd : Option 𝒱.V) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (v84 : IVec S256x256 32) (v87 : IVec S256x256 32) (v105 : Elt Ideal .i32) (k0_hw1 : k0_chk1 i v105) (v108 : Elt Ideal .i32) (k0_hw2 : k0_chk2 i v105 v108) (v125 : FVec Ideal S256x1 .f32) (v265 : BitVec 32) (v268 : FVec Ideal S256x256 .f32) (v269 : Vec Ideal S256x256 .f32) (v272 : Elt Ideal .f32) (X4 : S32.Idx → EReal) (X7 : S32x40.Idx → EReal) (X5 X6 : S33x40.Idx → EReal) (u : FVec Ideal S256x256 .f32) (r5 r6 : EReal) (hlo : v105.toNat ≤ 32) (hhi : v108.toNat ≤ 32)
    (hu : v269 = u) (h5 : r5 = X5 (cell33 v105.toNat ((i 0).val * 5 + 2))) (h6 : r6 = X6 (cell33 v105.toNat ((i 0).val * 5 + 2))) :
    st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v125 v265 v268 v269 v272 (harg4.unread X4) (harg7.unread X7) (k0_pay33 (F := Ideal) v269 r5 r6) (Scf.trips (k0_t6_loop v105 v108).lb (k0_t6_loop v105 v108).ub (k0_t6_loop v105 v108).st)
      = biasTile u X4 X5 X6 X7 v105.toNat v108.toNat ((i 0).val * 5 + 2) :=
  biasTile_of u X4 X5 X6 X7 _ _ _ _ _ (k0_pay33 (F := Ideal) v269 r5 r6) v269 r5 r6
    (fun y => hinge2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 k0_hw1 v108 k0_hw2 v125 v265 v268 v269 v272 X4 X7 (k0_pay33 (F := Ideal) v269 r5 r6) hlo hhi y _ (le_of_eq (trips_main v105 v108 hlo hhi)))
    (fun y => rfl) hu (trips_main v105 v108 hlo hhi) h5 h6

theorem bias3 (𝒱 : Variants) (c : Dev nD) (bd : Option 𝒱.V) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (v84 : IVec S256x256 32) (v87 : IVec S256x256 32) (v105 : Elt Ideal .i32) (v108 : Elt Ideal .i32) (k0_hw2 : k0_chk2 i v105 v108) (v125 : FVec Ideal S256x1 .f32) (v334 : BitVec 32) (v337 : FVec Ideal S256x256 .f32) (v338 : Vec Ideal S256x256 .f32) (v348 : FVec Ideal S256x256 .f32) (v349 : BitVec 32) (c1_i32_187 : BitVec 32) (X4 : S32.Idx → EReal) (X7 : S32x40.Idx → EReal) (X5 X6 : S33x40.Idx → EReal) (u : FVec Ideal S256x256 .f32) (r5 r6 : EReal) (hlo : v105.toNat ≤ 32) (hhi : v108.toNat ≤ 32)
    (hu : v338 = u) (h5 : r5 = X5 (cell33 v105.toNat ((i 0).val * 5 + 3))) (h6 : r6 = X6 (cell33 v105.toNat ((i 0).val * 5 + 3))) :
    st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 v108 k0_hw2 v125 v334 v337 v338 v348 v349 c1_i32_187 (harg4.unread X4) (harg7.unread X7) (k0_pay45 (F := Ideal) v338 r5 r6) (Scf.trips (k0_t8_loop v105 v108).lb (k0_t8_loop v105 v108).ub (k0_t8_loop v105 v108).st)
      = biasTile u X4 X5 X6 X7 v105.toNat v108.toNat ((i 0).val * 5 + 3) :=
  biasTile_of u X4 X5 X6 X7 _ _ _ _ _ (k0_pay45 (F := Ideal) v338 r5 r6) v338 r5 r6
    (fun y => hinge3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v84 v87 v105 v108 k0_hw2 v125 v334 v337 v338 v348 v349 c1_i32_187 X4 X7 (k0_pay45 (F := Ideal) v338 r5 r6) hlo hhi y _ (le_of_eq (trips_main v105 v108 hlo hhi)))
    (fun y => rfl) hu (trips_main v105 v108 hlo hhi) h5 h6

theorem bias4 (𝒱 : Variants) (c : Dev nD) (bd : Option 𝒱.V) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (v105 : Elt Ideal .i32) (k0_hw1 : k0_chk1 i v105) (v108 : Elt Ideal .i32) (k0_hw2 : k0_chk2 i v105 v108) (v111 : FVec Ideal S256x96 .fp8e4m3) (v121 : FVec Ideal S96x256 .bf16) (v125 : FVec Ideal S256x1 .f32) (v377 : FVec Ideal S256x256 .f32) (v379 : FVec Ideal S1x256 .f32) (v388 : FVec Ideal S1x256 .f32) (v407 : Vec Ideal S256x256 .f32) (X4 : S32.Idx → EReal) (X7 : S32x40.Idx → EReal) (X5 X6 : S33x40.Idx → EReal) (u : FVec Ideal S256x256 .f32) (r5 r6 : EReal) (hlo : v105.toNat ≤ 32) (hhi : v108.toNat ≤ 32)
    (hu : v407 = u) (h5 : r5 = X5 (cell33 v105.toNat ((i 0).val * 5 + 4))) (h6 : r6 = X6 (cell33 v105.toNat ((i 0).val * 5 + 4))) :
    st_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v105 k0_hw1 v108 k0_hw2 v111 v121 v125 v377 v379 v388 v407 (harg4.unread X4) (harg7.unread X7) (k0_pay57 (F := Ideal) v407 r5 r6) (Scf.trips (k0_t10_loop v105 v108).lb (k0_t10_loop v105 v108).ub (k0_t10_loop v105 v108).st)
      = biasTile u X4 X5 X6 X7 v105.toNat v108.toNat ((i 0).val * 5 + 4) :=
  biasTile_of u X4 X5 X6 X7 _ _ _ _ _ (k0_pay57 (F := Ideal) v407 r5 r6) v407 r5 r6
    (fun y => hinge4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v105 k0_hw1 v108 k0_hw2 v111 v121 v125 v377 v379 v388 v407 X4 X7 (k0_pay57 (F := Ideal) v407 r5 r6) hlo hhi y _ (le_of_eq (trips_main v105 v108 hlo hhi)))
    (fun y => rfl) hu (trips_main v105 v108 hlo hhi) h5 h6

theorem lo_read (i : grid0.Coords) (arg2 : Memref sig .tc .smem S64x64 .i32) (harg2 : arg2.IsWhole) (X2 : S64x64.Idx → BitVec 32) (k : Fin (k0_t1_loop i).trips) :
    trip.sl.r (F := Ideal) i arg2 (harg2.unread X2) k = X2 (cell64 (i 1).val k.val) := by
  unfold trip.sl.r
  refine (harg2.readAt_unread (Val := Elt Ideal) X2 _ _).trans ?_
  refine congrArg X2 (eq_cell64 _ _ _ ?_ ?_ (i 1).isLt (trip_lt i k))
  · exact (Rect.idx_unit_val _ _ _ _ 0).trans (off1_0 i k)
  · exact (Rect.idx_unit_val _ _ _ _ 1).trans (off1_1 i k)

theorem hi_read (i : grid0.Coords) (arg3 : Memref sig .tc .smem S64x64 .i32) (harg3 : arg3.IsWhole) (X3 : S64x64.Idx → BitVec 32) (k : Fin (k0_t1_loop i).trips) :
    trip.sl.r_1 (F := Ideal) i arg3 (harg3.unread X3) k = X3 (cell64 (i 1).val k.val) := by
  unfold trip.sl.r_1
  refine (harg3.readAt_unread (Val := Elt Ideal) X3 _ _).trans ?_
  refine congrArg X3 (eq_cell64 _ _ _ ?_ ?_ (i 1).isLt (trip_lt i k))
  · exact (Rect.idx_unit_val _ _ _ _ 0).trans (off1_0 i k)
  · exact (Rect.idx_unit_val _ _ _ _ 1).trans (off1_1 i k)

theorem cell_read (i : grid0.Coords) {arg : Memref sig .tc .smem S33x40 .f32} (harg : arg.IsWhole) (X : S33x40.Idx → EReal) (w : BitVec 32) (hw : w.toNat ≤ 32)
    (h : ℕ) (hh : h < 5) (off : Fin 2 → ℕ) (h0 : off 0 = w.toNat) (h1 : off 1 = (i 0).val * 5 + h) (inb) (z) :
    View.readAt (Elt Ideal) arg.view (Rect.unit (s := S33x40) off S1x1.size inb).toLoadRect (harg.unread X) z = X (cell33 w.toNat ((i 0).val * 5 + h)) := by
  have hi0 : (i 0).val < 8 := (i 0).isLt
  have hz : ∀ x : Fin 2, (z x).val = 0 := fun x => by
    have := (z x).isLt
    match x with
    | ⟨0, _⟩ => exact Nat.lt_one_iff.mp this
    | ⟨1, _⟩ => exact Nat.lt_one_iff.mp this
  refine (harg.readAt_unread (Val := Elt Ideal) X _ _).trans ?_
  refine congrArg X (eq_cell33 _ _ _ ?_ ?_ (by omega) (by omega))
  · refine (Rect.idx_unit_val _ _ _ _ 0).trans ?_
    rw [h0, hz 0, Nat.add_zero]
  · refine (Rect.idx_unit_val _ _ _ _ 1).trans ?_
    rw [h1, hz 1, Nat.add_zero]

/-- Head `h`'s tile of scores for the key tile `k`. -/
abbrev scoreTile (i : grid0.Coords) (v0 : BitVec 32) (v13 : EReal) (v14 : Vec Ideal S1x256 .f32)
    (X2 X3 : S64x64.Idx → BitVec 32) (X4 : S32.Idx → EReal) (X5 X6 : S33x40.Idx → EReal) (X7 : S32x40.Idx → EReal)
    (kb : Vec Ideal S1x256x96 .fp8e4m3) (ks : Vec Ideal S1x256x128 .f32) (q : Vec Ideal S1x256x96 .fp8e4m3) (a : Vec Ideal S1x1x256 .f32)
    (h : ℕ) (k : Fin (k0_t1_loop i).trips) : FVec Ideal S256x256 .f32 :=
  k0_pay12 (F := Ideal) (k0_pay3 i 0#32 1#32 k) (k0_pay4 v0) (k0_pay6 kb) ks q
    (biasTile (k0_pay5 (F := Ideal) i v0 v13 (k0_pay138 v14) 0#32 1#32 k) X4 X5 X6 X7 (X2 (cell64 (i 1).val k.val)).toNat (X3 (cell64 (i 1).val k.val)).toNat ((i 0).val * 5 + h)) a

set_option maxHeartbeats 0 in
theorem trip_max (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt Ideal .f32) (v14 : Vec Ideal S1x256 .f32) (X2 : S64x64.Idx → BitVec 32) (X3 : S64x64.Idx → BitVec 32) (X4 : S32.Idx → EReal) (X5 : S33x40.Idx → EReal) (X6 : S33x40.Idx → EReal) (X7 : S32x40.Idx → EReal) (X9 : S5x256x96.Idx → EReal) (X10 : S1x16384x96.Idx → EReal) (X11 : S1x96x16384.Idx → EReal) (X12 : S1x1x16384.Idx → EReal) (X13 : S1x16384x128.Idx → EReal) (X14 : S5x1x256.Idx → EReal) (hw2 : ∀ j, BitVec.toNat (arg2.view.read (Elt Ideal) (harg2.unread X2) j) ≤ 32) (hw3 : ∀ j, BitVec.toNat (arg3.view.read (Elt Ideal) (harg3.unread X3) j) ≤ 32) (k : Fin (k0_t1_loop i).trips) (hlo : (trip.sl.r (F := Ideal) i arg2 (harg2.unread X2) k).toNat ≤ 32) (hhi : (trip.sl.r_1 (F := Ideal) i arg3 (harg3.unread X3) k).toNat ≤ 32)  :
    (trip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 (harg2.unread X2) (harg3.unread X3) (harg4.unread X4) (harg5.unread X5) (harg6.unread X6) (harg7.unread X7) (harg9.unread X9) (harg10.unread X10) (harg11.unread X11) (harg12.unread X12) (harg13.unread X13) (harg14.unread X14) hw2 hw3 k).1 = (fun f17 f18 f19 => [⟨Rect.unit (s := S5x1x256) ![4, 0, 0] S1x1x256.size inb_S5x1x256_S1x1x256_4_0_0, k0_pay17 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![4, 0, 0] S1x256x96.size inb_S5x256x96_S1x256x96_4_0_0).toLoadRect (harg9.unread X9)) (View.readAt (Elt Ideal) arg14.view (Rect.unit (s := S5x1x256) ![4, 0, 0] S1x1x256.size inb_S5x1x256_S1x1x256_4_0_0).toLoadRect (harg14.unread X14)) 4 k) (View.readAt (Elt Ideal) arg17.view (Rect.unit (s := S5x1x256) ![4, 0, 0] S1x1x256.size inb_S5x1x256_S1x1x256_4_0_0).toLoadRect f17)⟩, ⟨Rect.unit (s := S5x1x256) ![3, 0, 0] S1x1x256.size inb_S5x1x256_S1x1x256_3_0_0, k0_pay17 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![3, 0, 0] S1x256x96.size inb_S5x256x96_S1x256x96_3_0_0).toLoadRect (harg9.unread X9)) (View.readAt (Elt Ideal) arg14.view (Rect.unit (s := S5x1x256) ![3, 0, 0] S1x1x256.size inb_S5x1x256_S1x1x256_3_0_0).toLoadRect (harg14.unread X14)) 3 k) (View.readAt (Elt Ideal) arg17.view (Rect.unit (s := S5x1x256) ![3, 0, 0] S1x1x256.size inb_S5x1x256_S1x1x256_3_0_0).toLoadRect f17)⟩, ⟨Rect.unit (s := S5x1x256) ![2, 0, 0] S1x1x256.size inb_S5x1x256_S1x1x256_2_0_0, k0_pay17 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![2, 0, 0] S1x256x96.size inb_S5x256x96_S1x256x96_2_0_0).toLoadRect (harg9.unread X9)) (View.readAt (Elt Ideal) arg14.view (Rect.unit (s := S5x1x256) ![2, 0, 0] S1x1x256.size inb_S5x1x256_S1x1x256_2_0_0).toLoadRect (harg14.unread X14)) 2 k) (View.readAt (Elt Ideal) arg17.view (Rect.unit (s := S5x1x256) ![2, 0, 0] S1x1x256.size inb_S5x1x256_S1x1x256_2_0_0).toLoadRect f17)⟩, ⟨Rect.unit (s := S5x1x256) ![1, 0, 0] S1x1x256.size inb_S5x1x256_S1x1x256_1_0_0, k0_pay17 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![1, 0, 0] S1x256x96.size inb_S5x256x96_S1x256x96_1_0_0).toLoadRect (harg9.unread X9)) (View.readAt (Elt Ideal) arg14.view (Rect.unit (s := S5x1x256) ![1, 0, 0] S1x1x256.size inb_S5x1x256_S1x1x256_1_0_0).toLoadRect (harg14.unread X14)) 1 k) (View.readAt (Elt Ideal) arg17.view (Rect.unit (s := S5x1x256) ![1, 0, 0] S1x1x256.size inb_S5x1x256_S1x1x256_1_0_0).toLoadRect f17)⟩, ⟨Rect.unit (s := S5x1x256) ![0, 0, 0] S1x1x256.size inb_S5x1x256_S1x1x256_0_0_0, k0_pay17 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![0, 0, 0] S1x256x96.size inb_S5x256x96_S1x256x96_0_0_0).toLoadRect (harg9.unread X9)) (View.readAt (Elt Ideal) arg14.view (Rect.unit (s := S5x1x256) ![0, 0, 0] S1x1x256.size inb_S5x1x256_S1x1x256_0_0_0).toLoadRect (harg14.unread X14)) 0 k) (View.readAt (Elt Ideal) arg17.view (Rect.unit (s := S5x1x256) ![0, 0, 0] S1x1x256.size inb_S5x1x256_S1x1x256_0_0_0).toLoadRect f17)⟩]) := by
  have hu : arg20.view.readCov (Val := Elt Ideal) (trip.sl.H20_1 (F := Ideal) i v0 v13 v14 k) (Rect.unit (s := S256x256) ![0, 0] S256x256.size inb_S256x256_S256x256_0_0).toLoadRect
      = k0_pay5 (F := Ideal) i v0 v13 (k0_pay138 v14) 0#32 1#32 k := View.readCov_full _ _ _ _ _
  funext f17 f18 f19
  unfold trip
  dsimp only
  exact cons_congr (f := fun w => (⟨Rect.unit (s := S5x1x256) ![4, 0, 0] S1x1x256.size inb_S5x1x256_S1x1x256_4_0_0, w⟩ : View.Piece (Elt Ideal) S5x1x256 .f32)) (head4_17 _ _ _ _ _ ((bias4 (X5 := X5) (X6 := X6) (hlo := hlo) (hhi := hhi) (hu := hu)
      (h5 := cell_read i harg5 X5 _ hlo 4 (by decide) (k0_off11 i (trip.sl.r (F := Ideal) i arg2 (harg2.unread X2) k) 4#32) rfl (head_word i 4 (by decide)) _ _)
      (h6 := cell_read i harg6 X6 _ hlo 4 (by decide) (k0_off11 i (trip.sl.r (F := Ideal) i arg2 (harg2.unread X2) k) 4#32) rfl (head_word i 4 (by decide)) _ _) ..).trans (by rw [lo_read, hi_read])) _ _)
      (cons_congr (f := fun w => (⟨Rect.unit (s := S5x1x256) ![3, 0, 0] S1x1x256.size inb_S5x1x256_S1x1x256_3_0_0, w⟩ : View.Piece (Elt Ideal) S5x1x256 .f32)) (head3_17 _ _ _ _ _ ((bias3 (X5 := X5) (X6 := X6) (hlo := hlo) (hhi := hhi) (hu := hu)
      (h5 := cell_read i harg5 X5 _ hlo 3 (by decide) (k0_off11 i (trip.sl.r (F := Ideal) i arg2 (harg2.unread X2) k) 3#32) rfl (head_word i 3 (by decide)) _ _)
      (h6 := cell_read i harg6 X6 _ hlo 3 (by decide) (k0_off11 i (trip.sl.r (F := Ideal) i arg2 (harg2.unread X2) k) 3#32) rfl (head_word i 3 (by decide)) _ _) ..).trans (by rw [lo_read, hi_read])) _ _)
      (cons_congr (f := fun w => (⟨Rect.unit (s := S5x1x256) ![2, 0, 0] S1x1x256.size inb_S5x1x256_S1x1x256_2_0_0, w⟩ : View.Piece (Elt Ideal) S5x1x256 .f32)) (head2_17 _ _ _ _ _ ((bias2 (X5 := X5) (X6 := X6) (hlo := hlo) (hhi := hhi) (hu := hu)
      (h5 := cell_read i harg5 X5 _ hlo 2 (by decide) (k0_off11 i (trip.sl.r (F := Ideal) i arg2 (harg2.unread X2) k) 2#32) rfl (head_word i 2 (by decide)) _ _)
      (h6 := cell_read i harg6 X6 _ hlo 2 (by decide) (k0_off11 i (trip.sl.r (F := Ideal) i arg2 (harg2.unread X2) k) 2#32) rfl (head_word i 2 (by decide)) _ _) ..).trans (by rw [lo_read, hi_read])) _ _)
      (cons_congr (f := fun w => (⟨Rect.unit (s := S5x1x256) ![1, 0, 0] S1x1x256.size inb_S5x1x256_S1x1x256_1_0_0, w⟩ : View.Piece (Elt Ideal) S5x1x256 .f32)) (head1_17 _ _ _ _ _ ((bias1 (X5 := X5) (X6 := X6) (hlo := hlo) (hhi := hhi) (hu := hu)
      (h5 := cell_read i harg5 X5 _ hlo 1 (by decide) (k0_off11 i (trip.sl.r (F := Ideal) i arg2 (harg2.unread X2) k) 1#32) rfl (head_word i 1 (by decide)) _ _)
      (h6 := cell_read i harg6 X6 _ hlo 1 (by decide) (k0_off11 i (trip.sl.r (F := Ideal) i arg2 (harg2.unread X2) k) 1#32) rfl (head_word i 1 (by decide)) _ _) ..).trans (by rw [lo_read, hi_read])) _ _)
      (cons_congr (f := fun w => (⟨Rect.unit (s := S5x1x256) ![0, 0, 0] S1x1x256.size inb_S5x1x256_S1x1x256_0_0_0, w⟩ : View.Piece (Elt Ideal) S5x1x256 .f32)) (head0_17 _ _ _ _ _ ((bias0 (X5 := X5) (X6 := X6) (hlo := hlo) (hhi := hhi) (hu := hu)
      (h5 := cell_read i harg5 X5 _ hlo 0 (by decide) (k0_off6 i (trip.sl.r (F := Ideal) i arg2 (harg2.unread X2) k)) rfl (head_word i 0 (by decide)) _ _)
      (h6 := cell_read i harg6 X6 _ hlo 0 (by decide) (k0_off6 i (trip.sl.r (F := Ideal) i arg2 (harg2.unread X2) k)) rfl (head_word i 0 (by decide)) _ _) ..).trans (by rw [lo_read, hi_read])) _ _) rfl))))

set_option maxHeartbeats 0 in
theorem trip_sum (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt Ideal .f32) (v14 : Vec Ideal S1x256 .f32) (X2 : S64x64.Idx → BitVec 32) (X3 : S64x64.Idx → BitVec 32) (X4 : S32.Idx → EReal) (X5 : S33x40.Idx → EReal) (X6 : S33x40.Idx → EReal) (X7 : S32x40.Idx → EReal) (X9 : S5x256x96.Idx → EReal) (X10 : S1x16384x96.Idx → EReal) (X11 : S1x96x16384.Idx → EReal) (X12 : S1x1x16384.Idx → EReal) (X13 : S1x16384x128.Idx → EReal) (X14 : S5x1x256.Idx → EReal) (hw2 : ∀ j, BitVec.toNat (arg2.view.read (Elt Ideal) (harg2.unread X2) j) ≤ 32) (hw3 : ∀ j, BitVec.toNat (arg3.view.read (Elt Ideal) (harg3.unread X3) j) ≤ 32) (k : Fin (k0_t1_loop i).trips) (hlo : (trip.sl.r (F := Ideal) i arg2 (harg2.unread X2) k).toNat ≤ 32) (hhi : (trip.sl.r_1 (F := Ideal) i arg3 (harg3.unread X3) k).toNat ≤ 32)  :
    (trip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 (harg2.unread X2) (harg3.unread X3) (harg4.unread X4) (harg5.unread X5) (harg6.unread X6) (harg7.unread X7) (harg9.unread X9) (harg10.unread X10) (harg11.unread X11) (harg12.unread X12) (harg13.unread X13) (harg14.unread X14) hw2 hw3 k).2.1 = (fun f17 f18 f19 => [⟨Rect.unit (s := S5x1x256) ![4, 0, 0] S1x1x256.size inb_S5x1x256_S1x1x256_4_0_0, k0_pay18 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![4, 0, 0] S1x256x96.size inb_S5x256x96_S1x256x96_4_0_0).toLoadRect (harg9.unread X9)) (View.readAt (Elt Ideal) arg14.view (Rect.unit (s := S5x1x256) ![4, 0, 0] S1x1x256.size inb_S5x1x256_S1x1x256_4_0_0).toLoadRect (harg14.unread X14)) 4 k) (View.readAt (Elt Ideal) arg17.view (Rect.unit (s := S5x1x256) ![4, 0, 0] S1x1x256.size inb_S5x1x256_S1x1x256_4_0_0).toLoadRect f17) (View.readAt (Elt Ideal) arg18.view (Rect.unit (s := S5x1x256) ![4, 0, 0] S1x1x256.size inb_S5x1x256_S1x1x256_4_0_0).toLoadRect f18)⟩, ⟨Rect.unit (s := S5x1x256) ![3, 0, 0] S1x1x256.size inb_S5x1x256_S1x1x256_3_0_0, k0_pay18 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![3, 0, 0] S1x256x96.size inb_S5x256x96_S1x256x96_3_0_0).toLoadRect (harg9.unread X9)) (View.readAt (Elt Ideal) arg14.view (Rect.unit (s := S5x1x256) ![3, 0, 0] S1x1x256.size inb_S5x1x256_S1x1x256_3_0_0).toLoadRect (harg14.unread X14)) 3 k) (View.readAt (Elt Ideal) arg17.view (Rect.unit (s := S5x1x256) ![3, 0, 0] S1x1x256.size inb_S5x1x256_S1x1x256_3_0_0).toLoadRect f17) (View.readAt (Elt Ideal) arg18.view (Rect.unit (s := S5x1x256) ![3, 0, 0] S1x1x256.size inb_S5x1x256_S1x1x256_3_0_0).toLoadRect f18)⟩, ⟨Rect.unit (s := S5x1x256) ![2, 0, 0] S1x1x256.size inb_S5x1x256_S1x1x256_2_0_0, k0_pay18 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![2, 0, 0] S1x256x96.size inb_S5x256x96_S1x256x96_2_0_0).toLoadRect (harg9.unread X9)) (View.readAt (Elt Ideal) arg14.view (Rect.unit (s := S5x1x256) ![2, 0, 0] S1x1x256.size inb_S5x1x256_S1x1x256_2_0_0).toLoadRect (harg14.unread X14)) 2 k) (View.readAt (Elt Ideal) arg17.view (Rect.unit (s := S5x1x256) ![2, 0, 0] S1x1x256.size inb_S5x1x256_S1x1x256_2_0_0).toLoadRect f17) (View.readAt (Elt Ideal) arg18.view (Rect.unit (s := S5x1x256) ![2, 0, 0] S1x1x256.size inb_S5x1x256_S1x1x256_2_0_0).toLoadRect f18)⟩, ⟨Rect.unit (s := S5x1x256) ![1, 0, 0] S1x1x256.size inb_S5x1x256_S1x1x256_1_0_0, k0_pay18 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![1, 0, 0] S1x256x96.size inb_S5x256x96_S1x256x96_1_0_0).toLoadRect (harg9.unread X9)) (View.readAt (Elt Ideal) arg14.view (Rect.unit (s := S5x1x256) ![1, 0, 0] S1x1x256.size inb_S5x1x256_S1x1x256_1_0_0).toLoadRect (harg14.unread X14)) 1 k) (View.readAt (Elt Ideal) arg17.view (Rect.unit (s := S5x1x256) ![1, 0, 0] S1x1x256.size inb_S5x1x256_S1x1x256_1_0_0).toLoadRect f17) (View.readAt (Elt Ideal) arg18.view (Rect.unit (s := S5x1x256) ![1, 0, 0] S1x1x256.size inb_S5x1x256_S1x1x256_1_0_0).toLoadRect f18)⟩, ⟨Rect.unit (s := S5x1x256) ![0, 0, 0] S1x1x256.size inb_S5x1x256_S1x1x256_0_0_0, k0_pay18 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![0, 0, 0] S1x256x96.size inb_S5x256x96_S1x256x96_0_0_0).toLoadRect (harg9.unread X9)) (View.readAt (Elt Ideal) arg14.view (Rect.unit (s := S5x1x256) ![0, 0, 0] S1x1x256.size inb_S5x1x256_S1x1x256_0_0_0).toLoadRect (harg14.unread X14)) 0 k) (View.readAt (Elt Ideal) arg17.view (Rect.unit (s := S5x1x256) ![0, 0, 0] S1x1x256.size inb_S5x1x256_S1x1x256_0_0_0).toLoadRect f17) (View.readAt (Elt Ideal) arg18.view (Rect.unit (s := S5x1x256) ![0, 0, 0] S1x1x256.size inb_S5x1x256_S1x1x256_0_0_0).toLoadRect f18)⟩]) := by
  have hu : arg20.view.readCov (Val := Elt Ideal) (trip.sl.H20_1 (F := Ideal) i v0 v13 v14 k) (Rect.unit (s := S256x256) ![0, 0] S256x256.size inb_S256x256_S256x256_0_0).toLoadRect
      = k0_pay5 (F := Ideal) i v0 v13 (k0_pay138 v14) 0#32 1#32 k := View.readCov_full _ _ _ _ _
  funext f17 f18 f19
  unfold trip
  dsimp only
  exact cons_congr (f := fun w => (⟨Rect.unit (s := S5x1x256) ![4, 0, 0] S1x1x256.size inb_S5x1x256_S1x1x256_4_0_0, w⟩ : View.Piece (Elt Ideal) S5x1x256 .f32)) (head4_18 _ _ _ _ _ ((bias4 (X5 := X5) (X6 := X6) (hlo := hlo) (hhi := hhi) (hu := hu)
      (h5 := cell_read i harg5 X5 _ hlo 4 (by decide) (k0_off11 i (trip.sl.r (F := Ideal) i arg2 (harg2.unread X2) k) 4#32) rfl (head_word i 4 (by decide)) _ _)
      (h6 := cell_read i harg6 X6 _ hlo 4 (by decide) (k0_off11 i (trip.sl.r (F := Ideal) i arg2 (harg2.unread X2) k) 4#32) rfl (head_word i 4 (by decide)) _ _) ..).trans (by rw [lo_read, hi_read])) _ _ _)
      (cons_congr (f := fun w => (⟨Rect.unit (s := S5x1x256) ![3, 0, 0] S1x1x256.size inb_S5x1x256_S1x1x256_3_0_0, w⟩ : View.Piece (Elt Ideal) S5x1x256 .f32)) (head3_18 _ _ _ _ _ ((bias3 (X5 := X5) (X6 := X6) (hlo := hlo) (hhi := hhi) (hu := hu)
      (h5 := cell_read i harg5 X5 _ hlo 3 (by decide) (k0_off11 i (trip.sl.r (F := Ideal) i arg2 (harg2.unread X2) k) 3#32) rfl (head_word i 3 (by decide)) _ _)
      (h6 := cell_read i harg6 X6 _ hlo 3 (by decide) (k0_off11 i (trip.sl.r (F := Ideal) i arg2 (harg2.unread X2) k) 3#32) rfl (head_word i 3 (by decide)) _ _) ..).trans (by rw [lo_read, hi_read])) _ _ _)
      (cons_congr (f := fun w => (⟨Rect.unit (s := S5x1x256) ![2, 0, 0] S1x1x256.size inb_S5x1x256_S1x1x256_2_0_0, w⟩ : View.Piece (Elt Ideal) S5x1x256 .f32)) (head2_18 _ _ _ _ _ ((bias2 (X5 := X5) (X6 := X6) (hlo := hlo) (hhi := hhi) (hu := hu)
      (h5 := cell_read i harg5 X5 _ hlo 2 (by decide) (k0_off11 i (trip.sl.r (F := Ideal) i arg2 (harg2.unread X2) k) 2#32) rfl (head_word i 2 (by decide)) _ _)
      (h6 := cell_read i harg6 X6 _ hlo 2 (by decide) (k0_off11 i (trip.sl.r (F := Ideal) i arg2 (harg2.unread X2) k) 2#32) rfl (head_word i 2 (by decide)) _ _) ..).trans (by rw [lo_read, hi_read])) _ _ _)
      (cons_congr (f := fun w => (⟨Rect.unit (s := S5x1x256) ![1, 0, 0] S1x1x256.size inb_S5x1x256_S1x1x256_1_0_0, w⟩ : View.Piece (Elt Ideal) S5x1x256 .f32)) (head1_18 _ _ _ _ _ ((bias1 (X5 := X5) (X6 := X6) (hlo := hlo) (hhi := hhi) (hu := hu)
      (h5 := cell_read i harg5 X5 _ hlo 1 (by decide) (k0_off11 i (trip.sl.r (F := Ideal) i arg2 (harg2.unread X2) k) 1#32) rfl (head_word i 1 (by decide)) _ _)
      (h6 := cell_read i harg6 X6 _ hlo 1 (by decide) (k0_off11 i (trip.sl.r (F := Ideal) i arg2 (harg2.unread X2) k) 1#32) rfl (head_word i 1 (by decide)) _ _) ..).trans (by rw [lo_read, hi_read])) _ _ _)
      (cons_congr (f := fun w => (⟨Rect.unit (s := S5x1x256) ![0, 0, 0] S1x1x256.size inb_S5x1x256_S1x1x256_0_0_0, w⟩ : View.Piece (Elt Ideal) S5x1x256 .f32)) (head0_18 _ _ _ _ _ ((bias0 (X5 := X5) (X6 := X6) (hlo := hlo) (hhi := hhi) (hu := hu)
      (h5 := cell_read i harg5 X5 _ hlo 0 (by decide) (k0_off6 i (trip.sl.r (F := Ideal) i arg2 (harg2.unread X2) k)) rfl (head_word i 0 (by decide)) _ _)
      (h6 := cell_read i harg6 X6 _ hlo 0 (by decide) (k0_off6 i (trip.sl.r (F := Ideal) i arg2 (harg2.unread X2) k)) rfl (head_word i 0 (by decide)) _ _) ..).trans (by rw [lo_read, hi_read])) _ _ _) rfl))))

set_option maxHeartbeats 0 in
theorem trip_acc (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt Ideal .f32) (v14 : Vec Ideal S1x256 .f32) (X2 : S64x64.Idx → BitVec 32) (X3 : S64x64.Idx → BitVec 32) (X4 : S32.Idx → EReal) (X5 : S33x40.Idx → EReal) (X6 : S33x40.Idx → EReal) (X7 : S32x40.Idx → EReal) (X9 : S5x256x96.Idx → EReal) (X10 : S1x16384x96.Idx → EReal) (X11 : S1x96x16384.Idx → EReal) (X12 : S1x1x16384.Idx → EReal) (X13 : S1x16384x128.Idx → EReal) (X14 : S5x1x256.Idx → EReal) (hw2 : ∀ j, BitVec.toNat (arg2.view.read (Elt Ideal) (harg2.unread X2) j) ≤ 32) (hw3 : ∀ j, BitVec.toNat (arg3.view.read (Elt Ideal) (harg3.unread X3) j) ≤ 32) (k : Fin (k0_t1_loop i).trips) (hlo : (trip.sl.r (F := Ideal) i arg2 (harg2.unread X2) k).toNat ≤ 32) (hhi : (trip.sl.r_1 (F := Ideal) i arg3 (harg3.unread X3) k).toNat ≤ 32)  :
    (trip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 (harg2.unread X2) (harg3.unread X3) (harg4.unread X4) (harg5.unread X5) (harg6.unread X6) (harg7.unread X7) (harg9.unread X9) (harg10.unread X10) (harg11.unread X11) (harg12.unread X12) (harg13.unread X13) (harg14.unread X14) hw2 hw3 k).2.2.1 = (fun f17 f18 f19 => [⟨Rect.unit (s := S5x96x256) ![4, 0, 0] S1x96x256.size inb_S5x96x256_S1x96x256_4_0_0, k0_pay19 (F := Ideal) (k0_pay7 (View.readAt (Elt Ideal) arg11.view (Rect.unit (s := S1x96x16384) (k0_off3 i k) S1x96x256.size (k0_off3_inb i k)).toLoadRect (harg11.unread X11)) (View.readAt (Elt Ideal) arg12.view (Rect.unit (s := S1x1x16384) (k0_off4 i k) S1x1x256.size (k0_off4_inb i k)).toLoadRect (harg12.unread X12))) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![4, 0, 0] S1x256x96.size inb_S5x256x96_S1x256x96_4_0_0).toLoadRect (harg9.unread X9)) (View.readAt (Elt Ideal) arg14.view (Rect.unit (s := S5x1x256) ![4, 0, 0] S1x1x256.size inb_S5x1x256_S1x1x256_4_0_0).toLoadRect (harg14.unread X14)) 4 k) (View.readAt (Elt Ideal) arg17.view (Rect.unit (s := S5x1x256) ![4, 0, 0] S1x1x256.size inb_S5x1x256_S1x1x256_4_0_0).toLoadRect f17) (View.readAt (Elt Ideal) arg19.view (Rect.unit (s := S5x96x256) ![4, 0, 0] S1x96x256.size inb_S5x96x256_S1x96x256_4_0_0).toLoadRect f19)⟩, ⟨Rect.unit (s := S5x96x256) ![3, 0, 0] S1x96x256.size inb_S5x96x256_S1x96x256_3_0_0, k0_pay19 (F := Ideal) (k0_pay7 (View.readAt (Elt Ideal) arg11.view (Rect.unit (s := S1x96x16384) (k0_off3 i k) S1x96x256.size (k0_off3_inb i k)).toLoadRect (harg11.unread X11)) (View.readAt (Elt Ideal) arg12.view (Rect.unit (s := S1x1x16384) (k0_off4 i k) S1x1x256.size (k0_off4_inb i k)).toLoadRect (harg12.unread X12))) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![3, 0, 0] S1x256x96.size inb_S5x256x96_S1x256x96_3_0_0).toLoadRect (harg9.unread X9)) (View.readAt (Elt Ideal) arg14.view (Rect.unit (s := S5x1x256) ![3, 0, 0] S1x1x256.size inb_S5x1x256_S1x1x256_3_0_0).toLoadRect (harg14.unread X14)) 3 k) (View.readAt (Elt Ideal) arg17.view (Rect.unit (s := S5x1x256) ![3, 0, 0] S1x1x256.size inb_S5x1x256_S1x1x256_3_0_0).toLoadRect f17) (View.readAt (Elt Ideal) arg19.view (Rect.unit (s := S5x96x256) ![3, 0, 0] S1x96x256.size inb_S5x96x256_S1x96x256_3_0_0).toLoadRect f19)⟩, ⟨Rect.unit (s := S5x96x256) ![2, 0, 0] S1x96x256.size inb_S5x96x256_S1x96x256_2_0_0, k0_pay19 (F := Ideal) (k0_pay7 (View.readAt (Elt Ideal) arg11.view (Rect.unit (s := S1x96x16384) (k0_off3 i k) S1x96x256.size (k0_off3_inb i k)).toLoadRect (harg11.unread X11)) (View.readAt (Elt Ideal) arg12.view (Rect.unit (s := S1x1x16384) (k0_off4 i k) S1x1x256.size (k0_off4_inb i k)).toLoadRect (harg12.unread X12))) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![2, 0, 0] S1x256x96.size inb_S5x256x96_S1x256x96_2_0_0).toLoadRect (harg9.unread X9)) (View.readAt (Elt Ideal) arg14.view (Rect.unit (s := S5x1x256) ![2, 0, 0] S1x1x256.size inb_S5x1x256_S1x1x256_2_0_0).toLoadRect (harg14.unread X14)) 2 k) (View.readAt (Elt Ideal) arg17.view (Rect.unit (s := S5x1x256) ![2, 0, 0] S1x1x256.size inb_S5x1x256_S1x1x256_2_0_0).toLoadRect f17) (View.readAt (Elt Ideal) arg19.view (Rect.unit (s := S5x96x256) ![2, 0, 0] S1x96x256.size inb_S5x96x256_S1x96x256_2_0_0).toLoadRect f19)⟩, ⟨Rect.unit (s := S5x96x256) ![1, 0, 0] S1x96x256.size inb_S5x96x256_S1x96x256_1_0_0, k0_pay19 (F := Ideal) (k0_pay7 (View.readAt (Elt Ideal) arg11.view (Rect.unit (s := S1x96x16384) (k0_off3 i k) S1x96x256.size (k0_off3_inb i k)).toLoadRect (harg11.unread X11)) (View.readAt (Elt Ideal) arg12.view (Rect.unit (s := S1x1x16384) (k0_off4 i k) S1x1x256.size (k0_off4_inb i k)).toLoadRect (harg12.unread X12))) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![1, 0, 0] S1x256x96.size inb_S5x256x96_S1x256x96_1_0_0).toLoadRect (harg9.unread X9)) (View.readAt (Elt Ideal) arg14.view (Rect.unit (s := S5x1x256) ![1, 0, 0] S1x1x256.size inb_S5x1x256_S1x1x256_1_0_0).toLoadRect (harg14.unread X14)) 1 k) (View.readAt (Elt Ideal) arg17.view (Rect.unit (s := S5x1x256) ![1, 0, 0] S1x1x256.size inb_S5x1x256_S1x1x256_1_0_0).toLoadRect f17) (View.readAt (Elt Ideal) arg19.view (Rect.unit (s := S5x96x256) ![1, 0, 0] S1x96x256.size inb_S5x96x256_S1x96x256_1_0_0).toLoadRect f19)⟩, ⟨Rect.unit (s := S5x96x256) ![0, 0, 0] S1x96x256.size inb_S5x96x256_S1x96x256_0_0_0, k0_pay19 (F := Ideal) (k0_pay7 (View.readAt (Elt Ideal) arg11.view (Rect.unit (s := S1x96x16384) (k0_off3 i k) S1x96x256.size (k0_off3_inb i k)).toLoadRect (harg11.unread X11)) (View.readAt (Elt Ideal) arg12.view (Rect.unit (s := S1x1x16384) (k0_off4 i k) S1x1x256.size (k0_off4_inb i k)).toLoadRect (harg12.unread X12))) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (Rect.unit (s := S5x256x96) ![0, 0, 0] S1x256x96.size inb_S5x256x96_S1x256x96_0_0_0).toLoadRect (harg9.unread X9)) (View.readAt (Elt Ideal) arg14.view (Rect.unit (s := S5x1x256) ![0, 0, 0] S1x1x256.size inb_S5x1x256_S1x1x256_0_0_0).toLoadRect (harg14.unread X14)) 0 k) (View.readAt (Elt Ideal) arg17.view (Rect.unit (s := S5x1x256) ![0, 0, 0] S1x1x256.size inb_S5x1x256_S1x1x256_0_0_0).toLoadRect f17) (View.readAt (Elt Ideal) arg19.view (Rect.unit (s := S5x96x256) ![0, 0, 0] S1x96x256.size inb_S5x96x256_S1x96x256_0_0_0).toLoadRect f19)⟩]) := by
  have hu : arg20.view.readCov (Val := Elt Ideal) (trip.sl.H20_1 (F := Ideal) i v0 v13 v14 k) (Rect.unit (s := S256x256) ![0, 0] S256x256.size inb_S256x256_S256x256_0_0).toLoadRect
      = k0_pay5 (F := Ideal) i v0 v13 (k0_pay138 v14) 0#32 1#32 k := View.readCov_full _ _ _ _ _
  funext f17 f18 f19
  unfold trip
  dsimp only
  exact cons_congr (f := fun w => (⟨Rect.unit (s := S5x96x256) ![4, 0, 0] S1x96x256.size inb_S5x96x256_S1x96x256_4_0_0, w⟩ : View.Piece (Elt Ideal) S5x96x256 .f32)) (head4_19 _ _ _ _ _ ((bias4 (X5 := X5) (X6 := X6) (hlo := hlo) (hhi := hhi) (hu := hu)
      (h5 := cell_read i harg5 X5 _ hlo 4 (by decide) (k0_off11 i (trip.sl.r (F := Ideal) i arg2 (harg2.unread X2) k) 4#32) rfl (head_word i 4 (by decide)) _ _)
      (h6 := cell_read i harg6 X6 _ hlo 4 (by decide) (k0_off11 i (trip.sl.r (F := Ideal) i arg2 (harg2.unread X2) k) 4#32) rfl (head_word i 4 (by decide)) _ _) ..).trans (by rw [lo_read, hi_read])) _ _ _ _)
      (cons_congr (f := fun w => (⟨Rect.unit (s := S5x96x256) ![3, 0, 0] S1x96x256.size inb_S5x96x256_S1x96x256_3_0_0, w⟩ : View.Piece (Elt Ideal) S5x96x256 .f32)) (head3_19 _ _ _ _ _ ((bias3 (X5 := X5) (X6 := X6) (hlo := hlo) (hhi := hhi) (hu := hu)
      (h5 := cell_read i harg5 X5 _ hlo 3 (by decide) (k0_off11 i (trip.sl.r (F := Ideal) i arg2 (harg2.unread X2) k) 3#32) rfl (head_word i 3 (by decide)) _ _)
      (h6 := cell_read i harg6 X6 _ hlo 3 (by decide) (k0_off11 i (trip.sl.r (F := Ideal) i arg2 (harg2.unread X2) k) 3#32) rfl (head_word i 3 (by decide)) _ _) ..).trans (by rw [lo_read, hi_read])) _ _ _ _)
      (cons_congr (f := fun w => (⟨Rect.unit (s := S5x96x256) ![2, 0, 0] S1x96x256.size inb_S5x96x256_S1x96x256_2_0_0, w⟩ : View.Piece (Elt Ideal) S5x96x256 .f32)) (head2_19 _ _ _ _ _ ((bias2 (X5 := X5) (X6 := X6) (hlo := hlo) (hhi := hhi) (hu := hu)
      (h5 := cell_read i harg5 X5 _ hlo 2 (by decide) (k0_off11 i (trip.sl.r (F := Ideal) i arg2 (harg2.unread X2) k) 2#32) rfl (head_word i 2 (by decide)) _ _)
      (h6 := cell_read i harg6 X6 _ hlo 2 (by decide) (k0_off11 i (trip.sl.r (F := Ideal) i arg2 (harg2.unread X2) k) 2#32) rfl (head_word i 2 (by decide)) _ _) ..).trans (by rw [lo_read, hi_read])) _ _ _ _)
      (cons_congr (f := fun w => (⟨Rect.unit (s := S5x96x256) ![1, 0, 0] S1x96x256.size inb_S5x96x256_S1x96x256_1_0_0, w⟩ : View.Piece (Elt Ideal) S5x96x256 .f32)) (head1_19 _ _ _ _ _ ((bias1 (X5 := X5) (X6 := X6) (hlo := hlo) (hhi := hhi) (hu := hu)
      (h5 := cell_read i harg5 X5 _ hlo 1 (by decide) (k0_off11 i (trip.sl.r (F := Ideal) i arg2 (harg2.unread X2) k) 1#32) rfl (head_word i 1 (by decide)) _ _)
      (h6 := cell_read i harg6 X6 _ hlo 1 (by decide) (k0_off11 i (trip.sl.r (F := Ideal) i arg2 (harg2.unread X2) k) 1#32) rfl (head_word i 1 (by decide)) _ _) ..).trans (by rw [lo_read, hi_read])) _ _ _ _)
      (cons_congr (f := fun w => (⟨Rect.unit (s := S5x96x256) ![0, 0, 0] S1x96x256.size inb_S5x96x256_S1x96x256_0_0_0, w⟩ : View.Piece (Elt Ideal) S5x96x256 .f32)) (head0_19 _ _ _ _ _ ((bias0 (X5 := X5) (X6 := X6) (hlo := hlo) (hhi := hhi) (hu := hu)
      (h5 := cell_read i harg5 X5 _ hlo 0 (by decide) (k0_off6 i (trip.sl.r (F := Ideal) i arg2 (harg2.unread X2) k)) rfl (head_word i 0 (by decide)) _ _)
      (h6 := cell_read i harg6 X6 _ hlo 0 (by decide) (k0_off6 i (trip.sl.r (F := Ideal) i arg2 (harg2.unread X2) k)) rfl (head_word i 0 (by decide)) _ _) ..).trans (by rw [lo_read, hi_read])) _ _ _ _) rfl))))

end Cert.Proof.KernelIdeal

end
-- ==== Proof.KernelIdeal.Segment.lean ====
module

public import proofs.«01_k».proof.Proof.KernelIdeal.Values
public import proofs.«01_k».proof.Proof.KernelIdeal.Heads
@[expose] public section

/-! The kernel's bias of a pair of positions is the network's output at their scaled distance. -/

set_option maxRecDepth 8192

noncomputable section

namespace Cert.Proof.KernelIdeal

open Cert.KernelIdeal Cert.KernelIdeal.Gen Cert.Proof.Math
open Idealize.ShloMosaic Idealize.ShloMosaic.TcCoe Idealize.ShloMosaic.Tactic

variable (m : (ℓ : Loc nD τ sig) → Buf (Elt Ideal) ℓ)

/-- The network's weights are the given reals, and its offsets the given numbers. The distance's constants are the given
    reals and positive; or one of them is infinite, and then every scaled distance is 0, as for the constant 0. -/
structure Finite (c : Dev nD) (w : Fin 32 → ℝ) (b : Fin 32 → EReal) (v : Fin 32 → Fin 40 → ℝ) (c0 L0 : ℝ) : Prop where
  w_eq : ∀ n, hw1 m c n = (w n : EReal)
  b_eq : ∀ n, hb1 m c n = b n
  v_eq : ∀ n h, hw2 m c n h = (v n h : EReal)
  scale : (hc m c = (c0 : EReal) ∧ hL m c = (L0 : EReal) ∧ 0 < c0 ∧ 0 < L0)
    ∨ (c0 = 0 ∧ 0 < hc m c ∧ 0 < hL m c ∧ (hc m c = ⊤ ∨ hL m c = ⊤))

theorem log1p_coe (x : ℝ) (hx : 0 ≤ x) : Ideal.log1p (x : EReal) = (Real.log (1 + x) : ℝ) := by
  have h1 : (1 : EReal) + (x : EReal) = ((1 + x : ℝ) : EReal) := by push_cast; rfl
  rw [Ideal.log1p, h1]
  show (if 1 + x ≤ 0 then (⊥ : EReal) else _) = _
  rw [if_neg (by linarith)]

theorem div_coe (x y : ℝ) (hy : y ≠ 0) : Ideal.div (x : EReal) (y : EReal) = ((x / y : ℝ) : EReal) := by
  rw [Ideal.div, if_neg (by exact_mod_cast hy), div_eq_mul_inv, EReal.coe_mul, EReal.coe_inv]

theorem max_coe (x y : ℝ) : max (x : EReal) (y : EReal) = ((max x y : ℝ) : EReal) :=
  (EReal.coe_strictMono.monotone.map_max (a := x) (b := y)).symm

theorem slack_coe : ∃ s : ℝ, 0 ≤ s ∧ slack = (s : EReal) := by
  unfold slack
  simp only [Ideal.ofBits, Ideal.ieee]
  rw [if_neg (by decide), if_neg (by decide), if_neg (by decide)]
  exact ⟨_, by positivity, rfl⟩

/-- The scaled distance for the constant 0. -/
theorem dist_zero (L x y : ℝ) : Cert.Proof.Math.dist 0 L x y = 0 := by
  unfold Cert.Proof.Math.dist
  simp

/-- With an infinite constant every norm is infinite. -/
theorem norm_top (c L x : EReal) (hc : 0 < c) (hL : 0 < L) (h : c = ⊤ ∨ L = ⊤) : Ideal.log1p (c * max L x) = ⊤ := by
  have h1 : c * max L x = ⊤ := by
    rcases h with rfl | rfl
    · exact EReal.top_mul_of_pos (lt_of_lt_of_le hL (le_max_left _ _))
    · rw [max_eq_left le_top]; exact EReal.mul_top_of_pos hc
  have h2 : (1 : EReal) + ⊤ = ⊤ := by rw [← EReal.coe_one, EReal.coe_add_top]
  rw [h1, Ideal.log1p, h2]
  rfl

theorem div_top (x : EReal) : Ideal.div x ⊤ = 0 := by
  rw [Ideal.div, if_neg (by simp), EReal.inv_top, mul_zero]

/-- The reference's scaled distance. -/
theorem ratio_coe {c L : EReal} {c0 L0 : ℝ}
    (h : (c = (c0 : EReal) ∧ L = (L0 : EReal) ∧ 0 < c0 ∧ 0 < L0) ∨ (c0 = 0 ∧ 0 < c ∧ 0 < L ∧ (c = ⊤ ∨ L = ⊤))) (x y : ℝ) :
    Ideal.div (Ideal.log1p (c * ((max (x - y) 0 : ℝ) : EReal))) (Ideal.log1p (c * max L (x : EReal)))
      = ((Cert.Proof.Math.dist c0 L0 x y : ℝ) : EReal) := by
  rcases h with ⟨rfl, rfl, h1, h2⟩ | ⟨rfl, h1, h2, h3⟩
  · have hn : 0 < Real.log (1 + c0 * max L0 x) :=
      Real.log_pos (by have := mul_pos h1 (lt_of_lt_of_le h2 (le_max_left L0 x)); linarith)
    rw [max_coe, ← EReal.coe_mul, ← EReal.coe_mul, log1p_coe _ (mul_nonneg h1.le (le_max_right _ _)),
      log1p_coe _ (mul_nonneg h1.le (h2.le.trans (le_max_left _ _))), div_coe _ _ hn.ne']
    rfl
  · rw [norm_top _ _ _ h1 h2 h3, div_top, dist_zero, EReal.coe_zero]

section
variable {m} {c : Dev nD} {w : Fin 32 → ℝ} {b : Fin 32 → EReal} {v : Fin 32 → Fin 40 → ℝ} {c0 L0 : ℝ} (H : Finite m c w b v c0 L0)
include H

theorem dist_coe (i : Fin 16384) (x y : ℝ) (hx : x = (i.val : ℝ)) :
    Ideal.log1p (hc m c * ((max (x - y) 0 : ℝ) : EReal)) * V m c main_v75 (ix1 i) = ((dist c0 L0 x y : ℝ) : EReal) := by
  rw [V75_apply, ← hx]
  rcases H.scale with ⟨h1, h2, h3, h4⟩ | ⟨rfl, h1, h2, h3⟩
  · have hn : 0 < Real.log (1 + c0 * max L0 x) :=
      Real.log_pos (by have := mul_pos h3 (lt_of_lt_of_le h4 (le_max_left L0 x)); linarith)
    rw [h1, h2, max_coe, ← EReal.coe_mul, ← EReal.coe_mul, log1p_coe _ (mul_nonneg h3.le (le_max_right _ _)),
      log1p_coe _ (mul_nonneg h3.le (h4.le.trans (le_max_left _ _))), ← EReal.coe_one, div_coe _ _ hn.ne', ← EReal.coe_mul]
    congr 1
    unfold Cert.Proof.Math.dist
    ring
  · rw [norm_top _ _ _ h1 h2 h3, div_top, mul_zero, dist_zero, EReal.coe_zero]

/-- The scaled distance grows with the query and falls with the key. -/
theorem dist_le {i i' j j' : ℝ} (hi0 : 0 ≤ i) (hi : i ≤ i') (hj0 : 0 ≤ j') (hj : j' ≤ j) : dist c0 L0 i j ≤ dist c0 L0 i' j' := by
  rcases H.scale with ⟨_, _, h3, h4⟩ | ⟨rfl, _⟩
  · exact dist_mono h3 h4 hi0 hi hj0 hj
  · rw [dist_zero, dist_zero]

theorem thr_div (n : Fin 32) (h : w n ≠ 0) : thr m c n = Ideal.div (-b n) (w n : EReal) := by
  rw [thr_eq, H.w_eq, H.b_eq, if_neg (by exact_mod_cast h)]

theorem thr_coe (n : Fin 32) (h : w n ≠ 0) (r : ℝ) (hr : b n = (r : EReal)) : thr m c n = ((-r / w n : ℝ) : EReal) := by
  rw [thr_div H n h, hr, ← EReal.coe_neg, div_coe _ _ h]

theorem thr_top (n : Fin 32) (h : w n = 0) : thr m c n = ⊤ := by
  rw [thr_eq, H.w_eq, if_pos (by exact_mod_cast h)]

/-- An infinite offset puts the threshold at an end of the line. -/
theorem thr_inf (n : Fin 32) :
    (b n = ⊤ → (0 < w n → thr m c n = ⊥) ∧ (w n < 0 → thr m c n = ⊤)) ∧ (b n = ⊥ → (0 < w n → thr m c n = ⊤) ∧ (w n < 0 → thr m c n = ⊥)) := by
  have hd : ∀ x : EReal, w n ≠ 0 → Ideal.div x (w n : EReal) = x * (((w n)⁻¹ : ℝ) : EReal) := fun x h => by
    rw [Ideal.div, if_neg (by exact_mod_cast h), EReal.coe_inv]
  refine ⟨fun hb => ⟨fun h => ?_, fun h => ?_⟩, fun hb => ⟨fun h => ?_, fun h => ?_⟩⟩
  · rw [thr_div H n h.ne', hd _ h.ne', hb, EReal.neg_top, EReal.bot_mul_coe_of_pos (inv_pos.mpr h)]
  · rw [thr_div H n h.ne, hd _ h.ne, hb, EReal.neg_top, EReal.bot_mul_coe_of_neg (inv_lt_zero.mpr h)]
  · rw [thr_div H n h.ne', hd _ h.ne', hb, EReal.neg_bot, EReal.top_mul_coe_of_pos (inv_pos.mpr h)]
  · rw [thr_div H n h.ne, hd _ h.ne, hb, EReal.neg_bot, EReal.top_mul_coe_of_neg (inv_lt_zero.mpr h)]

theorem act_coe (s : Fin 33) (n : Fin 32) :
    (((BitVec.toNat (w := 1) (V m c main_v54 (ix2 s n)) : ℕ) : ℝ)) = on (w (ord m c n)) (b (ord m c n)) (n.val < s.val) := by
  rw [V54_apply, H.w_eq, H.b_eq]
  unfold on
  simp only [EReal.coe_pos, EReal.coe_neg']
  split_ifs <;> simp_all

/-- The bias that the kernel computes for a query of row block `a` and a key of tile `b`. -/
theorem bias_cell (a b' : Fin 64) (i j : ℝ) (hi0 : (256 * a.val : ℕ) ≤ i) (hi1 : i ≤ (256 * a.val + 255 : ℕ))
    (hj0 : (256 * b'.val : ℕ) ≤ j) (hj1 : j ≤ (256 * b'.val + 255 : ℕ)) (h : Fin 40) :
    biasOf ((dist c0 L0 i j : ℝ) : EReal) (V m c main_v15) (V m c main_v59) (V m c main_v63) (V m c main_v67)
        (BitVec.toNat (w := 32) (V m c main_v138 (ix2 a b'))) (BitVec.toNat (w := 32) (V m c main_v145 (ix2 a b'))) h.val
      = ∑ n, max (((dist c0 L0 i j : ℝ) : EReal) * (w n : EReal) + b n) 0 * (v n h : EReal) := by
  obtain ⟨s, hs0, hs⟩ := slack_coe
  have hmin : V m c main_v107 (ix2 a b') = ((dist c0 L0 ((256 * a.val : ℕ) : ℝ) ((256 * b'.val + 255 : ℕ) : ℝ) - s : ℝ) : EReal) := by
    rw [V107_apply, dist_coe H ⟨256 * a.val, by omega⟩ _ _ rfl, hs, ← EReal.coe_sub]
  have hmax : V m c main_v131 (ix2 a b') = ((dist c0 L0 ((256 * a.val + 255 : ℕ) : ℝ) ((256 * b'.val : ℕ) : ℝ) + s : ℝ) : EReal) := by
    rw [V131_apply, dist_coe H ⟨256 * a.val + 255, by omega⟩ _ _ rfl, hs, ← EReal.coe_add]
  have dmin : dist c0 L0 ((256 * a.val : ℕ) : ℝ) ((256 * b'.val + 255 : ℕ) : ℝ) ≤ dist c0 L0 i j :=
    dist_le H (by positivity) hi0 (le_trans (by positivity) hj0) hj1
  have dmax : dist c0 L0 i j ≤ dist c0 L0 ((256 * a.val + 255 : ℕ) : ℝ) ((256 * b'.val : ℕ) : ℝ) :=
    dist_le H (le_trans (by positivity) hi0) hi1 (by positivity) hj0
  have hlo32 := lo_le m c (ix2 a b')
  have hhi32 := hi_le m c (ix2 a b')
  have hloi := lo_iff m c a b'
  have hhii := hi_iff m c a b'
  generalize BitVec.toNat (w := 32) (V m c main_v138 (ix2 a b')) = lo at hlo32 hloi ⊢
  generalize BitVec.toNat (w := 32) (V m c main_v145 (ix2 a b')) = hi at hhi32 hhii ⊢
  have hcell : cell33 lo h.val = ix2 (⟨lo, by omega⟩ : Fin 33) h :=
    (eq_cell33 (ix2 (⟨lo, by omega⟩ : Fin 33) h) lo h.val rfl rfl (by omega) h.isLt).symm
  have hsum : (∑ n, max (((dist c0 L0 i j : ℝ) : EReal) * (w n : EReal) + b n) 0 * (v n h : EReal))
      = ∑ n, max (((dist c0 L0 i j : ℝ) : EReal) * (w (ord m c n) : EReal) + b (ord m c n)) 0 * (v (ord m c n) h : EReal) :=
    ((ord_bijective m c).sum_comp fun n => max (((dist c0 L0 i j : ℝ) : EReal) * (w n : EReal) + b n) 0 * (v n h : EReal)).symm
  rw [hsum]
  unfold biasOf
  rw [hmin] at hloi
  rw [hmax] at hhii
  have ht : ∀ n : Fin 32, V m c main_v15 (row32 n.val) = thr m c (ord m c n) := fun n => by
    rw [← eq_row32 (ix1 n) n.val rfl n.isLt, V15_apply]
  refine bias_value (fun n => w (ord m c n)) (fun n => v (ord m c n) h) (fun n => b (ord m c n)) (dist c0 L0 i j) lo hi hhi32
    _ _ ?_ ?_ (fun n => V m c main_v15 (row32 n)) (fun n => V m c main_v67 (cell32 n h.val)) ?_ ?_
  · rw [hcell, V59_apply]
    refine Finset.sum_congr rfl fun n _ => ?_
    rw [act_coe H, H.w_eq, H.v_eq]
  · rw [hcell, V63_apply]
    refine Finset.sum_congr rfl fun n _ => ?_
    rw [act_coe H, H.b_eq, H.v_eq]
  · intro n
    show Placed _ _ _ _ _ (V m c main_v15 (row32 n.val))
    rw [ht]
    have hl := hloi n
    have hh := hhii n
    have hinf := thr_inf H (ord m c n)
    have htop : thr m c (ord m c n) = ⊤ → ¬ n.val < lo ∧ ¬ n.val < hi := fun q =>
      ⟨fun x => by rw [hl, q] at x; exact absurd x (by simp), fun x => by rw [hh, q] at x; exact absurd (top_le_iff.mp x) (EReal.coe_ne_top _)⟩
    have hbot : thr m c (ord m c n) = ⊥ → n.val < lo := fun q => by rw [hl, q]; exact EReal.bot_lt_coe _
    rcases hb : b (ord m c n) with _ | _ | r
    · refine Or.inr (Or.inr ⟨rfl, ?_, fun q => (htop ((hinf.2 hb).1 q)).1, fun q => hbot ((hinf.2 hb).2 q)⟩)
      rintro ⟨q1, q2⟩
      rcases lt_trichotomy (w (ord m c n)) 0 with q | q | q
      · exact absurd (hbot ((hinf.2 hb).2 q)) (by omega)
      · exact (htop (thr_top H _ q)).2 q2
      · exact (htop ((hinf.2 hb).1 q)).2 q2
    · refine Or.inr (Or.inl ⟨rfl, ?_, fun q => hbot ((hinf.1 hb).1 q), fun q => (htop ((hinf.1 hb).2 q)).1⟩)
      rintro ⟨q1, q2⟩
      rcases lt_trichotomy (w (ord m c n)) 0 with q | q | q
      · exact (htop ((hinf.1 hb).2 q)).2 q2
      · exact (htop (thr_top H _ q)).2 q2
      · exact absurd (hbot ((hinf.1 hb).1 q)) (by omega)
    · refine Or.inl ⟨r, rfl, fun q => ?_, fun q => ?_, fun q1 q2 hw => ?_⟩
      · have hw : w (ord m c n) ≠ 0 := fun z => (htop (thr_top H _ z)).1 q
        refine ⟨hw, ?_⟩
        have hlt := hl.mp q
        rw [thr_coe H _ hw r hb, EReal.coe_lt_coe_iff] at hlt
        linarith
      · have hw : w (ord m c n) ≠ 0 := fun z => (htop (thr_top H _ z)).2 q.2
        exact ⟨hw, thr_coe H _ hw r hb⟩
      · have hlt : ¬ n.val < hi := fun q => q2 ⟨by omega, q⟩
        rw [hh, thr_coe H _ hw r hb, EReal.coe_le_coe_iff] at hlt
        linarith
  · intro n
    show V m c main_v67 (cell32 n.val h.val) = _
    rw [← eq_cell32 (ix2 n h) n.val h.val rfl rfl n.isLt h.isLt, V67_apply, H.w_eq, H.v_eq, ← EReal.coe_neg, max_coe]
    rfl

end

end Cert.Proof.KernelIdeal

end
-- ==== Proof.KernelIdeal.Sane.lean ====
module

public import proofs.«01_k».proof.Proof.KernelIdeal.Segment
public import proofs.«01_k».proof.Pre_sane
public import Idealize.ShloMosaic.Lib.IdealHost
public import Idealize.ShloMosaic.Lib.Pointwise
public import Idealize.ShloMosaic.Lib.ReduceAll
@[expose] public section

/-! What the precondition says of the arguments. -/

set_option maxRecDepth 8192

noncomputable section

namespace Cert.Proof.KernelIdeal

open Idealize.ShloMosaic Idealize.ShloMosaic.Tactic

/-- The side conditions of the precondition's operations. -/
theorem sane_facts : Cert.Pre_sane.Facts := by
  constructor <;> decide

theorem infinity : Ideal.ofBits .f32 0x7F800000#32 = ⊤ := by simp [Ideal.ofBits, Ideal.ieee]

theorem zero_bits : Ideal.ofBits .f32 0x00000000#32 = 0 := by simp [Ideal.ofBits, Ideal.ieee]

theorem and_one (a b : BitVec 1) (h : a &&& b = 1#1) : a = 1#1 ∧ b = 1#1 := by
  revert a b; decide

/-- A number whose absolute value is below infinity is a real. -/
theorem real_of_abs (x : EReal) (h : max x (-x) < ⊤) : ∃ r : ℝ, x = (r : EReal) := by
  induction x using EReal.rec with
  | bot => simp at h
  | top => simp at h
  | coe r => exact ⟨r, rfl⟩

theorem real_of_pos (x : EReal) (h : x < ⊤) (h0 : 0 < x) : ∃ r : ℝ, 0 < r ∧ x = (r : EReal) := by
  induction x using EReal.rec with
  | bot => simp at h0
  | top => simp at h
  | coe r => exact ⟨r, by exact_mod_cast h0, rfl⟩

variable (m : (ℓ : Loc Cert.KernelIdeal.nD Cert.KernelIdeal.τ Cert.KernelIdeal.sig) → Buf (Elt Ideal) ℓ)

theorem ofBool_one (p : Prop) [Decidable p] (h : BitVec.ofBool (decide p) = 1#1) : p := by
  by_contra hp
  rw [decide_eq_false hp] at h
  exact absurd h (by decide)

/-- The precondition, read at each number. -/
theorem sane_reads [Cert.Pre_sane.Facts] (x0 : FVec Ideal Cert.Pre_sane.S1x16384x40x96 .fp8e4m3) (x1 : FVec Ideal Cert.Pre_sane.S1x16384x40 .f32)
    (x2 : FVec Ideal Cert.Pre_sane.S1x16384x8x96 .fp8e4m3) (x3 : FVec Ideal Cert.Pre_sane.S1x16384x8 .f32) (x4 : FVec Ideal Cert.Pre_sane.S1x16384x8x96 .fp8e4m3)
    (x5 : FVec Ideal Cert.Pre_sane.S1x16384x8 .f32) (c L : FVec Ideal Cert.Pre_sane.S_ .f32) (w1 b1 : FVec Ideal Cert.Pre_sane.S32 .f32)
    (w2 : FVec Ideal Cert.Pre_sane.S32x40 .f32) (h : Cert.Pre_sane.fn (F := Ideal) x0 x1 x2 x3 x4 x5 c L w1 b1 w2 = fun _ => 1#1) :
    ((0 : EReal) < c ix0 ∧ (0 : EReal) < L ix0)
      ∧ (∀ n : Fin 32, max (w1 (ix1 n) : EReal) (-(w1 (ix1 n) : EReal)) < ⊤)
      ∧ (∀ (n : Fin 32) (k : Fin 40), max (w2 (ix2 n k) : EReal) (-(w2 (ix2 n k) : EReal)) < ⊤) := by
  have h0 := congrFun h ix0
  unfold Cert.Pre_sane.fn at h0
  obtain ⟨h1, hL0⟩ := and_one _ _ h0
  obtain ⟨h2, hc0⟩ := and_one _ _ h1
  obtain ⟨hw1, hw2⟩ := and_one _ _ h2
  have hw1' := fun n : Fin 32 => Host.reduce_andi_all _ _ _ _ _ hw1 (ix1 n)
  have hw2' := fun (n : Fin 32) (k : Fin 40) => Host.reduce_andi_all _ _ _ _ _ hw2 (ix2 n k)
  refine ⟨⟨?_, ?_⟩, fun n => ?_, fun n k => ?_⟩
  · have := ofBool_one _ hc0; exact lt_of_eq_of_lt zero_bits.symm this
  · have := ofBool_one _ hL0; exact lt_of_eq_of_lt zero_bits.symm this
  · have := ofBool_one _ (hw1' n); exact lt_of_lt_of_eq this infinity
  · have := ofBool_one _ (hw2' n k); exact lt_of_lt_of_eq this infinity

open Cert.KernelIdeal in
/-- The weights are real, and the two constants of the distance are positive, real or infinite. -/
theorem exists_finite [Cert.Pre_sane.Facts] (c : Dev nD)
    (h : Cert.Pre_sane.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) = fun _ => 1#1) :
    ∃ (w : Fin 32 → ℝ) (b : Fin 32 → EReal) (v : Fin 32 → Fin 40 → ℝ) (c0 L0 : ℝ), Finite m c w b v c0 L0 := by
  obtain ⟨⟨h3, h4⟩, h5, h7⟩ := sane_reads _ _ _ _ _ _ _ _ _ _ _ h
  choose w hw using fun n => real_of_abs _ (h5 n)
  choose v hv using fun n k => real_of_abs _ (h7 n k)
  have hw' : ∀ n, hw1 m c n = (w n : EReal) := fun n => by unfold hw1; rw [Gen.V_main_arg8]; exact hw n
  have hv' : ∀ n k, hw2 m c n k = (v n k : EReal) := fun n k => by unfold hw2; rw [Gen.V_main_arg10]; exact hv n k
  have hc' : 0 < Cert.Proof.KernelIdeal.hc m c := by unfold Cert.Proof.KernelIdeal.hc; rw [Gen.V_main_arg6]; exact h3
  have hL' : 0 < Cert.Proof.KernelIdeal.hL m c := by unfold Cert.Proof.KernelIdeal.hL; rw [Gen.V_main_arg7]; exact h4
  by_cases ht : Cert.Proof.KernelIdeal.hc m c = ⊤ ∨ Cert.Proof.KernelIdeal.hL m c = ⊤
  · exact ⟨w, hb1 m c, v, 0, 0, ⟨hw', fun _ => rfl, hv', Or.inr ⟨rfl, hc', hL', ht⟩⟩⟩
  · rw [not_or] at ht
    obtain ⟨c0, hc0, hc⟩ := real_of_pos _ (lt_top_iff_ne_top.mpr ht.1) hc'
    obtain ⟨L0, hL0, hL⟩ := real_of_pos _ (lt_top_iff_ne_top.mpr ht.2) hL'
    exact ⟨w, hb1 m c, v, c0, L0, ⟨hw', fun _ => rfl, hv', Or.inl ⟨hc, hL, hc0, hL0⟩⟩⟩

end Cert.Proof.KernelIdeal

end
-- ==== Proof.KernelIdeal.ReadBack.lean ====
module

public import proofs.«01_k».proof.Proof.Gen.KernelIdeal.Loops
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import proofs.«01_k».proof.Proof.KernelIdeal.Chk
public import Idealize.ShloMosaic.Lib.WritesUnit
public import Idealize.ShloMosaic.Lib.VecWindow
public import Idealize.ShloMosaic.Lib.WholeRead
public import Idealize.ShloMosaic.Lib.IdealHost
public import Idealize.ShloMosaic.Lib.Pipeline.ValueKit.Tiles
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

/-! Reading one head's part of the scratch after the five heads' parts were written. -/

theorem readAt_idx {s : Shape} {e : EltTy} (v : View sig .tc .vmem s e) (r : LoadRect s) (f : v.ty.Contents (Elt Ideal)) (x : r.shape.Idx) :
    v.readAt (Elt Ideal) r f x = v.read (Elt Ideal) f (r.idx x) := rfl

theorem inb17 (h : Fin 5) : ∀ a, ![h.val, 0, 0] a + S1x1x256.size a ≤ S5x1x256.size a := fun a => by
  have := h.isLt
  match a with
  | ⟨0, _⟩ => show h.val + 1 ≤ 5; omega
  | ⟨1, _⟩ => show 0 + 1 ≤ 1; omega
  | ⟨2, _⟩ => show 0 + 256 ≤ 256; omega

/-- Head `h`'s part. -/
abbrev part17 (h : Fin 5) : Rect S5x1x256 := Rect.unit (s := S5x1x256) ![h.val, 0, 0] S1x1x256.size (inb17 h)

def pieces17 (W : Fin 5 → FVec Ideal S1x1x256 .f32) : List (View.Piece (Elt Ideal) S5x1x256 .f32) :=
  [⟨part17 4, W 4⟩, ⟨part17 3, W 3⟩, ⟨part17 2, W 2⟩, ⟨part17 1, W 1⟩, ⟨part17 0, W 0⟩]

theorem read_pieces17 (v : View sig .tc .vmem S5x1x256 .f32) (f : v.ty.Contents (Elt Ideal)) (W : Fin 5 → FVec Ideal S1x1x256 .f32) (h : Fin 5) :
    v.readAt (Elt Ideal) (part17 h).toLoadRect (v.writes (Elt Ideal) f (pieces17 W)) = W h := by
  unfold pieces17
  match h with
  | 0 =>
    funext x
    refine (readAt_idx v _ _ x).trans ?_
    have hx0 : (x 0).val < 1 := (x 0).isLt
    have hm : ∀ a, (((part17 0).toLoadRect.idx x) a).val = ![(((0 : Fin 5)) : ℕ), 0, 0] a + (x a).val := fun a => Rect.idx_unit_val _ _ _ _ a
    have h0 : (((part17 0).toLoadRect.idx x) 0).val = 0 := by
      refine (hm 0).trans ?_
      show 0 + (x 0).val = 0
      omega
    refine (View.read_writes_cons_unit_of_not_mem v f (inb17 4) _ _ _ rfl 0 (Or.inl (by rw [h0]; decide))).trans ?_
    refine (View.read_writes_cons_unit_of_not_mem v f (inb17 3) _ _ _ rfl 0 (Or.inl (by rw [h0]; decide))).trans ?_
    refine (View.read_writes_cons_unit_of_not_mem v f (inb17 2) _ _ _ rfl 0 (Or.inl (by rw [h0]; decide))).trans ?_
    refine (View.read_writes_cons_unit_of_not_mem v f (inb17 1) _ _ _ rfl 0 (Or.inl (by rw [h0]; decide))).trans ?_
    exact View.read_writes_cons_unit_of_mem v f (inb17 0) _ _ _ x rfl hm
  | 1 =>
    funext x
    refine (readAt_idx v _ _ x).trans ?_
    have hx0 : (x 0).val < 1 := (x 0).isLt
    have hm : ∀ a, (((part17 1).toLoadRect.idx x) a).val = ![(((1 : Fin 5)) : ℕ), 0, 0] a + (x a).val := fun a => Rect.idx_unit_val _ _ _ _ a
    have h0 : (((part17 1).toLoadRect.idx x) 0).val = 1 := by
      refine (hm 0).trans ?_
      show 1 + (x 0).val = 1
      omega
    refine (View.read_writes_cons_unit_of_not_mem v f (inb17 4) _ _ _ rfl 0 (Or.inl (by rw [h0]; decide))).trans ?_
    refine (View.read_writes_cons_unit_of_not_mem v f (inb17 3) _ _ _ rfl 0 (Or.inl (by rw [h0]; decide))).trans ?_
    refine (View.read_writes_cons_unit_of_not_mem v f (inb17 2) _ _ _ rfl 0 (Or.inl (by rw [h0]; decide))).trans ?_
    exact View.read_writes_cons_unit_of_mem v f (inb17 1) _ _ _ x rfl hm
  | 2 =>
    funext x
    refine (readAt_idx v _ _ x).trans ?_
    have hx0 : (x 0).val < 1 := (x 0).isLt
    have hm : ∀ a, (((part17 2).toLoadRect.idx x) a).val = ![(((2 : Fin 5)) : ℕ), 0, 0] a + (x a).val := fun a => Rect.idx_unit_val _ _ _ _ a
    have h0 : (((part17 2).toLoadRect.idx x) 0).val = 2 := by
      refine (hm 0).trans ?_
      show 2 + (x 0).val = 2
      omega
    refine (View.read_writes_cons_unit_of_not_mem v f (inb17 4) _ _ _ rfl 0 (Or.inl (by rw [h0]; decide))).trans ?_
    refine (View.read_writes_cons_unit_of_not_mem v f (inb17 3) _ _ _ rfl 0 (Or.inl (by rw [h0]; decide))).trans ?_
    exact View.read_writes_cons_unit_of_mem v f (inb17 2) _ _ _ x rfl hm
  | 3 =>
    funext x
    refine (readAt_idx v _ _ x).trans ?_
    have hx0 : (x 0).val < 1 := (x 0).isLt
    have hm : ∀ a, (((part17 3).toLoadRect.idx x) a).val = ![(((3 : Fin 5)) : ℕ), 0, 0] a + (x a).val := fun a => Rect.idx_unit_val _ _ _ _ a
    have h0 : (((part17 3).toLoadRect.idx x) 0).val = 3 := by
      refine (hm 0).trans ?_
      show 3 + (x 0).val = 3
      omega
    refine (View.read_writes_cons_unit_of_not_mem v f (inb17 4) _ _ _ rfl 0 (Or.inl (by rw [h0]; decide))).trans ?_
    exact View.read_writes_cons_unit_of_mem v f (inb17 3) _ _ _ x rfl hm
  | 4 =>
    funext x
    refine (readAt_idx v _ _ x).trans ?_
    have hx0 : (x 0).val < 1 := (x 0).isLt
    have hm : ∀ a, (((part17 4).toLoadRect.idx x) a).val = ![(((4 : Fin 5)) : ℕ), 0, 0] a + (x a).val := fun a => Rect.idx_unit_val _ _ _ _ a
    have h0 : (((part17 4).toLoadRect.idx x) 0).val = 4 := by
      refine (hm 0).trans ?_
      show 4 + (x 0).val = 4
      omega
    exact View.read_writes_cons_unit_of_mem v f (inb17 4) _ _ _ x rfl hm

theorem inb19 (h : Fin 5) : ∀ a, ![h.val, 0, 0] a + S1x96x256.size a ≤ S5x96x256.size a := fun a => by
  have := h.isLt
  match a with
  | ⟨0, _⟩ => show h.val + 1 ≤ 5; omega
  | ⟨1, _⟩ => show 0 + 96 ≤ 96; omega
  | ⟨2, _⟩ => show 0 + 256 ≤ 256; omega

/-- Head `h`'s part. -/
abbrev part19 (h : Fin 5) : Rect S5x96x256 := Rect.unit (s := S5x96x256) ![h.val, 0, 0] S1x96x256.size (inb19 h)

def pieces19 (W : Fin 5 → FVec Ideal S1x96x256 .f32) : List (View.Piece (Elt Ideal) S5x96x256 .f32) :=
  [⟨part19 4, W 4⟩, ⟨part19 3, W 3⟩, ⟨part19 2, W 2⟩, ⟨part19 1, W 1⟩, ⟨part19 0, W 0⟩]

theorem read_pieces19 (v : View sig .tc .vmem S5x96x256 .f32) (f : v.ty.Contents (Elt Ideal)) (W : Fin 5 → FVec Ideal S1x96x256 .f32) (h : Fin 5) :
    v.readAt (Elt Ideal) (part19 h).toLoadRect (v.writes (Elt Ideal) f (pieces19 W)) = W h := by
  unfold pieces19
  match h with
  | 0 =>
    funext x
    refine (readAt_idx v _ _ x).trans ?_
    have hx0 : (x 0).val < 1 := (x 0).isLt
    have hm : ∀ a, (((part19 0).toLoadRect.idx x) a).val = ![(((0 : Fin 5)) : ℕ), 0, 0] a + (x a).val := fun a => Rect.idx_unit_val _ _ _ _ a
    have h0 : (((part19 0).toLoadRect.idx x) 0).val = 0 := by
      refine (hm 0).trans ?_
      show 0 + (x 0).val = 0
      omega
    refine (View.read_writes_cons_unit_of_not_mem v f (inb19 4) _ _ _ rfl 0 (Or.inl (by rw [h0]; decide))).trans ?_
    refine (View.read_writes_cons_unit_of_not_mem v f (inb19 3) _ _ _ rfl 0 (Or.inl (by rw [h0]; decide))).trans ?_
    refine (View.read_writes_cons_unit_of_not_mem v f (inb19 2) _ _ _ rfl 0 (Or.inl (by rw [h0]; decide))).trans ?_
    refine (View.read_writes_cons_unit_of_not_mem v f (inb19 1) _ _ _ rfl 0 (Or.inl (by rw [h0]; decide))).trans ?_
    exact View.read_writes_cons_unit_of_mem v f (inb19 0) _ _ _ x rfl hm
  | 1 =>
    funext x
    refine (readAt_idx v _ _ x).trans ?_
    have hx0 : (x 0).val < 1 := (x 0).isLt
    have hm : ∀ a, (((part19 1).toLoadRect.idx x) a).val = ![(((1 : Fin 5)) : ℕ), 0, 0] a + (x a).val := fun a => Rect.idx_unit_val _ _ _ _ a
    have h0 : (((part19 1).toLoadRect.idx x) 0).val = 1 := by
      refine (hm 0).trans ?_
      show 1 + (x 0).val = 1
      omega
    refine (View.read_writes_cons_unit_of_not_mem v f (inb19 4) _ _ _ rfl 0 (Or.inl (by rw [h0]; decide))).trans ?_
    refine (View.read_writes_cons_unit_of_not_mem v f (inb19 3) _ _ _ rfl 0 (Or.inl (by rw [h0]; decide))).trans ?_
    refine (View.read_writes_cons_unit_of_not_mem v f (inb19 2) _ _ _ rfl 0 (Or.inl (by rw [h0]; decide))).trans ?_
    exact View.read_writes_cons_unit_of_mem v f (inb19 1) _ _ _ x rfl hm
  | 2 =>
    funext x
    refine (readAt_idx v _ _ x).trans ?_
    have hx0 : (x 0).val < 1 := (x 0).isLt
    have hm : ∀ a, (((part19 2).toLoadRect.idx x) a).val = ![(((2 : Fin 5)) : ℕ), 0, 0] a + (x a).val := fun a => Rect.idx_unit_val _ _ _ _ a
    have h0 : (((part19 2).toLoadRect.idx x) 0).val = 2 := by
      refine (hm 0).trans ?_
      show 2 + (x 0).val = 2
      omega
    refine (View.read_writes_cons_unit_of_not_mem v f (inb19 4) _ _ _ rfl 0 (Or.inl (by rw [h0]; decide))).trans ?_
    refine (View.read_writes_cons_unit_of_not_mem v f (inb19 3) _ _ _ rfl 0 (Or.inl (by rw [h0]; decide))).trans ?_
    exact View.read_writes_cons_unit_of_mem v f (inb19 2) _ _ _ x rfl hm
  | 3 =>
    funext x
    refine (readAt_idx v _ _ x).trans ?_
    have hx0 : (x 0).val < 1 := (x 0).isLt
    have hm : ∀ a, (((part19 3).toLoadRect.idx x) a).val = ![(((3 : Fin 5)) : ℕ), 0, 0] a + (x a).val := fun a => Rect.idx_unit_val _ _ _ _ a
    have h0 : (((part19 3).toLoadRect.idx x) 0).val = 3 := by
      refine (hm 0).trans ?_
      show 3 + (x 0).val = 3
      omega
    refine (View.read_writes_cons_unit_of_not_mem v f (inb19 4) _ _ _ rfl 0 (Or.inl (by rw [h0]; decide))).trans ?_
    exact View.read_writes_cons_unit_of_mem v f (inb19 3) _ _ _ x rfl hm
  | 4 =>
    funext x
    refine (readAt_idx v _ _ x).trans ?_
    have hx0 : (x 0).val < 1 := (x 0).isLt
    have hm : ∀ a, (((part19 4).toLoadRect.idx x) a).val = ![(((4 : Fin 5)) : ℕ), 0, 0] a + (x a).val := fun a => Rect.idx_unit_val _ _ _ _ a
    have h0 : (((part19 4).toLoadRect.idx x) 0).val = 4 := by
      refine (hm 0).trans ?_
      show 4 + (x 0).val = 4
      omega
    exact View.read_writes_cons_unit_of_mem v f (inb19 4) _ _ _ x rfl hm

end Cert.Proof.KernelIdeal

end
-- ==== Proof.KernelIdeal.Walk.lean ====
module

public import proofs.«01_k».proof.Proof.Gen.KernelIdeal.Loops
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import proofs.«01_k».proof.Proof.KernelIdeal.Chk
public import proofs.«01_k».proof.Proof.KernelIdeal.Loop
public import proofs.«01_k».proof.Proof.KernelIdeal.Hinge
public import proofs.«01_k».proof.Proof.KernelIdeal.Regroup
public import proofs.«01_k».proof.Proof.KernelIdeal.Body
public import proofs.«01_k».proof.Proof.KernelIdeal.Heads
public import proofs.«01_k».proof.Proof.KernelIdeal.ReadBack
public import proofs.«01_k».proof.Proof.KernelIdeal.Payload
public import proofs.«01_k».proof.Proof.Math.Softmax
public import Idealize.ShloMosaic.Lib.Pointwise
public import Idealize.ShloMosaic.Lib.WritesUnit
public import Idealize.ShloMosaic.Lib.VecWindow
public import Idealize.ShloMosaic.Lib.WholeRead
public import Idealize.ShloMosaic.Lib.IdealHost
public import Idealize.ShloMosaic.Lib.Pipeline.ValueKit.Tiles
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

/-! The running maximum, sum and weighted sum of one head and query, over the trips of the loop over key tiles. -/

/-- A value of each key tile and row, by the key's position. -/
def atKey {T : ℕ} (f : Fin T → Fin 256 → EReal) (K : ℕ) : EReal :=
  if hK : K / 256 < T then f ⟨K / 256, hK⟩ ⟨K % 256, Nat.mod_lt _ (by decide)⟩ else 0

theorem atKey_add {T : ℕ} (f : Fin T → Fin 256 → EReal) (n : ℕ) (hn : n < T) (r : Fin 256) : atKey f (256 * n + r.val) = f ⟨n, hn⟩ r := by
  have h1 : (256 * n + r.val) / 256 = n := by omega
  have h2 : (256 * n + r.val) % 256 = r.val := by omega
  unfold atKey
  rw [dif_pos (by rw [h1]; exact hn)]
  have e1 : ∀ p, (⟨(256 * n + r.val) / 256, p⟩ : Fin T) = ⟨n, hn⟩ := fun _ => Fin.ext h1
  have e2 : ∀ p, (⟨(256 * n + r.val) % 256, p⟩ : Fin 256) = r := fun _ => Fin.ext h2
  rw [e1, e2]

theorem inb9 (h : Fin 5) : ∀ a, ![h.val, 0, 0] a + S1x256x96.size a ≤ S5x256x96.size a := fun a => by
  have := h.isLt
  match a with
  | ⟨0, _⟩ => show h.val + 1 ≤ 5; omega
  | ⟨1, _⟩ => show 0 + 256 ≤ 256; omega
  | ⟨2, _⟩ => show 0 + 96 ≤ 96; omega

/-- Head `h`'s part of the queries. -/
abbrev part9 (h : Fin 5) : Rect S5x256x96 := Rect.unit (s := S5x256x96) ![h.val, 0, 0] S1x256x96.size (inb9 h)

set_option maxHeartbeats 0 in
theorem next_17 (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt Ideal .f32) (v14 : Vec Ideal S1x256 .f32) (X2 : S64x64.Idx → BitVec 32) (X3 : S64x64.Idx → BitVec 32) (X4 : S32.Idx → EReal) (X5 : S33x40.Idx → EReal) (X6 : S33x40.Idx → EReal) (X7 : S32x40.Idx → EReal) (X9 : S5x256x96.Idx → EReal) (X10 : S1x16384x96.Idx → EReal) (X11 : S1x96x16384.Idx → EReal) (X12 : S1x1x16384.Idx → EReal) (X13 : S1x16384x128.Idx → EReal) (X14 : S5x1x256.Idx → EReal) (hw2 : ∀ j, BitVec.toNat (arg2.view.read (Elt Ideal) (harg2.unread X2) j) ≤ 32) (hw3 : ∀ j, BitVec.toNat (arg3.view.read (Elt Ideal) (harg3.unread X3) j) ≤ 32) (k : Fin (k0_t1_loop i).trips) (p : (BufTy.Contents (Elt Ideal) arg17.view.ty) × (BufTy.Contents (Elt Ideal) arg18.view.ty) × (BufTy.Contents (Elt Ideal) arg19.view.ty)) (h : Fin 5) :
    (View.readAt (Elt Ideal) arg17.view (part17 h).toLoadRect (next (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 (harg2.unread X2) (harg3.unread X3) (harg4.unread X4) (harg5.unread X5) (harg6.unread X6) (harg7.unread X7) (harg9.unread X9) (harg10.unread X10) (harg11.unread X11) (harg12.unread X12) (harg13.unread X13) (harg14.unread X14) hw2 hw3 k p).1) = k0_pay17 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (part9 h).toLoadRect (harg9.unread X9)) (View.readAt (Elt Ideal) arg14.view (part17 h).toLoadRect (harg14.unread X14)) h.val k) (View.readAt (Elt Ideal) arg17.view (part17 h).toLoadRect p.1) := by
  have hlo : (trip.sl.r (F := Ideal) i arg2 (harg2.unread X2) k).toNat ≤ 32 := by
    rw [lo_read]
    have := hw2 (cell64 (i 1).val k.val)
    rwa [harg2.read_unread] at this
  have hhi : (trip.sl.r_1 (F := Ideal) i arg3 (harg3.unread X3) k).toNat ≤ 32 := by
    rw [hi_read]
    have := hw3 (cell64 (i 1).val k.val)
    rwa [harg3.read_unread] at this
  have ht := trip_max c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 X2 X3 X4 X5 X6 X7 X9 X10 X11 X12 X13 X14 hw2 hw3 k hlo hhi
  show (View.readAt (Elt Ideal) arg17.view (part17 h).toLoadRect (arg17.view.writes (Elt Ideal) p.1 ((trip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 (harg2.unread X2) (harg3.unread X3) (harg4.unread X4) (harg5.unread X5) (harg6.unread X6) (harg7.unread X7) (harg9.unread X9) (harg10.unread X10) (harg11.unread X11) (harg12.unread X12) (harg13.unread X13) (harg14.unread X14) hw2 hw3 k).1 p.1 p.2.1 p.2.2))) = _
  rw [ht]
  exact read_pieces17 _ _ (fun h => k0_pay17 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (part9 h).toLoadRect (harg9.unread X9)) (View.readAt (Elt Ideal) arg14.view (part17 h).toLoadRect (harg14.unread X14)) h.val k) (View.readAt (Elt Ideal) arg17.view (part17 h).toLoadRect p.1)) h

set_option maxHeartbeats 0 in
theorem next_18 (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt Ideal .f32) (v14 : Vec Ideal S1x256 .f32) (X2 : S64x64.Idx → BitVec 32) (X3 : S64x64.Idx → BitVec 32) (X4 : S32.Idx → EReal) (X5 : S33x40.Idx → EReal) (X6 : S33x40.Idx → EReal) (X7 : S32x40.Idx → EReal) (X9 : S5x256x96.Idx → EReal) (X10 : S1x16384x96.Idx → EReal) (X11 : S1x96x16384.Idx → EReal) (X12 : S1x1x16384.Idx → EReal) (X13 : S1x16384x128.Idx → EReal) (X14 : S5x1x256.Idx → EReal) (hw2 : ∀ j, BitVec.toNat (arg2.view.read (Elt Ideal) (harg2.unread X2) j) ≤ 32) (hw3 : ∀ j, BitVec.toNat (arg3.view.read (Elt Ideal) (harg3.unread X3) j) ≤ 32) (k : Fin (k0_t1_loop i).trips) (p : (BufTy.Contents (Elt Ideal) arg17.view.ty) × (BufTy.Contents (Elt Ideal) arg18.view.ty) × (BufTy.Contents (Elt Ideal) arg19.view.ty)) (h : Fin 5) :
    (View.readAt (Elt Ideal) arg18.view (part17 h).toLoadRect (next (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 (harg2.unread X2) (harg3.unread X3) (harg4.unread X4) (harg5.unread X5) (harg6.unread X6) (harg7.unread X7) (harg9.unread X9) (harg10.unread X10) (harg11.unread X11) (harg12.unread X12) (harg13.unread X13) (harg14.unread X14) hw2 hw3 k p).2.1) = k0_pay18 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (part9 h).toLoadRect (harg9.unread X9)) (View.readAt (Elt Ideal) arg14.view (part17 h).toLoadRect (harg14.unread X14)) h.val k) (View.readAt (Elt Ideal) arg17.view (part17 h).toLoadRect p.1) (View.readAt (Elt Ideal) arg18.view (part17 h).toLoadRect p.2.1) := by
  have hlo : (trip.sl.r (F := Ideal) i arg2 (harg2.unread X2) k).toNat ≤ 32 := by
    rw [lo_read]
    have := hw2 (cell64 (i 1).val k.val)
    rwa [harg2.read_unread] at this
  have hhi : (trip.sl.r_1 (F := Ideal) i arg3 (harg3.unread X3) k).toNat ≤ 32 := by
    rw [hi_read]
    have := hw3 (cell64 (i 1).val k.val)
    rwa [harg3.read_unread] at this
  have ht := trip_sum c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 X2 X3 X4 X5 X6 X7 X9 X10 X11 X12 X13 X14 hw2 hw3 k hlo hhi
  show (View.readAt (Elt Ideal) arg18.view (part17 h).toLoadRect (arg18.view.writes (Elt Ideal) p.2.1 ((trip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 (harg2.unread X2) (harg3.unread X3) (harg4.unread X4) (harg5.unread X5) (harg6.unread X6) (harg7.unread X7) (harg9.unread X9) (harg10.unread X10) (harg11.unread X11) (harg12.unread X12) (harg13.unread X13) (harg14.unread X14) hw2 hw3 k).2.1 p.1 p.2.1 p.2.2))) = _
  rw [ht]
  exact read_pieces17 _ _ (fun h => k0_pay18 (F := Ideal) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (part9 h).toLoadRect (harg9.unread X9)) (View.readAt (Elt Ideal) arg14.view (part17 h).toLoadRect (harg14.unread X14)) h.val k) (View.readAt (Elt Ideal) arg17.view (part17 h).toLoadRect p.1) (View.readAt (Elt Ideal) arg18.view (part17 h).toLoadRect p.2.1)) h

set_option maxHeartbeats 0 in
theorem next_19 (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (arg0 : BitVec 32) (arg1 : BitVec 32) (v0 : BitVec 32) (v13 : Elt Ideal .f32) (v14 : Vec Ideal S1x256 .f32) (X2 : S64x64.Idx → BitVec 32) (X3 : S64x64.Idx → BitVec 32) (X4 : S32.Idx → EReal) (X5 : S33x40.Idx → EReal) (X6 : S33x40.Idx → EReal) (X7 : S32x40.Idx → EReal) (X9 : S5x256x96.Idx → EReal) (X10 : S1x16384x96.Idx → EReal) (X11 : S1x96x16384.Idx → EReal) (X12 : S1x1x16384.Idx → EReal) (X13 : S1x16384x128.Idx → EReal) (X14 : S5x1x256.Idx → EReal) (hw2 : ∀ j, BitVec.toNat (arg2.view.read (Elt Ideal) (harg2.unread X2) j) ≤ 32) (hw3 : ∀ j, BitVec.toNat (arg3.view.read (Elt Ideal) (harg3.unread X3) j) ≤ 32) (k : Fin (k0_t1_loop i).trips) (p : (BufTy.Contents (Elt Ideal) arg17.view.ty) × (BufTy.Contents (Elt Ideal) arg18.view.ty) × (BufTy.Contents (Elt Ideal) arg19.view.ty)) (h : Fin 5) :
    (View.readAt (Elt Ideal) arg19.view (part19 h).toLoadRect (next (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 (harg2.unread X2) (harg3.unread X3) (harg4.unread X4) (harg5.unread X5) (harg6.unread X6) (harg7.unread X7) (harg9.unread X9) (harg10.unread X10) (harg11.unread X11) (harg12.unread X12) (harg13.unread X13) (harg14.unread X14) hw2 hw3 k p).2.2) = k0_pay19 (F := Ideal) (k0_pay7 (View.readAt (Elt Ideal) arg11.view (Rect.unit (s := S1x96x16384) (k0_off3 i k) S1x96x256.size (k0_off3_inb i k)).toLoadRect (harg11.unread X11)) (View.readAt (Elt Ideal) arg12.view (Rect.unit (s := S1x1x16384) (k0_off4 i k) S1x1x256.size (k0_off4_inb i k)).toLoadRect (harg12.unread X12))) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (part9 h).toLoadRect (harg9.unread X9)) (View.readAt (Elt Ideal) arg14.view (part17 h).toLoadRect (harg14.unread X14)) h.val k) (View.readAt (Elt Ideal) arg17.view (part17 h).toLoadRect p.1) (View.readAt (Elt Ideal) arg19.view (part19 h).toLoadRect p.2.2) := by
  have hlo : (trip.sl.r (F := Ideal) i arg2 (harg2.unread X2) k).toNat ≤ 32 := by
    rw [lo_read]
    have := hw2 (cell64 (i 1).val k.val)
    rwa [harg2.read_unread] at this
  have hhi : (trip.sl.r_1 (F := Ideal) i arg3 (harg3.unread X3) k).toNat ≤ 32 := by
    rw [hi_read]
    have := hw3 (cell64 (i 1).val k.val)
    rwa [harg3.read_unread] at this
  have ht := trip_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 X2 X3 X4 X5 X6 X7 X9 X10 X11 X12 X13 X14 hw2 hw3 k hlo hhi
  show (View.readAt (Elt Ideal) arg19.view (part19 h).toLoadRect (arg19.view.writes (Elt Ideal) p.2.2 ((trip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v0 v13 v14 (harg2.unread X2) (harg3.unread X3) (harg4.unread X4) (harg5.unread X5) (harg6.unread X6) (harg7.unread X7) (harg9.unread X9) (harg10.unread X10) (harg11.unread X11) (harg12.unread X12) (harg13.unread X13) (harg14.unread X14) hw2 hw3 k).2.2.1 p.1 p.2.1 p.2.2))) = _
  rw [ht]
  exact read_pieces19 _ _ (fun h => k0_pay19 (F := Ideal) (k0_pay7 (View.readAt (Elt Ideal) arg11.view (Rect.unit (s := S1x96x16384) (k0_off3 i k) S1x96x256.size (k0_off3_inb i k)).toLoadRect (harg11.unread X11)) (View.readAt (Elt Ideal) arg12.view (Rect.unit (s := S1x1x16384) (k0_off4 i k) S1x1x256.size (k0_off4_inb i k)).toLoadRect (harg12.unread X12))) (scoreTile i v0 v13 v14 X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (part9 h).toLoadRect (harg9.unread X9)) (View.readAt (Elt Ideal) arg14.view (part17 h).toLoadRect (harg14.unread X14)) h.val k) (View.readAt (Elt Ideal) arg17.view (part17 h).toLoadRect p.1) (View.readAt (Elt Ideal) arg19.view (part19 h).toLoadRect p.2.2)) h

/-- The masked score, in base two, of the key at position `K` for head `h` and the query of column `j`. -/
def keyScore (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec Ideal S64x64 .i32) (X3 : Vec Ideal S64x64 .i32) (X4 : Vec Ideal S32 .f32) (X5 : Vec Ideal S33x40 .f32) (X6 : Vec Ideal S33x40 .f32) (X7 : Vec Ideal S32x40 .f32) (X8 : Vec Ideal S1 .f32) (X9 : Vec Ideal S5x256x96 .fp8e4m3) (X10 : Vec Ideal S1x16384x96 .fp8e4m3) (X11 : Vec Ideal S1x96x16384 .fp8e4m3) (X12 : Vec Ideal S1x1x16384 .f32) (X13 : Vec Ideal S1x16384x128 .f32) (X14 : Vec Ideal S5x1x256 .f32) (X15 : Vec Ideal S1x256 .f32)
    (hX2 : ∀ j, BitVec.toNat (w := 32) (X2 j) ≤ 32) (hX3 : ∀ j, BitVec.toNat (w := 32) (X3 j) ≤ 32) (h : Fin 5) (j : Fin 256) : ℕ → EReal :=
  atKey (T := (k0_t1_loop i).trips) fun k r => (scoreTile i (Scalar.muli (BitVec.ofNat 32 ↑(i 1)) 256#32) (View.readAt (Elt Ideal) arg8.view (Rect.unit ![0] S1.size inb_S1_S1_0).toLoadRect (harg8.unread X8) (Shape.Idx.first (by decide))) (View.readAt (Elt Ideal) arg15.view (Rect.unit ![0, 0] S1x256.size inb_S1x256_S1x256_0_0).toLoadRect (harg15.unread X15)) X2 X3 X4 X5 X6 X7 (View.readAt (Elt Ideal) arg10.view (Rect.unit (s := S1x16384x96) (k0_off2 i k) S1x256x96.size (k0_off2_inb i k)).toLoadRect (harg10.unread X10)) (View.readAt (Elt Ideal) arg13.view (Rect.unit (s := S1x16384x128) (k0_off5 i k) S1x256x128.size (k0_off5_inb i k)).toLoadRect (harg13.unread X13)) (View.readAt (Elt Ideal) arg9.view (part9 h).toLoadRect (harg9.unread X9)) (View.readAt (Elt Ideal) arg14.view (part17 h).toLoadRect (harg14.unread X14)) h.val k) (ix2 r j)

/-- The value row `d` of the key at position `K`. -/
def keyValue (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec Ideal S64x64 .i32) (X3 : Vec Ideal S64x64 .i32) (X4 : Vec Ideal S32 .f32) (X5 : Vec Ideal S33x40 .f32) (X6 : Vec Ideal S33x40 .f32) (X7 : Vec Ideal S32x40 .f32) (X8 : Vec Ideal S1 .f32) (X9 : Vec Ideal S5x256x96 .fp8e4m3) (X10 : Vec Ideal S1x16384x96 .fp8e4m3) (X11 : Vec Ideal S1x96x16384 .fp8e4m3) (X12 : Vec Ideal S1x1x16384 .f32) (X13 : Vec Ideal S1x16384x128 .f32) (X14 : Vec Ideal S5x1x256 .f32) (X15 : Vec Ideal S1x256 .f32)
    (hX2 : ∀ j, BitVec.toNat (w := 32) (X2 j) ≤ 32) (hX3 : ∀ j, BitVec.toNat (w := 32) (X3 j) ≤ 32) (d : Fin 96) : ℕ → EReal :=
  atKey (T := (k0_t1_loop i).trips) fun k r => k0_pay7 (F := Ideal) (View.readAt (Elt Ideal) arg11.view (Rect.unit (s := S1x96x16384) (k0_off3 i k) S1x96x256.size (k0_off3_inb i k)).toLoadRect (harg11.unread X11)) (View.readAt (Elt Ideal) arg12.view (Rect.unit (s := S1x1x16384) (k0_off4 i k) S1x1x256.size (k0_off4_inb i k)).toLoadRect (harg12.unread X12)) (ix2 d r)

/-- The scratch's first maximum. -/
def start : EReal := Ideal.ofBits .f32 0xF149F2CA#32

set_option maxHeartbeats 0 in
theorem walk (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec Ideal S64x64 .i32) (X3 : Vec Ideal S64x64 .i32) (X4 : Vec Ideal S32 .f32) (X5 : Vec Ideal S33x40 .f32) (X6 : Vec Ideal S33x40 .f32) (X7 : Vec Ideal S32x40 .f32) (X8 : Vec Ideal S1 .f32) (X9 : Vec Ideal S5x256x96 .fp8e4m3) (X10 : Vec Ideal S1x16384x96 .fp8e4m3) (X11 : Vec Ideal S1x96x16384 .fp8e4m3) (X12 : Vec Ideal S1x1x16384 .f32) (X13 : Vec Ideal S1x16384x128 .f32) (X14 : Vec Ideal S5x1x256 .f32) (X15 : Vec Ideal S1x256 .f32)
    (hX2 : ∀ j, BitVec.toNat (w := 32) (X2 j) ≤ 32) (hX3 : ∀ j, BitVec.toNat (w := 32) (X3 j) ≤ 32) (h : Fin 5) (j : Fin 256) (d : Fin 96) (hs : start ≠ ⊥) (n : ℕ) (hn : n ≤ (k0_t1_loop i).trips) :
    Cert.Proof.Math.Running (keyScore c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 h j) (keyValue c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 d) start (256 * n)
      ((View.readAt (Elt Ideal) arg17.view (part17 h).toLoadRect (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 n).1) (ix3 0 0 j)) ((View.readAt (Elt Ideal) arg18.view (part17 h).toLoadRect (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 n).2.1) (ix3 0 0 j)) ((View.readAt (Elt Ideal) arg19.view (part19 h).toLoadRect (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 n).2.2) (ix3 0 d j)) := by
  induction n with
  | zero =>
    have e17 : (View.readAt (Elt Ideal) arg17.view (part17 h).toLoadRect (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 0).1) (ix3 0 0 j) = start := by
      refine (readAt_idx arg17.view _ _ _).trans ?_
      refine (congrFun (View.read_writes_full _ _ _ _ _) _).trans ?_
      rfl
    have e18 : (View.readAt (Elt Ideal) arg18.view (part17 h).toLoadRect (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 0).2.1) (ix3 0 0 j) = 0 := by
      refine (readAt_idx arg18.view _ _ _).trans ?_
      refine (congrFun (View.read_writes_full _ _ _ _ _) _).trans ?_
      exact Ideal.ofBits_zero_f32
    have e19 : (View.readAt (Elt Ideal) arg19.view (part19 h).toLoadRect (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 0).2.2) (ix3 0 d j) = 0 := by
      refine (readAt_idx arg19.view _ _ _).trans ?_
      refine (congrFun (View.read_writes_full _ _ _ _ _) _).trans ?_
      exact Ideal.ofBits_zero_f32
    rw [e17, e18, e19]
    exact Cert.Proof.Math.Running.zero _ _ _
  | succ n ih =>
    have hk : n < (k0_t1_loop i).trips := hn
    have ih := ih (le_of_lt hk)
    have hc : (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 (n + 1)) = (next (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (BitVec.ofNat 32 ↑(i 1)) (Scalar.muli (BitVec.ofNat 32 ↑(i 1)) 256#32) (View.readAt (Elt Ideal) arg8.view (Rect.unit ![0] S1.size inb_S1_S1_0).toLoadRect (harg8.unread X8) (Shape.Idx.first (by decide))) (View.readAt (Elt Ideal) arg15.view (Rect.unit ![0, 0] S1x256.size inb_S1x256_S1x256_0_0).toLoadRect (harg15.unread X15)) (harg2.unread X2) (harg3.unread X3) (harg4.unread X4) (harg5.unread X5) (harg6.unread X6) (harg7.unread X7) (harg9.unread X9) (harg10.unread X10) (harg11.unread X11) (harg12.unread X12) (harg13.unread X13) (harg14.unread X14) (by intro j; rw [harg2.read_unread]; exact hX2 j) (by intro j; rw [harg3.read_unread]; exact hX3 j)) ⟨n, hk⟩ (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 n) := iter_succ _ _ _ ⟨n, hk⟩
    have hx : ∀ r : Fin 256, (keyScore c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 h j) (256 * n + r.val) = (scoreTile i (Scalar.muli (BitVec.ofNat 32 ↑(i 1)) 256#32) (View.readAt (Elt Ideal) arg8.view (Rect.unit ![0] S1.size inb_S1_S1_0).toLoadRect (harg8.unread X8) (Shape.Idx.first (by decide))) (View.readAt (Elt Ideal) arg15.view (Rect.unit ![0, 0] S1x256.size inb_S1x256_S1x256_0_0).toLoadRect (harg15.unread X15)) X2 X3 X4 X5 X6 X7 (View.readAt (Elt Ideal) arg10.view (Rect.unit (s := S1x16384x96) (k0_off2 i (⟨n, hk⟩ : Fin (k0_t1_loop i).trips)) S1x256x96.size (k0_off2_inb i (⟨n, hk⟩ : Fin (k0_t1_loop i).trips))).toLoadRect (harg10.unread X10)) (View.readAt (Elt Ideal) arg13.view (Rect.unit (s := S1x16384x128) (k0_off5 i (⟨n, hk⟩ : Fin (k0_t1_loop i).trips)) S1x256x128.size (k0_off5_inb i (⟨n, hk⟩ : Fin (k0_t1_loop i).trips))).toLoadRect (harg13.unread X13)) (View.readAt (Elt Ideal) arg9.view (part9 h).toLoadRect (harg9.unread X9)) (View.readAt (Elt Ideal) arg14.view (part17 h).toLoadRect (harg14.unread X14)) h.val (⟨n, hk⟩ : Fin (k0_t1_loop i).trips)) (ix2 r j) := fun r =>
      atKey_add _ n hk r
    have hw : ∀ r : Fin 256, (keyValue c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 d) (256 * n + r.val) = k0_pay7 (F := Ideal) (View.readAt (Elt Ideal) arg11.view (Rect.unit (s := S1x96x16384) (k0_off3 i (⟨n, hk⟩ : Fin (k0_t1_loop i).trips)) S1x96x256.size (k0_off3_inb i (⟨n, hk⟩ : Fin (k0_t1_loop i).trips))).toLoadRect (harg11.unread X11)) (View.readAt (Elt Ideal) arg12.view (Rect.unit (s := S1x1x16384) (k0_off4 i (⟨n, hk⟩ : Fin (k0_t1_loop i).trips)) S1x1x256.size (k0_off4_inb i (⟨n, hk⟩ : Fin (k0_t1_loop i).trips))).toLoadRect (harg12.unread X12)) (ix2 d r) := fun r =>
      atKey_add _ n hk r
    rw [hc, Nat.mul_succ]
    rw [next_17, next_18, next_19]
    refine Cert.Proof.Math.Running.step hs ih ?_ ?_ ?_
    · rw [pay17_apply, pay14_apply]
      simp only [hx]
    · rw [pay18_apply, pay16_apply, pay17_apply]
      simp only [hx, pay15_apply]
    · rw [pay19_apply, pay16_apply, pay17_apply]
      simp only [hx, hw, pay15_apply]

end Cert.Proof.KernelIdeal

end
-- ==== Proof.KernelIdeal.Keys.lean ====
module

public import proofs.«01_k».proof.Proof.Gen.KernelIdeal.Loops
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import proofs.«01_k».proof.Proof.KernelIdeal.Chk
public import proofs.«01_k».proof.Proof.KernelIdeal.Loop
public import proofs.«01_k».proof.Proof.KernelIdeal.Hinge
public import proofs.«01_k».proof.Proof.KernelIdeal.Regroup
public import proofs.«01_k».proof.Proof.KernelIdeal.Body
public import proofs.«01_k».proof.Proof.KernelIdeal.Heads
public import proofs.«01_k».proof.Proof.KernelIdeal.Walk
public import proofs.«01_k».proof.Proof.KernelIdeal.Values
public import proofs.«01_k».proof.Proof.KernelIdeal.Payload
public import proofs.«01_k».proof.Proof.Math.Softmax
public import Idealize.ShloMosaic.Lib.Pointwise
public import Idealize.ShloMosaic.Lib.WritesUnit
public import Idealize.ShloMosaic.Lib.VecWindow
public import Idealize.ShloMosaic.Lib.WholeRead
public import Idealize.ShloMosaic.Lib.IdealHost
public import Idealize.ShloMosaic.Lib.Pipeline.ValueKit.Tiles
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

/-! The scores and values of the walk, from the contents of the blocks. -/

/-- The position of row `r` of key tile `k`. -/
def key (k r : ℕ) (hk : k < 64) (hr : r < 256) : Fin 16384 := ⟨256 * k + r, by omega⟩

theorem read_keys {e : EltTy} (i : grid0.Coords) (k : Fin (k0_t1_loop i).trips) (arg : Memref sig .tc .vmem S1x16384x96 e) (harg : arg.IsWhole)
    (X : S1x16384x96.Idx → Elt Ideal e) (r : Fin 256) (d : Fin 96) :
    View.readAt (Elt Ideal) arg.view (Rect.unit (s := S1x16384x96) (k0_off2 i k) S1x256x96.size (k0_off2_inb i k)).toLoadRect (harg.unread X) (ix3 0 r d)
      = X (ix3 0 (key k.val r.val (trip_lt i k) r.isLt) d) := by
  refine (harg.readAt_unread (Val := Elt Ideal) X _ _).trans (congrArg X ?_)
  funext a
  match a with
  | ⟨0, _⟩ => rfl
  | ⟨1, _⟩ =>
    apply Fin.ext
    refine (Rect.idx_unit_val _ _ (k0_off2_inb i k) _ 1).trans ?_
    show (Scalar.indexCast (Scalar.muli (Scf.iv 0#32 1#32 k.val) 256#32)).toNat + r.val = 256 * k.val + r.val
    rw [off_tile k.val (trip_lt i k)]
  | ⟨2, _⟩ =>
    apply Fin.ext
    refine (Rect.idx_unit_val _ _ (k0_off2_inb i k) _ 2).trans ?_
    show 0 + d.val = d.val
    omega

theorem read_kscale (i : grid0.Coords) (k : Fin (k0_t1_loop i).trips) (arg : Memref sig .tc .vmem S1x16384x128 .f32) (harg : arg.IsWhole)
    (X : S1x16384x128.Idx → EReal) (r : Fin 256) (d : Fin 128) :
    View.readAt (Elt Ideal) arg.view (Rect.unit (s := S1x16384x128) (k0_off5 i k) S1x256x128.size (k0_off5_inb i k)).toLoadRect (harg.unread X) (ix3 0 r d)
      = X (ix3 0 (key k.val r.val (trip_lt i k) r.isLt) d) := by
  refine (harg.readAt_unread (Val := Elt Ideal) X _ _).trans (congrArg X ?_)
  funext a
  match a with
  | ⟨0, _⟩ => rfl
  | ⟨1, _⟩ =>
    apply Fin.ext
    refine (Rect.idx_unit_val _ _ (k0_off5_inb i k) _ 1).trans ?_
    show (Scalar.indexCast (Scalar.muli (Scf.iv 0#32 1#32 k.val) 256#32)).toNat + r.val = 256 * k.val + r.val
    rw [off_tile k.val (trip_lt i k)]
  | ⟨2, _⟩ =>
    apply Fin.ext
    refine (Rect.idx_unit_val _ _ (k0_off5_inb i k) _ 2).trans ?_
    show 0 + d.val = d.val
    omega

theorem read_values {e : EltTy} (i : grid0.Coords) (k : Fin (k0_t1_loop i).trips) (arg : Memref sig .tc .vmem S1x96x16384 e) (harg : arg.IsWhole)
    (X : S1x96x16384.Idx → Elt Ideal e) (r : Fin 256) (d : Fin 96) :
    View.readAt (Elt Ideal) arg.view (Rect.unit (s := S1x96x16384) (k0_off3 i k) S1x96x256.size (k0_off3_inb i k)).toLoadRect (harg.unread X) (ix3 0 d r)
      = X (ix3 0 d (key k.val r.val (trip_lt i k) r.isLt)) := by
  refine (harg.readAt_unread (Val := Elt Ideal) X _ _).trans (congrArg X ?_)
  funext a
  match a with
  | ⟨0, _⟩ => rfl
  | ⟨1, _⟩ =>
    apply Fin.ext
    refine (Rect.idx_unit_val _ _ (k0_off3_inb i k) _ 1).trans ?_
    show 0 + d.val = d.val
    omega
  | ⟨2, _⟩ =>
    apply Fin.ext
    refine (Rect.idx_unit_val _ _ (k0_off3_inb i k) _ 2).trans ?_
    show (Scalar.indexCast (Scalar.muli (Scf.iv 0#32 1#32 k.val) 256#32)).toNat + r.val = 256 * k.val + r.val
    rw [off_tile k.val (trip_lt i k)]

theorem read_vscale (i : grid0.Coords) (k : Fin (k0_t1_loop i).trips) (arg : Memref sig .tc .vmem S1x1x16384 .f32) (harg : arg.IsWhole)
    (X : S1x1x16384.Idx → EReal) (r : Fin 256) :
    View.readAt (Elt Ideal) arg.view (Rect.unit (s := S1x1x16384) (k0_off4 i k) S1x1x256.size (k0_off4_inb i k)).toLoadRect (harg.unread X) (ix3 0 0 r)
      = X (ix3 0 0 (key k.val r.val (trip_lt i k) r.isLt)) := by
  refine (harg.readAt_unread (Val := Elt Ideal) X _ _).trans (congrArg X ?_)
  funext a
  match a with
  | ⟨0, _⟩ => rfl
  | ⟨1, _⟩ => rfl
  | ⟨2, _⟩ =>
    apply Fin.ext
    refine (Rect.idx_unit_val _ _ (k0_off4_inb i k) _ 2).trans ?_
    show (Scalar.indexCast (Scalar.muli (Scf.iv 0#32 1#32 k.val) 256#32)).toNat + r.val = 256 * k.val + r.val
    rw [off_tile k.val (trip_lt i k)]

theorem read_queries {e : EltTy} (arg : Memref sig .tc .vmem S5x256x96 e) (harg : arg.IsWhole)
    (X : S5x256x96.Idx → Elt Ideal e) (h : Fin 5) (j : Fin 256) (d : Fin 96) :
    View.readAt (Elt Ideal) arg.view (part9 h).toLoadRect (harg.unread X) (ix3 0 j d) = X (ix3 h j d) := by
  refine (harg.readAt_unread (Val := Elt Ideal) X _ _).trans (congrArg X ?_)
  funext a
  match a with
  | ⟨0, _⟩ =>
    apply Fin.ext
    refine (Rect.idx_unit_val _ _ (inb9 h) _ 0).trans ?_
    show h.val + 0 = h.val
    omega
  | ⟨1, _⟩ =>
    apply Fin.ext
    refine (Rect.idx_unit_val _ _ (inb9 h) _ 1).trans ?_
    show 0 + j.val = j.val
    omega
  | ⟨2, _⟩ =>
    apply Fin.ext
    refine (Rect.idx_unit_val _ _ (inb9 h) _ 2).trans ?_
    show 0 + d.val = d.val
    omega

theorem read_qscale (arg : Memref sig .tc .vmem S5x1x256 .f32) (harg : arg.IsWhole)
    (X : S5x1x256.Idx → EReal) (h : Fin 5) (j : Fin 256) :
    View.readAt (Elt Ideal) arg.view (part17 h).toLoadRect (harg.unread X) (ix3 0 0 j) = X (ix3 h 0 j) := by
  refine (harg.readAt_unread (Val := Elt Ideal) X _ _).trans (congrArg X ?_)
  funext a
  match a with
  | ⟨0, _⟩ =>
    apply Fin.ext
    refine (Rect.idx_unit_val _ _ (inb17 h) _ 0).trans ?_
    show h.val + 0 = h.val
    omega
  | ⟨1, _⟩ => rfl
  | ⟨2, _⟩ =>
    apply Fin.ext
    refine (Rect.idx_unit_val _ _ (inb17 h) _ 2).trans ?_
    show 0 + j.val = j.val
    omega

theorem read_norm (arg : Memref sig .tc .vmem S1x256 .f32) (harg : arg.IsWhole) (X : S1x256.Idx → EReal) (j : Fin 256) :
    View.readAt (Elt Ideal) arg.view (Rect.unit (s := S1x256) ![0, 0] S1x256.size inb_S1x256_S1x256_0_0).toLoadRect (harg.unread X) (ix2 0 j) = X (ix2 0 j) := by
  refine (harg.readAt_unread (Val := Elt Ideal) X _ _).trans (congrArg X ?_)
  funext a
  match a with
  | ⟨0, _⟩ => rfl
  | ⟨1, _⟩ =>
    apply Fin.ext
    refine (Rect.idx_unit_val _ _ inb_S1x256_S1x256_0_0 _ 1).trans ?_
    show 0 + j.val = j.val
    omega

theorem read_factor (arg : Memref sig .tc .smem S1 .f32) (harg : arg.IsWhole) (X : S1.Idx → EReal) :
    View.readAt (Elt Ideal) arg.view (Rect.unit (s := S1) ![0] S1.size inb_S1_S1_0).toLoadRect (harg.unread X) (Shape.Idx.first (by decide)) = X (ix1 0) := by
  refine (harg.readAt_unread (Val := Elt Ideal) X _ _).trans (congrArg X ?_)
  funext a
  match a with
  | ⟨0, _⟩ => rfl

/-- The number of key tiles of a query block. -/
theorem trips_eq (i : grid0.Coords) : (k0_t1_loop i).trips = (i 1).val + 1 := by
  have h : (i 1).val < 64 := (i 1).isLt
  have hb : (Scalar.addi (Scalar.muli (BitVec.ofNat 32 (i 1).val) 1#32) 1#32) = BitVec.ofNat 32 ((i 1).val + 1) := by
    show BitVec.ofNat 32 (i 1).val * 1#32 + 1#32 = _
    apply BitVec.eq_of_toNat_eq
    simp only [BitVec.toNat_add, BitVec.toNat_mul, BitVec.toNat_ofNat]
    omega
  have ht : (k0_t1_loop i).trips = Scf.trips 0#32 (BitVec.ofNat 32 ((i 1).val + 1)) 1#32 := by
    show Scf.trips 0#32 (Scalar.addi 0#32 (Scalar.muli (Scalar.divsi (Scalar.subi
      (Scalar.addi (Scalar.muli (BitVec.ofNat 32 (i 1).val) 1#32) 1#32) 0#32) 1#32) 1#32)) 1#32 = _
    rw [main_ub, hb]
  rw [ht]
  unfold Scf.trips
  rw [toInt_small _ (by omega), show (1#32 : BitVec 32).toInt = 1 by decide, show (0#32 : BitVec 32).toInt = 0 by decide]
  omega

/-- The first query of a block, as a word. -/
theorem query_word (i : grid0.Coords) (r j : Fin 256) :
    k0_pay4 (Scalar.muli (BitVec.ofNat 32 (i 1).val) 256#32) (ix2 r j) = BitVec.ofNat 32 (256 * (i 1).val + j.val) := by
  have h : (i 1).val < 64 := (i 1).isLt
  rw [pay4_apply]
  show BitVec.ofNat 32 (i 1).val * 256#32 + BitVec.ofNat 32 j.val = _
  apply BitVec.eq_of_toNat_eq
  simp only [BitVec.toNat_add, BitVec.toNat_mul, BitVec.toNat_ofNat]
  omega

theorem slt_small (x y : ℕ) (hx : x < 2 ^ 20) (hy : y < 2 ^ 20) : BitVec.slt (BitVec.ofNat 32 x) (BitVec.ofNat 32 y) = decide (x < y) := by
  rw [BitVec.slt, toInt_small x (by omega), toInt_small y (by omega)]
  simp

/-- The score of a key that is not after the query, in base two. -/
theorem keyScore_apply (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec Ideal S64x64 .i32) (X3 : Vec Ideal S64x64 .i32) (X4 : Vec Ideal S32 .f32) (X5 : Vec Ideal S33x40 .f32) (X6 : Vec Ideal S33x40 .f32) (X7 : Vec Ideal S32x40 .f32) (X8 : Vec Ideal S1 .f32) (X9 : Vec Ideal S5x256x96 .fp8e4m3) (X10 : Vec Ideal S1x16384x96 .fp8e4m3) (X11 : Vec Ideal S1x96x16384 .fp8e4m3) (X12 : Vec Ideal S1x1x16384 .f32) (X13 : Vec Ideal S1x16384x128 .f32) (X14 : Vec Ideal S5x1x256 .f32) (X15 : Vec Ideal S1x256 .f32)
    (hX2 : ∀ j, BitVec.toNat (w := 32) (X2 j) ≤ 32) (hX3 : ∀ j, BitVec.toNat (w := 32) (X3 j) ≤ 32) (h : Fin 5) (j : Fin 256)
    (k : ℕ) (hk : k < (k0_t1_loop i).trips) (r : Fin 256) :
    keyScore c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 h j (256 * k + r.val)
      = if 256 * (i 1).val + j.val < 256 * k + r.val then ⊥
        else (∑ d : Fin 96, X10 (ix3 0 (key k r.val (trip_lt i ⟨k, hk⟩) r.isLt) d) * X9 (ix3 h j d)) * X13 (ix3 0 (key k r.val (trip_lt i ⟨k, hk⟩) r.isLt) 0)
            * (X14 (ix3 h 0 j) * (((Real.sqrt 96)⁻¹ * (Real.log 2)⁻¹ : ℝ) : EReal))
          + biasOf (Ideal.log1p (X8 (ix1 0) * ((max (((256 * (i 1).val + j.val : ℕ) : ℝ) - ((256 * k + r.val : ℕ) : ℝ)) 0 : ℝ) : EReal)) * X15 (ix2 0 j))
              X4 X5 X6 X7 (X2 (cell64 (i 1).val k)).toNat (X3 (cell64 (i 1).val k)).toNat ((i 0).val * 5 + h.val)
            * (((Real.log 2)⁻¹ : ℝ) : EReal) := by
  have h1 : (i 1).val < 64 := (i 1).isLt
  have hk64 := trip_lt i ⟨k, hk⟩
  have hk64' : k < 64 := hk64
  unfold keyScore
  rw [atKey_add _ k hk r]
  unfold scoreTile
  rw [pay12_apply, query_word, pay3_apply, slt_small _ _ (by omega) (by show 256 * k + r.val < _; omega)]
  have hd : ∀ x : Prop, [Decidable x] → ((decide x = true) = x) := fun x => by simp
  simp only [hd]
  show (if 256 * (i 1).val + j.val < 256 * k + r.val then ⊥ else _) = _
  split_ifs with hlt
  · rfl
  · refine congrArg₂ (fun x y : EReal => x + y) (congrArg₂ (fun x y : EReal => x * y) (congrArg₂ (fun x y : EReal => x * y)
      (Finset.sum_congr rfl fun d _ => ?_) (read_kscale i ⟨k, hk⟩ arg13 harg13 X13 r 0))
      (congrArg (fun x : EReal => x * _) (read_qscale arg14 harg14 X14 h j))) (congrArg (fun x : EReal => x * _) ?_)
    · rw [pay6_apply, read_keys, read_queries]
    · unfold biasTile
      refine congrArg (fun u : EReal => biasOf u _ _ _ _ _ _ _) ?_
      rw [pay5_apply, query_word, pay3_apply, slt_small _ _ (by omega) (by show 256 * k + r.val < _; omega), if_neg (by simpa using hlt),
        maxsi_sub _ _ (by omega) (by show 256 * k + r.val < _; omega), read_norm, read_factor]

theorem keyValue_apply (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec Ideal S64x64 .i32) (X3 : Vec Ideal S64x64 .i32) (X4 : Vec Ideal S32 .f32) (X5 : Vec Ideal S33x40 .f32) (X6 : Vec Ideal S33x40 .f32) (X7 : Vec Ideal S32x40 .f32) (X8 : Vec Ideal S1 .f32) (X9 : Vec Ideal S5x256x96 .fp8e4m3) (X10 : Vec Ideal S1x16384x96 .fp8e4m3) (X11 : Vec Ideal S1x96x16384 .fp8e4m3) (X12 : Vec Ideal S1x1x16384 .f32) (X13 : Vec Ideal S1x16384x128 .f32) (X14 : Vec Ideal S5x1x256 .f32) (X15 : Vec Ideal S1x256 .f32)
    (hX2 : ∀ j, BitVec.toNat (w := 32) (X2 j) ≤ 32) (hX3 : ∀ j, BitVec.toNat (w := 32) (X3 j) ≤ 32) (d : Fin 96) (k : ℕ) (hk : k < (k0_t1_loop i).trips) (r : Fin 256) :
    keyValue c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 d (256 * k + r.val)
      = X11 (ix3 0 d (key k r.val (trip_lt i ⟨k, hk⟩) r.isLt)) * X12 (ix3 0 0 (key k r.val (trip_lt i ⟨k, hk⟩) r.isLt)) := by
  unfold keyValue
  rw [atKey_add _ k hk r, pay7_apply, read_values, read_vscale]

end Cert.Proof.KernelIdeal

end
-- ==== Proof.KernelIdeal.Host5.lean ====
module

public import proofs.«01_k».proof.Proof.Gen.KernelIdeal.Frame
public import Idealize.ShloMosaic.Lib.StableHlo.RunRead
@[expose] public section

/-! What arrays of the host code hold, each in terms of a few earlier ones. -/

set_option maxRecDepth 16384
noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- An operand of the attention call. -/
theorem V147 (c : Dev nD) : V m c main_v147 = (transpose S40x16384x96 [1, 0, 2] (shapeCast S16384x40x96 (V m c main_arg0 : (⟨S1x16384x40x96, .fp8e4m3⟩ : BufTy).Contents (Elt F)) shapeCasts_S1x16384x40x96_S16384x40x96) transposes_S16384x40x96_S40x16384x96_1_0_2) := by
  unfold V
  after_reads_simp
  all_goals try rfl

/-- An operand of the attention call. -/
theorem V149 (c : Dev nD) : V m c main_v149 = (transpose S8x16384x96 [1, 0, 2] (shapeCast S16384x8x96 (V m c main_arg2 : (⟨S1x16384x8x96, .fp8e4m3⟩ : BufTy).Contents (Elt F)) shapeCasts_S1x16384x8x96_S16384x8x96) transposes_S16384x8x96_S8x16384x96_1_0_2) := by
  unfold V
  after_reads_simp
  all_goals try rfl

/-- An operand of the attention call. -/
theorem V151 (c : Dev nD) : V m c main_v151 = (transpose S8x96x16384 [1, 2, 0] (shapeCast S16384x8x96 (V m c main_arg4 : (⟨S1x16384x8x96, .fp8e4m3⟩ : BufTy).Contents (Elt F)) shapeCasts_S1x16384x8x96_S16384x8x96) transposes_S16384x8x96_S8x96x16384_1_2_0) := by
  unfold V
  after_reads_simp
  all_goals try rfl

/-- An operand of the attention call. -/
theorem V154 (c : Dev nD) : V m c main_v154 = (broadcastInDim S8x1x16384 ![0, 2] bcast_S8x16384_S8x1x16384_0_2 (transpose S8x16384 [1, 0] (shapeCast S16384x8 (V m c main_arg5 : (⟨S1x16384x8, .f32⟩ : BufTy).Contents (Elt F)) shapeCasts_S1x16384x8_S16384x8) transposes_S16384x8_S8x16384_1_0)) := by
  unfold V
  after_reads_simp
  all_goals try rfl

end Cert.Proof.KernelIdeal

end
-- ==== Proof.KernelIdeal.Host6.lean ====
module

public import proofs.«01_k».proof.Proof.Gen.KernelIdeal.Frame
public import Idealize.ShloMosaic.Lib.StableHlo.RunRead
@[expose] public section

/-! What arrays of the host code hold, each in terms of a few earlier ones. -/

set_option maxRecDepth 16384
noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- An operand of the attention call. -/
theorem V158 (c : Dev nD) : V m c main_v158 = (broadcastInDim S8x16384x128 ![0, 1, 2] bcast_S8x16384x1_S8x16384x128_0_1_2 (broadcastInDim S8x16384x1 ![0, 1] bcast_S8x16384_S8x16384x1_0_1 (transpose S8x16384 [1, 0] (shapeCast S16384x8 (V m c main_arg3 : (⟨S1x16384x8, .f32⟩ : BufTy).Contents (Elt F)) shapeCasts_S1x16384x8_S16384x8) transposes_S16384x8_S8x16384_1_0))) := by
  unfold V
  after_reads_simp
  all_goals try rfl

/-- An operand of the attention call. -/
theorem V161 (c : Dev nD) : V m c main_v161 = (broadcastInDim S40x1x16384 ![0, 2] bcast_S40x16384_S40x1x16384_0_2 (transpose S40x16384 [1, 0] (shapeCast S16384x40 (V m c main_arg1 : (⟨S1x16384x40, .f32⟩ : BufTy).Contents (Elt F)) shapeCasts_S1x16384x40_S16384x40) transposes_S16384x40_S40x16384_1_0)) := by
  unfold V
  after_reads_simp
  all_goals try rfl

/-- An operand of the attention call. -/
theorem V162 (c : Dev nD) : V m c main_v162 = (broadcastInDim S1x16384 ![1] bcast_S16384_S1x16384_1 (V m c main_v75 : (⟨S16384, .f32⟩ : BufTy).Contents (Elt F))) := by
  unfold V
  after_reads_simp
  all_goals try rfl

/-- An operand of the attention call. -/
theorem V163 (c : Dev nD) : V m c main_v163 = (shapeCast S1 (V m c main_arg6 : (⟨S_, .f32⟩ : BufTy).Contents (Elt F)) shapeCasts_S_S1) := by
  unfold V
  after_reads_simp
  all_goals try rfl

end Cert.Proof.KernelIdeal

end
-- ==== Proof.KernelIdeal.Layout.lean ====
module

public import proofs.«01_k».proof.Proof.KernelIdeal.Values
public import proofs.«01_k».proof.Proof.KernelIdeal.Host5
public import proofs.«01_k».proof.Proof.KernelIdeal.Host6
@[expose] public section

/-! The operands of the kernel at an index, in terms of the arguments. -/

set_option maxRecDepth 8192

noncomputable section

namespace Cert.Proof.KernelIdeal

open Cert.KernelIdeal Cert.KernelIdeal.Gen
open Idealize.ShloMosaic Idealize.ShloMosaic.TcCoe Idealize.ShloMosaic.Tactic

theorem layout147 (X : Vec Ideal S1x16384x40x96 .fp8e4m3) (h : Fin 40) (i : Fin 16384) (d : Fin 96) :
    (transpose S40x16384x96 [1, 0, 2] (shapeCast S16384x40x96 X shapeCasts_S1x16384x40x96_S16384x40x96) transposes_S16384x40x96_S40x16384x96_1_0_2) (ix3 h i d) = X (ix4 0 i h d) := by
  pointwise

theorem layout149 (X : Vec Ideal S1x16384x8x96 .fp8e4m3) (g : Fin 8) (j : Fin 16384) (d : Fin 96) :
    (transpose S8x16384x96 [1, 0, 2] (shapeCast S16384x8x96 X shapeCasts_S1x16384x8x96_S16384x8x96) transposes_S16384x8x96_S8x16384x96_1_0_2) (ix3 g j d) = X (ix4 0 j g d) := by
  pointwise

theorem layout151 (X : Vec Ideal S1x16384x8x96 .fp8e4m3) (g : Fin 8) (d : Fin 96) (j : Fin 16384) :
    (transpose S8x96x16384 [1, 2, 0] (shapeCast S16384x8x96 X shapeCasts_S1x16384x8x96_S16384x8x96) transposes_S16384x8x96_S8x96x16384_1_2_0) (ix3 g d j) = X (ix4 0 j g d) := by
  pointwise

theorem layout154 (X : Vec Ideal S1x16384x8 .f32) (g : Fin 8) (j : Fin 16384) :
    (broadcastInDim S8x1x16384 ![0, 2] bcast_S8x16384_S8x1x16384_0_2 (transpose S8x16384 [1, 0] (shapeCast S16384x8 X shapeCasts_S1x16384x8_S16384x8) transposes_S16384x8_S8x16384_1_0)) (ix3 g 0 j) = X (ix3 0 j g) := by
  pointwise

theorem layout158 (X : Vec Ideal S1x16384x8 .f32) (g : Fin 8) (j : Fin 16384) (l : Fin 128) :
    (broadcastInDim S8x16384x128 ![0, 1, 2] bcast_S8x16384x1_S8x16384x128_0_1_2 (broadcastInDim S8x16384x1 ![0, 1] bcast_S8x16384_S8x16384x1_0_1 (transpose S8x16384 [1, 0] (shapeCast S16384x8 X shapeCasts_S1x16384x8_S16384x8) transposes_S16384x8_S8x16384_1_0))) (ix3 g j l) = X (ix3 0 j g) := by
  pointwise

theorem layout161 (X : Vec Ideal S1x16384x40 .f32) (h : Fin 40) (i : Fin 16384) :
    (broadcastInDim S40x1x16384 ![0, 2] bcast_S40x16384_S40x1x16384_0_2 (transpose S40x16384 [1, 0] (shapeCast S16384x40 X shapeCasts_S1x16384x40_S16384x40) transposes_S16384x40_S40x16384_1_0)) (ix3 h 0 i) = X (ix3 0 i h) := by
  pointwise

theorem layout162 (X : Vec Ideal S16384 .f32) (i : Fin 16384) :
    (broadcastInDim S1x16384 ![1] bcast_S16384_S1x16384_1 X) (ix2 0 i) = X (ix1 i) := by
  pointwise

theorem layout163 (X : Vec Ideal S_ .f32)  :
    (shapeCast S1 X shapeCasts_S_S1) (ix1 0) = X (ix0) := by
  pointwise

variable (m : (ℓ : Loc nD τ sig) → Buf (Elt Ideal) ℓ)

theorem V147_apply (c : Dev nD) (h : Fin 40) (i : Fin 16384) (d : Fin 96) : V m c main_v147 (ix3 h i d) = V m c main_arg0 (ix4 0 i h d) := by
  rw [V147]
  exact layout147 (V m c main_arg0) h i d

theorem V149_apply (c : Dev nD) (g : Fin 8) (j : Fin 16384) (d : Fin 96) : V m c main_v149 (ix3 g j d) = V m c main_arg2 (ix4 0 j g d) := by
  rw [V149]
  exact layout149 (V m c main_arg2) g j d

theorem V151_apply (c : Dev nD) (g : Fin 8) (d : Fin 96) (j : Fin 16384) : V m c main_v151 (ix3 g d j) = V m c main_arg4 (ix4 0 j g d) := by
  rw [V151]
  exact layout151 (V m c main_arg4) g d j

theorem V154_apply (c : Dev nD) (g : Fin 8) (j : Fin 16384) : V m c main_v154 (ix3 g 0 j) = V m c main_arg5 (ix3 0 j g) := by
  rw [V154]
  exact layout154 (V m c main_arg5) g j

theorem V158_apply (c : Dev nD) (g : Fin 8) (j : Fin 16384) (l : Fin 128) : V m c main_v158 (ix3 g j l) = V m c main_arg3 (ix3 0 j g) := by
  rw [V158]
  exact layout158 (V m c main_arg3) g j l

theorem V161_apply (c : Dev nD) (h : Fin 40) (i : Fin 16384) : V m c main_v161 (ix3 h 0 i) = V m c main_arg1 (ix3 0 i h) := by
  rw [V161]
  exact layout161 (V m c main_arg1) h i

theorem V162_apply (c : Dev nD) (i : Fin 16384) : V m c main_v162 (ix2 0 i) = V m c main_v75 (ix1 i) := by
  rw [V162]
  exact layout162 (V m c main_v75) i

theorem V163_apply (c : Dev nD)  : V m c main_v163 (ix1 0) = V m c main_arg6 (ix0) := by
  rw [V163]
  exact layout163 (V m c main_arg6)

end Cert.Proof.KernelIdeal

end
-- ==== Proof.KernelIdeal.Operands.lean ====
module

public import proofs.«01_k».proof.Proof.KernelIdeal.Values
public import proofs.«01_k».proof.Proof.KernelIdeal.Body
public import proofs.«01_k».proof.Proof.KernelIdeal.Layout
public import Idealize.ShloMosaic.Lib.Pipeline.ValueKit
public import Idealize.ShloMosaic.Lib.Pipeline.Covers
@[expose] public section

/-! What the kernel's windows hold at each grid point, in terms of the arguments. -/

set_option maxRecDepth 8192

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ)

/-! ## The windows' places -/

theorem place0 (t : Fin cfg0.N) : win0_0.index t = ![0, 0] :=
  (by decide +kernel : ∀ t : Fin grid0.N, win0_0.index t = ![0, 0]) t

theorem place1 (t : Fin cfg0.N) : win0_1.index t = ![0, 0] :=
  (by decide +kernel : ∀ t : Fin grid0.N, win0_1.index t = ![0, 0]) t

theorem place2 (t : Fin cfg0.N) : win0_2.index t = ![0] :=
  (by decide +kernel : ∀ t : Fin grid0.N, win0_2.index t = ![0]) t

theorem place3 (t : Fin cfg0.N) : win0_3.index t = ![0, 0] :=
  (by decide +kernel : ∀ t : Fin grid0.N, win0_3.index t = ![0, 0]) t

theorem place4 (t : Fin cfg0.N) : win0_4.index t = ![0, 0] :=
  (by decide +kernel : ∀ t : Fin grid0.N, win0_4.index t = ![0, 0]) t

theorem place5 (t : Fin cfg0.N) : win0_5.index t = ![0, 0] :=
  (by decide +kernel : ∀ t : Fin grid0.N, win0_5.index t = ![0, 0]) t

theorem place6 (t : Fin cfg0.N) : win0_6.index t = ![0] :=
  (by decide +kernel : ∀ t : Fin grid0.N, win0_6.index t = ![0]) t

theorem place7 (t : Fin cfg0.N) : win0_7.index t = ![(grid0.coords t 0).val, (grid0.coords t 1).val, 0] :=
  (by decide +kernel : ∀ t : Fin grid0.N, win0_7.index t = ![(grid0.coords t 0).val, (grid0.coords t 1).val, 0]) t

theorem place8 (t : Fin cfg0.N) : win0_8.index t = ![(grid0.coords t 0).val, 0, 0] :=
  (by decide +kernel : ∀ t : Fin grid0.N, win0_8.index t = ![(grid0.coords t 0).val, 0, 0]) t

theorem place9 (t : Fin cfg0.N) : win0_9.index t = ![(grid0.coords t 0).val, 0, 0] :=
  (by decide +kernel : ∀ t : Fin grid0.N, win0_9.index t = ![(grid0.coords t 0).val, 0, 0]) t

theorem place10 (t : Fin cfg0.N) : win0_10.index t = ![(grid0.coords t 0).val, 0, 0] :=
  (by decide +kernel : ∀ t : Fin grid0.N, win0_10.index t = ![(grid0.coords t 0).val, 0, 0]) t

theorem place11 (t : Fin cfg0.N) : win0_11.index t = ![(grid0.coords t 0).val, 0, 0] :=
  (by decide +kernel : ∀ t : Fin grid0.N, win0_11.index t = ![(grid0.coords t 0).val, 0, 0]) t

theorem place12 (t : Fin cfg0.N) : win0_12.index t = ![(grid0.coords t 0).val, 0, (grid0.coords t 1).val] :=
  (by decide +kernel : ∀ t : Fin grid0.N, win0_12.index t = ![(grid0.coords t 0).val, 0, (grid0.coords t 1).val]) t

theorem place13 (t : Fin cfg0.N) : win0_13.index t = ![0, (grid0.coords t 1).val] :=
  (by decide +kernel : ∀ t : Fin grid0.N, win0_13.index t = ![0, (grid0.coords t 1).val]) t

theorem place14 (t : Fin cfg0.N) : win0_14.index t = ![(grid0.coords t 0).val, (grid0.coords t 1).val, 0] :=
  (by decide +kernel : ∀ t : Fin grid0.N, win0_14.index t = ![(grid0.coords t 0).val, (grid0.coords t 1).val, 0]) t

/-! ## The blocks -/

theorem block0 (c : Dev nD) (t : Fin cfg0.N) : iblk m c 0 t = V m c main_v138 := by
  funext y
  unfold iblk
  rw [View.read_apply]
  refine congrArg (V m c main_v138) ?_
  blk_ext [place0]

theorem block1 (c : Dev nD) (t : Fin cfg0.N) : iblk m c 1 t = V m c main_v145 := by
  funext y
  unfold iblk
  rw [View.read_apply]
  refine congrArg (V m c main_v145) ?_
  blk_ext [place1]

theorem block2 (c : Dev nD) (t : Fin cfg0.N) : iblk m c 2 t = V m c main_v15 := by
  funext y
  blk_ext [iblk, place2]

theorem block3 (c : Dev nD) (t : Fin cfg0.N) : iblk m c 3 t = V m c main_v59 := by
  funext y
  blk_ext [iblk, place3]

theorem block4 (c : Dev nD) (t : Fin cfg0.N) : iblk m c 4 t = V m c main_v63 := by
  funext y
  blk_ext [iblk, place4]

theorem block5 (c : Dev nD) (t : Fin cfg0.N) : iblk m c 5 t = V m c main_v67 := by
  funext y
  blk_ext [iblk, place5]

theorem block6 (c : Dev nD) (t : Fin cfg0.N) : iblk m c 6 t = V m c main_v163 := by
  funext y
  blk_ext [iblk, place6]

/-- The head of query head `e` of group `g`, and the position of row `j` of block `b`. -/
def headOf (g : Fin 8) (e : Fin 5) : Fin 40 := ⟨5 * g.val + e.val, by omega⟩
def rowOf (b : Fin 64) (j : Fin 256) : Fin 16384 := ⟨256 * b.val + j.val, by omega⟩
def gOf (t : Fin cfg0.N) : Fin 8 := grid0.coords t 0
def bOf (t : Fin cfg0.N) : Fin 64 := grid0.coords t 1

theorem block7_apply (c : Dev nD) (t : Fin cfg0.N) (e : Fin 5) (j : Fin 256) (d : Fin 96) : iblk m c 7 t (ix3 e j d) = V m c main_arg0 (ix4 0 (rowOf (bOf t) j) (headOf (gOf t) e) d) := by
  rw [← V147_apply]
  blk_ext [iblk, place7, headOf, rowOf, gOf, bOf]

theorem block8_apply (c : Dev nD) (t : Fin cfg0.N) (j : Fin 16384) (d : Fin 96) : iblk m c 8 t (ix3 0 j d) = V m c main_arg2 (ix4 0 j (gOf t) d) := by
  rw [← V149_apply]
  blk_ext [iblk, place8, headOf, rowOf, gOf, bOf]

theorem block9_apply (c : Dev nD) (t : Fin cfg0.N) (d : Fin 96) (j : Fin 16384) : iblk m c 9 t (ix3 0 d j) = V m c main_arg4 (ix4 0 j (gOf t) d) := by
  rw [← V151_apply]
  blk_ext [iblk, place9, headOf, rowOf, gOf, bOf]

theorem block10_apply (c : Dev nD) (t : Fin cfg0.N) (j : Fin 16384) : iblk m c 10 t (ix3 0 0 j) = V m c main_arg5 (ix3 0 j (gOf t)) := by
  rw [← V154_apply]
  blk_ext [iblk, place10, headOf, rowOf, gOf, bOf]

theorem block11_apply (c : Dev nD) (t : Fin cfg0.N) (j : Fin 16384) (l : Fin 128) : iblk m c 11 t (ix3 0 j l) = V m c main_arg3 (ix3 0 j (gOf t)) := by
  rw [← V158_apply m c (gOf t) j l]
  blk_ext [iblk, place11, headOf, rowOf, gOf, bOf]

theorem block12_apply (c : Dev nD) (t : Fin cfg0.N) (e : Fin 5) (j : Fin 256) : iblk m c 12 t (ix3 e 0 j) = V m c main_arg1 (ix3 0 (rowOf (bOf t) j) (headOf (gOf t) e)) := by
  rw [← V161_apply]
  blk_ext [iblk, place12, headOf, rowOf, gOf, bOf]

theorem block13_apply (c : Dev nD) (t : Fin cfg0.N) (j : Fin 256) : iblk m c 13 t (ix2 0 j) = V m c main_v75 (ix1 (rowOf (bOf t) j)) := by
  rw [← V162_apply]
  blk_ext [iblk, place13, headOf, rowOf, gOf, bOf]

theorem covers14 : (cfg0.win 14).Covers := by decide +kernel

end Cert.Proof.KernelIdeal

end
-- ==== Proof.KernelIdeal.Out.lean ====
module

public import proofs.«01_k».proof.Proof.Gen.KernelIdeal.Loops
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import proofs.«01_k».proof.Proof.KernelIdeal.Chk
public import proofs.«01_k».proof.Proof.KernelIdeal.Loop
public import proofs.«01_k».proof.Proof.KernelIdeal.Hinge
public import proofs.«01_k».proof.Proof.KernelIdeal.Regroup
public import proofs.«01_k».proof.Proof.KernelIdeal.Walk
public import proofs.«01_k».proof.Proof.KernelIdeal.Heads
public import proofs.«01_k».proof.Proof.KernelIdeal.ReadBack
public import proofs.«01_k».proof.Proof.KernelIdeal.Payload
public import proofs.«01_k».proof.Proof.Math.Softmax
public import Idealize.ShloMosaic.Lib.Pointwise
public import Idealize.ShloMosaic.Lib.WritesUnit
public import Idealize.ShloMosaic.Lib.VecWindow
public import Idealize.ShloMosaic.Lib.WholeRead
public import Idealize.ShloMosaic.Lib.IdealHost
public import Idealize.ShloMosaic.Lib.Pipeline.ValueKit.Tiles
@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

/-! The output block, element by element: the weighted sum over the sum. -/

/-- Column `96 e + d` of the output. -/
def col480 (e : Fin 5) (d : Fin 96) : Fin 480 := ⟨96 * e.val + d.val, by omega⟩

def outList (P : Fin 5 → FVec Ideal S1x256x96 .bf16) : List (View.Piece (Elt Ideal) S1x256x480 .bf16) :=
  [⟨Rect.unit (s := S1x256x480) ![0, 0, 384] ![1, 256, 96] inb_S1x256x480_S1x256x96_0_0_384, P 4⟩, ⟨Rect.unit (s := S1x256x480) ![0, 0, 288] ![1, 256, 96] inb_S1x256x480_S1x256x96_0_0_288, P 3⟩, ⟨Rect.unit (s := S1x256x480) ![0, 0, 192] ![1, 256, 96] inb_S1x256x480_S1x256x96_0_0_192, P 2⟩, ⟨Rect.unit (s := S1x256x480) ![0, 0, 96] ![1, 256, 96] inb_S1x256x480_S1x256x96_0_0_96, P 1⟩, ⟨Rect.unit (s := S1x256x480) ![0, 0, 0] ![1, 256, 96] inb_S1x256x480_S1x256x96_0_0_0, P 0⟩]

/-- The element of `outList` at an index, by the head its column lies in. -/
def outAt (P : Fin 5 → FVec Ideal S1x256x96 .bf16) (y : S1x256x480.Idx) : EReal :=
  P ⟨(y 2).val / 96, by have : (y 2).val < 480 := (y 2).isLt; omega⟩ (ix3 0 (y 1) ⟨(y 2).val % 96, Nat.mod_lt _ (by decide)⟩)

theorem outAt_of (P : Fin 5 → FVec Ideal S1x256x96 .bf16) (y : S1x256x480.Idx) (h : Fin 5) (x : S1x256x96.Idx)
    (h1 : (y 1).val = (x 1).val) (h2 : (y 2).val = 96 * h.val + (x 2).val) : outAt P y = P h x := by
  have hx0 : (x 0).val < 1 := (x 0).isLt
  have hx2 : (x 2).val < 96 := (x 2).isLt
  have hy : (y 2).val < 480 := (y 2).isLt
  have e1 : (⟨(y 2).val / 96, by omega⟩ : Fin 5) = h := Fin.ext (by show (y 2).val / 96 = _; omega)
  have e2 : (ix3 (0 : Fin 1) (y 1 : Fin 256) (⟨(y 2).val % 96, Nat.mod_lt _ (by decide)⟩ : Fin 96) : S1x256x96.Idx) = x := by
    funext a
    match a with
    | ⟨0, _⟩ => exact Fin.ext (by show 0 = (x 0).val; omega)
    | ⟨1, _⟩ => exact Fin.ext h1
    | ⟨2, _⟩ => exact Fin.ext (by show (y 2).val % 96 = (x 2).val; omega)
  unfold outAt
  rw [e1]
  exact congrArg (P h) e2

theorem canon_outList (P : Fin 5 → FVec Ideal S1x256x96 .bf16) (e : Fin 5) (j : Fin 256) (d : Fin 96) :
    View.canon (outList P) (ix3 0 j (col480 e d)) = P e (ix3 0 j d) := by
  refine (View.canon_apply_of_pieces (Val := Elt Ideal) (outAt P) (outList P) ?_ _ (View.cover_of_tiled _ ![1, 256, 96] (by rfl) _)).trans ?_
  · intro p hp
    unfold outList at hp
    simp only [List.mem_cons, List.not_mem_nil, or_false] at hp
    rcases hp with rfl | rfl | rfl | rfl | rfl
    · exact fun x => (outAt_of P ((Rect.unit (s := S1x256x480) ![0, 0, 384] ![1, 256, 96] inb_S1x256x480_S1x256x96_0_0_384).idx x) 4 x ((Rect.idx_unit_val _ _ inb_S1x256x480_S1x256x96_0_0_384 x 1).trans (Nat.zero_add _)) (Rect.idx_unit_val _ _ inb_S1x256x480_S1x256x96_0_0_384 x 2)).symm
    · exact fun x => (outAt_of P ((Rect.unit (s := S1x256x480) ![0, 0, 288] ![1, 256, 96] inb_S1x256x480_S1x256x96_0_0_288).idx x) 3 x ((Rect.idx_unit_val _ _ inb_S1x256x480_S1x256x96_0_0_288 x 1).trans (Nat.zero_add _)) (Rect.idx_unit_val _ _ inb_S1x256x480_S1x256x96_0_0_288 x 2)).symm
    · exact fun x => (outAt_of P ((Rect.unit (s := S1x256x480) ![0, 0, 192] ![1, 256, 96] inb_S1x256x480_S1x256x96_0_0_192).idx x) 2 x ((Rect.idx_unit_val _ _ inb_S1x256x480_S1x256x96_0_0_192 x 1).trans (Nat.zero_add _)) (Rect.idx_unit_val _ _ inb_S1x256x480_S1x256x96_0_0_192 x 2)).symm
    · exact fun x => (outAt_of P ((Rect.unit (s := S1x256x480) ![0, 0, 96] ![1, 256, 96] inb_S1x256x480_S1x256x96_0_0_96).idx x) 1 x ((Rect.idx_unit_val _ _ inb_S1x256x480_S1x256x96_0_0_96 x 1).trans (Nat.zero_add _)) (Rect.idx_unit_val _ _ inb_S1x256x480_S1x256x96_0_0_96 x 2)).symm
    · exact fun x => (outAt_of P ((Rect.unit (s := S1x256x480) ![0, 0, 0] ![1, 256, 96] inb_S1x256x480_S1x256x96_0_0_0).idx x) 0 x ((Rect.idx_unit_val _ _ inb_S1x256x480_S1x256x96_0_0_0 x 1).trans (Nat.zero_add _)) (Rect.idx_unit_val _ _ inb_S1x256x480_S1x256x96_0_0_0 x 2)).symm
  · exact outAt_of P _ e _ rfl rfl

set_option maxHeartbeats 0 in
theorem block_value (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec Ideal S64x64 .i32) (X3 : Vec Ideal S64x64 .i32) (X4 : Vec Ideal S32 .f32) (X5 : Vec Ideal S33x40 .f32) (X6 : Vec Ideal S33x40 .f32) (X7 : Vec Ideal S32x40 .f32) (X8 : Vec Ideal S1 .f32) (X9 : Vec Ideal S5x256x96 .fp8e4m3) (X10 : Vec Ideal S1x16384x96 .fp8e4m3) (X11 : Vec Ideal S1x96x16384 .fp8e4m3) (X12 : Vec Ideal S1x1x16384 .f32) (X13 : Vec Ideal S1x16384x128 .f32) (X14 : Vec Ideal S5x1x256 .f32) (X15 : Vec Ideal S1x256 .f32)
    (hX2 : ∀ j, BitVec.toNat (w := 32) (X2 j) ≤ 32) (hX3 : ∀ j, BitVec.toNat (w := 32) (X3 j) ≤ 32) (e : Fin 5) (j : Fin 256) (d : Fin 96) :
    outBlock (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 (ix3 0 j (col480 e d))
      = Ideal.div ((View.readAt (Elt Ideal) arg19.view (part19 e).toLoadRect (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 (k0_t1_loop i).trips).2.2) (ix3 0 d j)) ((View.readAt (Elt Ideal) arg18.view (part17 e).toLoadRect (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 (k0_t1_loop i).trips).2.1) (ix3 0 0 j)) := by
  refine (canon_outList (fun h => k0_pay142 (F := Ideal) (k0_pay141 (View.readAt (Elt Ideal) arg19.view (part19 h).toLoadRect (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 (k0_t1_loop i).trips).2.2)) (View.readAt (Elt Ideal) arg18.view (part17 h).toLoadRect (carried (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 (k0_t1_loop i).trips).2.1)) e j d).trans ?_
  exact out_apply _ _ j d

end Cert.Proof.KernelIdeal

end
-- ==== Proof.KernelIdeal.Target.lean ====
module

public import proofs.«01_k».proof.Proof.KernelIdeal.Keys
public import proofs.«01_k».proof.Proof.KernelIdeal.Operands
public import proofs.«01_k».proof.Proof.KernelIdeal.Out
public import proofs.«01_k».proof.Proof.KernelIdeal.Segment
@[expose] public section

/-! What a block of the kernel's result holds: for each query and head the quotient of the softmax over the keys that are not after the
    query. -/

set_option maxRecDepth 8192

noncomputable section

namespace Cert.Proof.KernelIdeal

open Cert.KernelIdeal Cert.KernelIdeal.Gen
open Idealize.ShloMosaic Idealize.ShloMosaic.TcCoe Idealize.ShloMosaic.Tactic
open Cert.Proof.Math

variable (m : (ℓ : Loc nD τ sig) → Buf (Elt Ideal) ℓ)

/-- The query codes, and so on, as extended reals. -/
def hq (c : Dev nD) (i : Fin 16384) (h : Fin 40) (d : Fin 96) : EReal := V m c main_arg0 (ix4 0 i h d)
def hqs (c : Dev nD) (i : Fin 16384) (h : Fin 40) : EReal := V m c main_arg1 (ix3 0 i h)
def hk (c : Dev nD) (j : Fin 16384) (g : Fin 8) (d : Fin 96) : EReal := V m c main_arg2 (ix4 0 j g d)
def hks (c : Dev nD) (j : Fin 16384) (g : Fin 8) : EReal := V m c main_arg3 (ix3 0 j g)
def hv (c : Dev nD) (j : Fin 16384) (g : Fin 8) (d : Fin 96) : EReal := V m c main_arg4 (ix4 0 j g d)
def hvs (c : Dev nD) (j : Fin 16384) (g : Fin 8) : EReal := V m c main_arg5 (ix3 0 j g)

/-- The bias of the key at `j` for the query at `i` and head `h`. -/
def netBias (w : Fin 32 → ℝ) (b : Fin 32 → EReal) (v : Fin 32 → Fin 40 → ℝ) (c0 L0 : ℝ) (i j : Fin 16384) (h : Fin 40) : EReal :=
  ∑ n, max (((dist c0 L0 (i.val : ℝ) (j.val : ℝ) : ℝ) : EReal) * (w n : EReal) + b n) 0 * (v n h : EReal)

/-- The score of the key at `j` for the query at `i`. -/
def score (c : Dev nD) (w : Fin 32 → ℝ) (b : Fin 32 → EReal) (v : Fin 32 → Fin 40 → ℝ) (c0 L0 : ℝ) (g : Fin 8) (e : Fin 5) (i j : Fin 16384) : EReal :=
  if i.val < j.val then ⊥
  else (∑ d : Fin 96, hq m c i (headOf g e) d * hk m c j g d) * hqs m c i (headOf g e) * hks m c j g * (((Real.sqrt 96)⁻¹ : ℝ) : EReal)
    + netBias w b v c0 L0 i j (headOf g e)

/-- The attention's result. -/
def attend (c : Dev nD) (w : Fin 32 → ℝ) (b : Fin 32 → EReal) (v : Fin 32 → Fin 40 → ℝ) (c0 L0 : ℝ) (g : Fin 8) (e : Fin 5) (i : Fin 16384) (d : Fin 96) : EReal :=
  Ideal.div
    (∑ j, (hv m c j g d * hvs m c j g) * Ideal.exp (score m c w b v c0 L0 g e i j - Finset.univ.sup (score m c w b v c0 L0 g e i)))
    (∑ j, Ideal.exp (score m c w b v c0 L0 g e i j - Finset.univ.sup (score m c w b v c0 L0 g e i)))

theorem base_two (A a s B : EReal) (r1 r2 : ℝ) (h2 : 0 ≤ r2) :
    A * s * (a * ((r1 * r2 : ℝ) : EReal)) + B * (r2 : EReal) = (A * a * s * (r1 : EReal) + B) * (r2 : EReal) := by
  rw [EReal.right_distrib_of_nonneg_of_ne_top (by exact_mod_cast h2) (EReal.coe_ne_top _), EReal.coe_mul]
  congr 1
  ac_rfl

theorem start_coe : ∃ r : ℝ, start = (r : EReal) := by
  unfold start
  simp only [Ideal.ofBits, Ideal.ieee]
  rw [if_neg (by decide), if_neg (by decide), if_pos (by decide)]
  exact ⟨_, rfl⟩

theorem keyScore_eq (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec Ideal S64x64 .i32) (X3 : Vec Ideal S64x64 .i32) (X4 : Vec Ideal S32 .f32) (X5 : Vec Ideal S33x40 .f32) (X6 : Vec Ideal S33x40 .f32) (X7 : Vec Ideal S32x40 .f32) (X8 : Vec Ideal S1 .f32) (X9 : Vec Ideal S5x256x96 .fp8e4m3) (X10 : Vec Ideal S1x16384x96 .fp8e4m3) (X11 : Vec Ideal S1x96x16384 .fp8e4m3) (X12 : Vec Ideal S1x1x16384 .f32) (X13 : Vec Ideal S1x16384x128 .f32) (X14 : Vec Ideal S5x1x256 .f32) (X15 : Vec Ideal S1x256 .f32)
    (hX2 : ∀ j, BitVec.toNat (w := 32) (X2 j) ≤ 32) (hX3 : ∀ j, BitVec.toNat (w := 32) (X3 j) ≤ 32)
    {w : Fin 32 → ℝ} {b : Fin 32 → EReal} {v : Fin 32 → Fin 40 → ℝ} {c0 L0 : ℝ} (H : Finite m c w b v c0 L0) (h2 : X2 = V m c main_v138) (h3 : X3 = V m c main_v145) (h4 : X4 = V m c main_v15) (h5 : X5 = V m c main_v59)
    (h6 : X6 = V m c main_v63) (h7 : X7 = V m c main_v67) (h8 : X8 (ix1 0) = hc m c)
    (h9 : ∀ e j d, X9 (ix3 e j d) = hq m c (rowOf (i 1) j) (headOf (i 0) e) d) (h10 : ∀ j d, X10 (ix3 0 j d) = hk m c j (i 0) d)
    (h11 : ∀ d j, X11 (ix3 0 d j) = hv m c j (i 0) d) (h12 : ∀ j, X12 (ix3 0 0 j) = hvs m c j (i 0)) (h13 : ∀ j l, X13 (ix3 0 j l) = hks m c j (i 0))
    (h14 : ∀ e j, X14 (ix3 e 0 j) = hqs m c (rowOf (i 1) j) (headOf (i 0) e)) (h15 : ∀ j, X15 (ix2 0 j) = V m c main_v75 (ix1 (rowOf (i 1) j)))
    (e : Fin 5) (j : Fin 256) (k : ℕ) (hk : k < (k0_t1_loop i).trips) (r : Fin 256) :
    keyScore c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 e j (256 * k + r.val)
      = score m c w b v c0 L0 (i 0) e (rowOf (i 1) j) (key k r.val (trip_lt i ⟨k, hk⟩) r.isLt) * (((Real.log 2)⁻¹ : ℝ) : EReal) := by
  have hlog : 0 < (Real.log 2)⁻¹ := inv_pos.mpr (Real.log_pos (by norm_num))
  have hk64 : k < 64 := trip_lt i ⟨k, hk⟩
  have hb64 : (i 1).val < 64 := (i 1).isLt
  rw [keyScore_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 e j k hk r]
  unfold score
  show (if 256 * (i 1).val + j.val < 256 * k + r.val then _ else _) = (if 256 * (i 1).val + j.val < 256 * k + r.val then _ else _) * _
  by_cases hlt : 256 * (i 1).val + j.val < 256 * k + r.val
  · rw [if_pos hlt, if_pos hlt, EReal.bot_mul_coe_of_pos hlog]
  · rw [if_neg hlt, if_neg hlt, ← base_two _ _ _ _ _ _ hlog.le]
    have hcell : cell64 (i 1).val k = ix2 (⟨(i 1).val, hb64⟩ : Fin 64) (⟨k, hk64⟩ : Fin 64) := (eq_cell64 (ix2 (⟨(i 1).val, hb64⟩ : Fin 64) (⟨k, hk64⟩ : Fin 64)) _ _ rfl rfl hb64 hk64).symm
    have hhead : (i 0).val * 5 + e.val = (headOf (i 0) e).val := by show _ = 5 * (i 0).val + e.val; omega
    subst h2 h3 h4 h5 h6 h7
    have hbias := bias_cell H (⟨(i 1).val, hb64⟩ : Fin 64) (⟨k, hk64⟩ : Fin 64) (((256 * (i 1).val + j.val : ℕ) : ℝ)) (((256 * k + r.val : ℕ) : ℝ))
      (Nat.cast_le.mpr (Nat.le_add_right _ _)) (Nat.cast_le.mpr (Nat.add_le_add_left (Nat.le_of_lt_succ j.isLt) _))
      (Nat.cast_le.mpr (Nat.le_add_right _ _)) (Nat.cast_le.mpr (Nat.add_le_add_left (Nat.le_of_lt_succ r.isLt) _)) (headOf (i 0) e)
    refine congrArg₂ (fun x y : EReal => x + y) (congrArg₂ (fun x y : EReal => x * y) (congrArg₂ (fun x y : EReal => x * y)
      (Finset.sum_congr rfl fun d _ => ?_) (h13 _ 0)) (congrArg (fun x : EReal => x * _) (h14 e j))) (congrArg (fun x : EReal => x * _) ?_)
    · rw [h10, h9]; exact mul_comm _ _
    · rw [h8, h15, dist_coe H (rowOf (i 1) j) (((256 * (i 1).val + j.val : ℕ) : ℝ)) (((256 * k + r.val : ℕ) : ℝ)) rfl, hcell, hhead]
      exact hbias

theorem keyValue_eq (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec Ideal S64x64 .i32) (X3 : Vec Ideal S64x64 .i32) (X4 : Vec Ideal S32 .f32) (X5 : Vec Ideal S33x40 .f32) (X6 : Vec Ideal S33x40 .f32) (X7 : Vec Ideal S32x40 .f32) (X8 : Vec Ideal S1 .f32) (X9 : Vec Ideal S5x256x96 .fp8e4m3) (X10 : Vec Ideal S1x16384x96 .fp8e4m3) (X11 : Vec Ideal S1x96x16384 .fp8e4m3) (X12 : Vec Ideal S1x1x16384 .f32) (X13 : Vec Ideal S1x16384x128 .f32) (X14 : Vec Ideal S5x1x256 .f32) (X15 : Vec Ideal S1x256 .f32)
    (hX2 : ∀ j, BitVec.toNat (w := 32) (X2 j) ≤ 32) (hX3 : ∀ j, BitVec.toNat (w := 32) (X3 j) ≤ 32)
    (h2 : X2 = V m c main_v138) (h3 : X3 = V m c main_v145) (h4 : X4 = V m c main_v15) (h5 : X5 = V m c main_v59)
    (h6 : X6 = V m c main_v63) (h7 : X7 = V m c main_v67) (h8 : X8 (ix1 0) = hc m c)
    (h9 : ∀ e j d, X9 (ix3 e j d) = hq m c (rowOf (i 1) j) (headOf (i 0) e) d) (h10 : ∀ j d, X10 (ix3 0 j d) = hk m c j (i 0) d)
    (h11 : ∀ d j, X11 (ix3 0 d j) = hv m c j (i 0) d) (h12 : ∀ j, X12 (ix3 0 0 j) = hvs m c j (i 0)) (h13 : ∀ j l, X13 (ix3 0 j l) = hks m c j (i 0))
    (h14 : ∀ e j, X14 (ix3 e 0 j) = hqs m c (rowOf (i 1) j) (headOf (i 0) e)) (h15 : ∀ j, X15 (ix2 0 j) = V m c main_v75 (ix1 (rowOf (i 1) j)))
    (d : Fin 96) (k : ℕ) (hk : k < (k0_t1_loop i).trips) (r : Fin 256) :
    keyValue c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 d (256 * k + r.val)
      = hv m c (key k r.val (trip_lt i ⟨k, hk⟩) r.isLt) (i 0) d * hvs m c (key k r.val (trip_lt i ⟨k, hk⟩) r.isLt) (i 0) := by
  rw [keyValue_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 d k hk r, h11, h12]

theorem block_attend (c : Dev nD) (i : grid0.Coords) (arg2 : Memref sig .tc .smem S64x64 .i32) (harg2 : arg2.IsWhole) (arg3 : Memref sig .tc .smem S64x64 .i32) (harg3 : arg3.IsWhole) (arg4 : Memref sig .tc .smem S32 .f32) (harg4 : arg4.IsWhole) (arg5 : Memref sig .tc .smem S33x40 .f32) (harg5 : arg5.IsWhole) (arg6 : Memref sig .tc .smem S33x40 .f32) (harg6 : arg6.IsWhole) (arg7 : Memref sig .tc .smem S32x40 .f32) (harg7 : arg7.IsWhole) (arg8 : Memref sig .tc .smem S1 .f32) (harg8 : arg8.IsWhole) (arg9 : Memref sig .tc .vmem S5x256x96 .fp8e4m3) (harg9 : arg9.IsWhole) (arg10 : Memref sig .tc .vmem S1x16384x96 .fp8e4m3) (harg10 : arg10.IsWhole) (arg11 : Memref sig .tc .vmem S1x96x16384 .fp8e4m3) (harg11 : arg11.IsWhole) (arg12 : Memref sig .tc .vmem S1x1x16384 .f32) (harg12 : arg12.IsWhole) (arg13 : Memref sig .tc .vmem S1x16384x128 .f32) (harg13 : arg13.IsWhole) (arg14 : Memref sig .tc .vmem S5x1x256 .f32) (harg14 : arg14.IsWhole) (arg15 : Memref sig .tc .vmem S1x256 .f32) (harg15 : arg15.IsWhole) (arg16 : Memref sig .tc .vmem S1x256x480 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x96x256 .f32) (harg19 : arg19.IsWhole) (arg20 : Memref sig .tc .vmem S256x256 .f32) (harg20 : arg20.IsWhole) (X2 : Vec Ideal S64x64 .i32) (X3 : Vec Ideal S64x64 .i32) (X4 : Vec Ideal S32 .f32) (X5 : Vec Ideal S33x40 .f32) (X6 : Vec Ideal S33x40 .f32) (X7 : Vec Ideal S32x40 .f32) (X8 : Vec Ideal S1 .f32) (X9 : Vec Ideal S5x256x96 .fp8e4m3) (X10 : Vec Ideal S1x16384x96 .fp8e4m3) (X11 : Vec Ideal S1x96x16384 .fp8e4m3) (X12 : Vec Ideal S1x1x16384 .f32) (X13 : Vec Ideal S1x16384x128 .f32) (X14 : Vec Ideal S5x1x256 .f32) (X15 : Vec Ideal S1x256 .f32)
    (hX2 : ∀ j, BitVec.toNat (w := 32) (X2 j) ≤ 32) (hX3 : ∀ j, BitVec.toNat (w := 32) (X3 j) ≤ 32)
    {w : Fin 32 → ℝ} {b : Fin 32 → EReal} {v : Fin 32 → Fin 40 → ℝ} {c0 L0 : ℝ} (H : Finite m c w b v c0 L0) (h2 : X2 = V m c main_v138) (h3 : X3 = V m c main_v145) (h4 : X4 = V m c main_v15) (h5 : X5 = V m c main_v59)
    (h6 : X6 = V m c main_v63) (h7 : X7 = V m c main_v67) (h8 : X8 (ix1 0) = hc m c)
    (h9 : ∀ e j d, X9 (ix3 e j d) = hq m c (rowOf (i 1) j) (headOf (i 0) e) d) (h10 : ∀ j d, X10 (ix3 0 j d) = hk m c j (i 0) d)
    (h11 : ∀ d j, X11 (ix3 0 d j) = hv m c j (i 0) d) (h12 : ∀ j, X12 (ix3 0 0 j) = hvs m c j (i 0)) (h13 : ∀ j l, X13 (ix3 0 j l) = hks m c j (i 0))
    (h14 : ∀ e j, X14 (ix3 e 0 j) = hqs m c (rowOf (i 1) j) (headOf (i 0) e)) (h15 : ∀ j, X15 (ix2 0 j) = V m c main_v75 (ix1 (rowOf (i 1) j)))
    (e : Fin 5) (j : Fin 256) (d : Fin 96) :
    outBlock (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 (ix3 0 j (col480 e d)) = attend m c w b v c0 L0 (i 0) e (rowOf (i 1) j) d := by
  rw [block_value c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 e j d]
  obtain ⟨r0, hr0⟩ := start_coe
  have hw := walk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 e j d (by rw [hr0]; exact EReal.coe_ne_bot _) (k0_t1_loop i).trips le_rfl
  rw [hr0] at hw
  have hT := trips_eq i
  have hb64 : (i 1).val < 64 := (i 1).isLt
  have split : ∀ j' : Fin 16384, j'.val < 256 * (k0_t1_loop i).trips → ∃ (k : ℕ) (hk : k < (k0_t1_loop i).trips) (r : Fin 256),
      j'.val = 256 * k + r.val ∧ key k r.val (trip_lt i ⟨k, hk⟩) r.isLt = j' := fun j' hj' =>
    ⟨j'.val / 256, by omega, ⟨j'.val % 256, Nat.mod_lt _ (by norm_num)⟩, by show j'.val = 256 * (j'.val / 256) + j'.val % 256; omega,
      Fin.ext (by show 256 * (j'.val / 256) + j'.val % 256 = j'.val; omega)⟩
  refine Running.quotient (n := 16384) (N := 256 * (k0_t1_loop i).trips) (by rw [hT]; omega) (by norm_num)
    (score m c w b v c0 L0 (i 0) e (rowOf (i 1) j)) (fun j' => hv m c j' (i 0) d * hvs m c j' (i 0)) _ _ ?_ ?_ ?_ r0 hw
  · intro j' hj'
    obtain ⟨k, hk, r, h1, hkey⟩ := split j' hj'
    rw [h1, keyScore_eq m c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 H h2 h3 h4 h5 h6 h7 h8 h9 h10 h11 h12 h13 h14 h15 e j k hk r, hkey]
  · intro j' hj'
    obtain ⟨k, hk, r, h1, hkey⟩ := split j' hj'
    rw [h1, keyValue_eq m c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 hX2 hX3 h2 h3 h4 h5 h6 h7 h8 h9 h10 h11 h12 h13 h14 h15 d k hk r, hkey]
  · intro j' hj'
    unfold score
    rw [if_pos]
    show 256 * (i 1).val + j.val < j'.val
    have := j.isLt
    omega

end Cert.Proof.KernelIdeal

end
-- ==== Proof.KernelIdeal.Result.lean ====
module

public import proofs.«01_k».proof.Proof.KernelIdeal.Target
@[expose] public section

/-! The kernel's result, as an array. -/

set_option maxRecDepth 8192

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ)

/-- The attention's result at an index of the output. -/
def attendArr (c : Dev nD) (w : Fin 32 → ℝ) (b : Fin 32 → EReal) (v : Fin 32 → Fin 40 → ℝ) (c0 L0 : ℝ) : Vec Ideal S8x16384x480 .bf16 := fun x =>
  attend m c w b v c0 L0 (x 0) ⟨(x 2).val / 96, by have : (x 2).val < 480 := (x 2).isLt; omega⟩ (x 1) ⟨(x 2).val % 96, Nat.mod_lt _ (by norm_num)⟩

theorem attendArr_apply (c : Dev nD) (w : Fin 32 → ℝ) (b : Fin 32 → EReal) (v : Fin 32 → Fin 40 → ℝ) (c0 L0 : ℝ) (g : Fin 8) (i : Fin 16384) (e : Fin 5) (d : Fin 96) :
    attendArr m c w b v c0 L0 (ix3 g i (col480 e d)) = attend m c w b v c0 L0 g e i d := by
  exact congrArg₂ (fun e' d' => attend m c w b v c0 L0 g e' i d') (Fin.ext (by show (96 * e.val + d.val) / 96 = e.val; omega))
    (Fin.ext (by show (96 * e.val + d.val) % 96 = d.val; omega))

theorem exists_col (x : Fin 480) : ∃ e d, x = col480 e d :=
  ⟨⟨x.val / 96, by omega⟩, ⟨x.val % 96, Nat.mod_lt _ (by norm_num)⟩, Fin.ext (by show x.val = 96 * (x.val / 96) + x.val % 96; omega)⟩

theorem after_attend {c : Dev nD} {w : Fin 32 → ℝ} {b : Fin 32 → EReal} {v : Fin 32 → Fin 40 → ℝ} {c0 L0 : ℝ} (H : Finite m c w b v c0 L0) (t : Fin cfg0.N)
    (e : Fin 5) (j : Fin 256) (d : Fin 96) :
    @Eq EReal ((dats m 0 c).after 14 t (ix3 0 j (col480 e d))) (attend m c w b v c0 L0 (gOf t) e (rowOf (bOf t) j) d) := by
  rw [after0_14]
  exact block_attend m c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk0_le m c t) (iblk1_le m c t) H (block0 m c t) (block1 m c t) (block2 m c t) (block3 m c t) (block4 m c t) (block5 m c t)
    ((congrFun (block6 m c t) (ix1 0)).trans (V163_apply m c))
    (fun e j d => block7_apply m c t e j d) (fun j d => block8_apply m c t j d) (fun d j => block9_apply m c t d j) (fun j => block10_apply m c t j)
    (fun j l => block11_apply m c t j l) (fun e j => block12_apply m c t e j) (fun j => block13_apply m c t j) e j d

theorem out_eq_attend {c : Dev nD} {w : Fin 32 → ℝ} {b : Fin 32 → EReal} {v : Fin 32 → Fin 40 → ℝ} {c0 L0 : ℝ} (H : Finite m c w b v c0 L0) :
    (dats m 0 c).arrAt 14 cfg0.N = attendArr m c w b v c0 L0 := by
  refine (dats m 0 c).arrAt_eq_of_covers 14 _ covers14 fun t hf y => ?_
  blk_simp
  obtain ⟨e, d, hed⟩ := exists_col (y 2)
  have hy : (y : S1x256x480.Idx) = ix3 0 (y 1) (col480 e d) := by
    rw [← hed]
    funext a
    match a with
    | ⟨0, _⟩ => exact Subsingleton.elim (α := Fin 1) _ _
    | ⟨1, _⟩ => rfl
    | ⟨2, _⟩ => rfl
  rw [show y = (ix3 0 (y 1) (col480 e d) : S1x256x480.Idx) from hy]
  refine (after_attend m H t e (y 1) d).trans ?_
  rw [← attendArr_apply]
  refine congrArg (attendArr m c w b v c0 L0) ?_
  blk_ext [place14, gOf, bOf, rowOf]

end Cert.Proof.KernelIdeal

end
-- ==== Proof.ReferenceIdeal.Payload.lean ====
module

public import proofs.«01_k».proof.Proof.Gen.ReferenceIdeal.Frame
public import Idealize.ShloMosaic.Lib.LoopRemainder
public import Idealize.ShloMosaic.Lib.Pipeline.FrameBody
public import Idealize.ShloMosaic.Lib.Ring
public import Idealize.ShloMosaic.Lib.WordCmp
public import Idealize.ShloMosaic.Lib.Tactic
public import Idealize.ShloMosaic.Lib.Pointwise
public import Idealize.ShloMosaic.Lib.WholeRead
public import Idealize.ShloMosaic.Lib.IdealHost
public import Idealize.ShloMosaic.Lib.Pipeline.ValueKit.Tiles
@[expose] public section

set_option maxRecDepth 8192

noncomputable section

namespace Cert.Proof.ReferenceIdeal

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

/-! The reference's stages, element by element. Heads `h` of the forty are `5 g + e` for key/value head `g`. -/

/-- The query head `5 g + e`. -/
def head40 (g : Fin 8) (e : Fin 5) : Fin 40 := ⟨5 * g.val + e.val, by omega⟩

/-- Column `96 e + d` of the output. -/
def col480 (e : Fin 5) (d : Fin 96) : Fin 480 := ⟨96 * e.val + d.val, by omega⟩

theorem ofBits_neg_inf : Ideal.ofBits .f32 0xFF800000#32 = ⊥ := by simp [Ideal.ofBits, Ideal.ieee]

theorem select_sgt {α : Type} (x y : BitVec 32) (a b : α) :
    Scalar.select (IntOp.cmpi CmpIPredicate.sgt x y) a b = if BitVec.slt y x then a else b := by
  by_cases h : BitVec.slt y x = true
  · rw [if_pos h]; simp [Scalar.select, IntOp.cmpi, h]
  · rw [if_neg h]; simp [Scalar.select, IntOp.cmpi, h]

/-- The head's group. -/
theorem head40_div (g : Fin 8) (e : Fin 5) (p) : (⟨(head40 g e).val / 5, p⟩ : Fin 8) = g :=
  Fin.ext (by show (5 * g.val + e.val) / 5 = g.val; omega)

theorem pay2_apply (x : Vec Ideal S1x16384x8x96 .fp8e4m3) (g : Fin 8) (e : Fin 5) (j : Fin 16384) (d : Fin 96) :
    k0_pay2 (F := Ideal) x (ix3 (head40 g e) j d) = x (ix4 0 j g d) := by
  pointwise [k0_pay2]
  rw [head40_div]

theorem pay5_apply (x : Vec Ideal S1x16384x8 .f32) (g : Fin 8) (e : Fin 5) (j : Fin 16384) :
    k0_pay5 (F := Ideal) x (ix2 (head40 g e) j) = x (ix3 0 j g) := by
  pointwise [k0_pay5]
  rw [head40_div]

theorem pay6_apply (x : Vec Ideal S1x16384x8 .f32) (g : Fin 8) (e : Fin 5) (j : Fin 16384) :
    k0_pay6 (F := Ideal) x (ix2 (head40 g e) j) = x (ix3 0 j g) := pay5_apply x g e j

theorem pay4_apply (x : Vec Ideal S1x16384x40 .f32) (h : Fin 40) (j : Fin 16384) :
    k0_pay4 (F := Ideal) x (ix2 h j) = x (ix3 0 j h) := by
  pointwise [k0_pay4]

theorem pay3_apply (x : Vec Ideal S1x16384x40x96 .fp8e4m3) (y : Vec Ideal S1x16384x8x96 .fp8e4m3) (g : Fin 8) (e : Fin 5) (i j : Fin 16384) :
    k0_pay3 (F := Ideal) x y (ix3 (head40 g e) i j) = ∑ d : Fin 96, x (ix4 0 i (head40 g e) d) * y (ix4 0 j g d) := by
  pointwise [k0_pay3, dot_S40x16384x96_S40x16384x96_S40x16384x16384_2_2_1_1_0_0]
  refine Finset.sum_congr rfl fun t _ => ?_
  rw [head40_div]

theorem pay9_apply (raw : FVec Ideal S40x16384x16384 .f32) (qs ks : FVec Ideal S40x16384 .f32) (c L : Vec Ideal S1x1 .f32)
    (w1 b1 : Vec Ideal S32x1 .f32) (w2 : Vec Ideal S32x40 .f32) (h : Fin 40) (i j : Fin 16384) :
    k0_pay9 (F := Ideal) raw qs ks (k0_pay7 (F := Ideal)) (k0_pay8 (F := Ideal)) c L w1 b1 w2 (ix3 h i j)
      = raw (ix3 h i j) * qs (ix2 h i) * ks (ix2 h j) * (((Real.sqrt 96)⁻¹ : ℝ) : EReal)
        + ∑ n : Fin 32, max (Ideal.div (Ideal.log1p (c (ix2 0 0) * max (((BitVec.ofNat 32 i.val).toInt : ℝ) - ((BitVec.ofNat 32 j.val).toInt : ℝ) : EReal) 0))
            (Ideal.log1p (c (ix2 0 0) * max (L (ix2 0 0)) ((BitVec.ofNat 32 i.val).toInt : ℝ))) * w1 (ix2 n 0) + b1 (ix2 n 0)) 0 * w2 (ix2 n h) := by
  pointwise [k0_pay9, k0_pay7, k0_pay8]
  rw [IdealRules.named_const.ideal_named_scalar Cert.ReferenceIdeal.κ "score" _ _ rfl]
  rfl

/-- Positions are small words, so the signed comparison compares them. -/
theorem slt_ofNat (x y : Fin 16384) : BitVec.slt (BitVec.ofNat 32 x.val) (BitVec.ofNat 32 y.val) = decide (x.val < y.val) := by
  have hx := x.isLt
  have hy := y.isLt
  rw [BitVec.slt, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

/-- The causal scores of head `h` at query `i`: keys after `i` get `⊥`. -/
noncomputable def masked (s : FVec Ideal S40x16384x16384 .f32) (h : Fin 40) (i : Fin 16384) (j : Fin 16384) : EReal :=
  if i.val < j.val then ⊥ else s (ix3 h i j)

theorem pay1_apply (v : FVec Ideal S40x16384x96 .f32) (vs : FVec Ideal S40x16384 .f32) (s : FVec Ideal S40x16384x16384 .f32)
    (g : Fin 8) (i : Fin 16384) (e : Fin 5) (d : Fin 96) :
    k0_pay1 (F := Ideal) v vs (iota .tc S16384x16384 32 [0] iota_S16384x16384_d0_w32) (iota .tc S16384x16384 32 [1] iota_S16384x16384_d1_w32) s (ix3 g i (col480 e d))
      = Ideal.div
          (∑ j, Ideal.exp (masked s (head40 g e) i j - Finset.univ.sup (masked s (head40 g e) i)) * vs (ix2 (head40 g e) j) * v (ix3 (head40 g e) j d))
          (∑ j, Ideal.exp (masked s (head40 g e) i j - Finset.univ.sup (masked s (head40 g e) i))) := by
  pointwise [k0_pay1, dot_S40x16384x16384_S40x16384x96_S40x16384x96_2_1_1_2_0_0]
  have hh : ∀ p, (⟨g.val * 5 + (col480 e d).val / 96, p⟩ : Fin 40) = head40 g e := fun p =>
    Fin.ext (by show g.val * 5 + (96 * e.val + d.val) / 96 = 5 * g.val + e.val; omega)
  have hd : ∀ p, (⟨(col480 e d).val % 96, p⟩ : Fin 96) = d := fun p =>
    Fin.ext (by show (96 * e.val + d.val) % 96 = d.val; omega)
  have hs : ∀ x : Fin 16384, Scalar.select (IntOp.cmpi .sgt (BitVec.ofNat 32 x.val) (BitVec.ofNat 32 i.val))
      ⊥ (s (ix3 (head40 g e) i x)) = masked s (head40 g e) i x := fun x => by
    rw [select_sgt, slt_ofNat, masked]
    simp only [decide_eq_true_eq]
  simp only [hh, hd]
  have hf : ∀ f : Fin 16384 → EReal, Finset.fold max ⊥ f Finset.univ = Finset.univ.sup f := fun _ => rfl
  simp only [ofBits_neg_inf, hf]
  simp only [hs]

end Cert.Proof.ReferenceIdeal

end
-- ==== Proof.ReferenceIdeal.Result.lean ====
module

public import proofs.«01_k».proof.Proof.ReferenceIdeal.Payload
public import Idealize.ShloMosaic.Lib.Pipeline.ValueKit
public import Idealize.ShloMosaic.Lib.StableHlo.RunRead
@[expose] public section

/-! What the reference's result holds, element by element. -/

set_option maxRecDepth 8192

noncomputable section

namespace Cert.Proof.ReferenceIdeal

open Cert.ReferenceIdeal Cert.ReferenceIdeal.Gen
open Idealize.ShloMosaic Idealize.ShloMosaic.TcCoe Idealize.ShloMosaic.Tactic

variable (m : (ℓ : Loc nD τ sig) → Buf (Elt Ideal) ℓ)

theorem layout1x1 (X : Vec Ideal S_ .f32) : (shapeCast S1x1 X shapeCasts_S_S1x1) (ix2 0 0) = X ix0 := by
  pointwise

theorem layout32x1 (X : Vec Ideal S32 .f32) (n : Fin 32) : (shapeCast S32x1 X shapeCasts_S32_S32x1) (ix2 n 0) = X (ix1 n) := by
  pointwise

theorem V0 (c : Dev nD) : V m c main_v0 = shapeCast S1x1 (V m c main_arg6 : (⟨S_, .f32⟩ : BufTy).Contents (Elt Ideal)) shapeCasts_S_S1x1 := by
  unfold V
  after_reads_simp
  all_goals try rfl

theorem V1 (c : Dev nD) : V m c main_v1 = shapeCast S1x1 (V m c main_arg7 : (⟨S_, .f32⟩ : BufTy).Contents (Elt Ideal)) shapeCasts_S_S1x1 := by
  unfold V
  after_reads_simp
  all_goals try rfl

theorem V2 (c : Dev nD) : V m c main_v2 = shapeCast S32x1 (V m c main_arg8 : (⟨S32, .f32⟩ : BufTy).Contents (Elt Ideal)) shapeCasts_S32_S32x1 := by
  unfold V
  after_reads_simp
  all_goals try rfl

theorem V3 (c : Dev nD) : V m c main_v3 = shapeCast S32x1 (V m c main_arg9 : (⟨S32, .f32⟩ : BufTy).Contents (Elt Ideal)) shapeCasts_S32_S32x1 := by
  unfold V
  after_reads_simp
  all_goals try rfl

theorem place0 (t : Fin cfg0.N) : win0_0.index t = ![0, 0, 0, 0] :=
  (by decide +kernel : ∀ t : Fin grid0.N, win0_0.index t = ![0, 0, 0, 0]) t

theorem block0 (c : Dev nD) (t : Fin cfg0.N) : iblk m c 0 t = V m c main_arg0 := by
  funext y
  blk_ext [iblk, place0]

theorem place1 (t : Fin cfg0.N) : win0_1.index t = ![0, 0, 0] :=
  (by decide +kernel : ∀ t : Fin grid0.N, win0_1.index t = ![0, 0, 0]) t

theorem block1 (c : Dev nD) (t : Fin cfg0.N) : iblk m c 1 t = V m c main_arg1 := by
  funext y
  blk_ext [iblk, place1]

theorem place2 (t : Fin cfg0.N) : win0_2.index t = ![0, 0, 0, 0] :=
  (by decide +kernel : ∀ t : Fin grid0.N, win0_2.index t = ![0, 0, 0, 0]) t

theorem block2 (c : Dev nD) (t : Fin cfg0.N) : iblk m c 2 t = V m c main_arg2 := by
  funext y
  blk_ext [iblk, place2]

theorem place3 (t : Fin cfg0.N) : win0_3.index t = ![0, 0, 0] :=
  (by decide +kernel : ∀ t : Fin grid0.N, win0_3.index t = ![0, 0, 0]) t

theorem block3 (c : Dev nD) (t : Fin cfg0.N) : iblk m c 3 t = V m c main_arg3 := by
  funext y
  blk_ext [iblk, place3]

theorem place4 (t : Fin cfg0.N) : win0_4.index t = ![0, 0, 0, 0] :=
  (by decide +kernel : ∀ t : Fin grid0.N, win0_4.index t = ![0, 0, 0, 0]) t

theorem block4 (c : Dev nD) (t : Fin cfg0.N) : iblk m c 4 t = V m c main_arg4 := by
  funext y
  blk_ext [iblk, place4]

theorem place5 (t : Fin cfg0.N) : win0_5.index t = ![0, 0, 0] :=
  (by decide +kernel : ∀ t : Fin grid0.N, win0_5.index t = ![0, 0, 0]) t

theorem block5 (c : Dev nD) (t : Fin cfg0.N) : iblk m c 5 t = V m c main_arg5 := by
  funext y
  blk_ext [iblk, place5]

theorem place6 (t : Fin cfg0.N) : win0_6.index t = ![0, 0] :=
  (by decide +kernel : ∀ t : Fin grid0.N, win0_6.index t = ![0, 0]) t

theorem block6 (c : Dev nD) (t : Fin cfg0.N) : iblk m c 6 t = V m c main_v0 := by
  funext y
  blk_ext [iblk, place6]

theorem place7 (t : Fin cfg0.N) : win0_7.index t = ![0, 0] :=
  (by decide +kernel : ∀ t : Fin grid0.N, win0_7.index t = ![0, 0]) t

theorem block7 (c : Dev nD) (t : Fin cfg0.N) : iblk m c 7 t = V m c main_v1 := by
  funext y
  blk_ext [iblk, place7]

theorem place8 (t : Fin cfg0.N) : win0_8.index t = ![0, 0] :=
  (by decide +kernel : ∀ t : Fin grid0.N, win0_8.index t = ![0, 0]) t

theorem block8 (c : Dev nD) (t : Fin cfg0.N) : iblk m c 8 t = V m c main_v2 := by
  funext y
  blk_ext [iblk, place8]

theorem place9 (t : Fin cfg0.N) : win0_9.index t = ![0, 0] :=
  (by decide +kernel : ∀ t : Fin grid0.N, win0_9.index t = ![0, 0]) t

theorem block9 (c : Dev nD) (t : Fin cfg0.N) : iblk m c 9 t = V m c main_v3 := by
  funext y
  blk_ext [iblk, place9]

theorem place10 (t : Fin cfg0.N) : win0_10.index t = ![0, 0] :=
  (by decide +kernel : ∀ t : Fin grid0.N, win0_10.index t = ![0, 0]) t

theorem block10 (c : Dev nD) (t : Fin cfg0.N) : iblk m c 10 t = V m c main_arg10 := by
  funext y
  blk_ext [iblk, place10]

theorem whole_r0_0 (X : Vec Ideal S1x16384x40x96 .fp8e4m3) : View.ld X r0_0 = X := by
  funext y
  show X _ = X y
  refine congrArg X ?_
  funext a
  apply Fin.ext
  refine (Rect.idx_unit_val _ _ _ y a).trans ?_
  fin_cases a <;> show 0 + _ = _ <;> omega

theorem whole_r0_1 (X : Vec Ideal S1x16384x8x96 .fp8e4m3) : View.ld X r0_1 = X := by
  funext y
  show X _ = X y
  refine congrArg X ?_
  funext a
  apply Fin.ext
  refine (Rect.idx_unit_val _ _ _ y a).trans ?_
  fin_cases a <;> show 0 + _ = _ <;> omega

theorem whole_r0_2 (X : Vec Ideal S1x16384x40 .f32) : View.ld X r0_2 = X := by
  funext y
  show X _ = X y
  refine congrArg X ?_
  funext a
  apply Fin.ext
  refine (Rect.idx_unit_val _ _ _ y a).trans ?_
  fin_cases a <;> show 0 + _ = _ <;> omega

theorem whole_r0_3 (X : Vec Ideal S1x16384x8 .f32) : View.ld X r0_3 = X := by
  funext y
  show X _ = X y
  refine congrArg X ?_
  funext a
  apply Fin.ext
  refine (Rect.idx_unit_val _ _ _ y a).trans ?_
  fin_cases a <;> show 0 + _ = _ <;> omega

theorem whole_r0_4 (X : Vec Ideal S1x1 .f32) : View.ld X r0_4 = X := by
  funext y
  show X _ = X y
  refine congrArg X ?_
  funext a
  apply Fin.ext
  refine (Rect.idx_unit_val _ _ _ y a).trans ?_
  fin_cases a <;> show 0 + _ = _ <;> omega

theorem whole_r0_5 (X : Vec Ideal S32x1 .f32) : View.ld X r0_5 = X := by
  funext y
  show X _ = X y
  refine congrArg X ?_
  funext a
  apply Fin.ext
  refine (Rect.idx_unit_val _ _ _ y a).trans ?_
  fin_cases a <;> show 0 + _ = _ <;> omega

theorem whole_r0_6 (X : Vec Ideal S32x40 .f32) : View.ld X r0_6 = X := by
  funext y
  show X _ = X y
  refine congrArg X ?_
  funext a
  apply Fin.ext
  refine (Rect.idx_unit_val _ _ _ y a).trans ?_
  fin_cases a <;> show 0 + _ = _ <;> omega

/-- The scores before the mask. -/
def scores (x0 : Vec Ideal S1x16384x40x96 .fp8e4m3) (x1 : Vec Ideal S1x16384x40 .f32) (x2 : Vec Ideal S1x16384x8x96 .fp8e4m3) (x3 : Vec Ideal S1x16384x8 .f32)
    (x6 x7 : Vec Ideal S1x1 .f32) (x8 x9 : Vec Ideal S32x1 .f32) (x10 : Vec Ideal S32x40 .f32) : FVec Ideal S40x16384x16384 .f32 :=
  k0_pay9 (F := Ideal) (k0_pay3 x0 x2) (k0_pay4 x1) (k0_pay5 x3) (k0_pay7 (F := Ideal)) (k0_pay8 (F := Ideal)) x6 x7 x8 x9 x10

def result (c : Dev nD) : Vec Ideal S8x16384x480 .bf16 :=
  k0_pay1 (F := Ideal) (k0_pay2 (V m c main_arg4)) (k0_pay6 (V m c main_arg5)) (iota .tc S16384x16384 32 [0] iota_S16384x16384_d0_w32)
    (iota .tc S16384x16384 32 [1] iota_S16384x16384_d1_w32)
    (scores (V m c main_arg0) (V m c main_arg1) (V m c main_arg2) (V m c main_arg3) (V m c main_v0) (V m c main_v1) (V m c main_v2) (V m c main_v3) (V m c main_arg10))

theorem place11 (t : Fin cfg0.N) : win0_11.index t = ![0, 0, 0] :=
  (by decide +kernel : ∀ t : Fin grid0.N, win0_11.index t = ![0, 0, 0]) t

theorem out_eq_result (c : Dev nD) : (dats m 0 c).arrAt 11 cfg0.N = result m c := by
  refine (dats m 0 c).arrAt_eq_of_covers 11 _ (by decide +kernel) fun t hf y => ?_
  blk_simp
  rw [after0_11, block0, block1, block2, block3, block4, block5, block6, block7, block8, block9, block10]
  unfold out0_11
  rw [whole_r0_0, whole_r0_1, whole_r0_1, whole_r0_2, whole_r0_3, whole_r0_3, whole_r0_4, whole_r0_4, whole_r0_5, whole_r0_5, whole_r0_6]
  frame_out
  exact congrArg (result m c) (show (y : S8x16384x480.Idx) = _ by blk_ext [place11])

end Cert.Proof.ReferenceIdeal

end
-- ==== Proof.ReferenceIdeal.Agree.lean ====
module

public import proofs.«01_k».proof.Proof.ReferenceIdeal.Result
public import proofs.«01_k».proof.Proof.KernelIdeal.Result
@[expose] public section

/-! The reference's result is the attention that the kernel computes, when the arguments are the same. -/

set_option maxRecDepth 8192

noncomputable section

namespace Cert.Proof.ReferenceIdeal

open Cert.ReferenceIdeal Cert.ReferenceIdeal.Gen
open Idealize.ShloMosaic Idealize.ShloMosaic.TcCoe Idealize.ShloMosaic.Tactic
open Cert.Proof.Math
open Cert.Proof.KernelIdeal (Finite netBias score attend headOf ratio_coe max_coe hq hqs hk hks hv hvs hw1 hb1 hw2 hc hL toInt_small attendArr attendArr_apply exists_col)

/-- The scaled distance, from the positions as words. -/
theorem ratio_eq {c L : EReal} {c0 L0 : ℝ}
    (h : (c = (c0 : EReal) ∧ L = (L0 : EReal) ∧ 0 < c0 ∧ 0 < L0) ∨ (c0 = 0 ∧ 0 < c ∧ 0 < L ∧ (c = ⊤ ∨ L = ⊤))) (i j : Fin 16384) :
    Ideal.div (Ideal.log1p (c * max ((((BitVec.ofNat 32 i.val).toInt : ℝ) : EReal) - (((BitVec.ofNat 32 j.val).toInt : ℝ) : EReal)) 0))
        (Ideal.log1p (c * max L (((BitVec.ofNat 32 i.val).toInt : ℝ) : EReal))) = ((Cert.Proof.Math.dist c0 L0 (i.val : ℝ) (j.val : ℝ) : ℝ) : EReal) := by
  have hi : ((BitVec.ofNat 32 i.val).toInt : ℝ) = (i.val : ℝ) := by rw [toInt_small i.val (by have := i.isLt; omega)]; simp
  have hj : ((BitVec.ofNat 32 j.val).toInt : ℝ) = (j.val : ℝ) := by rw [toInt_small j.val (by have := j.isLt; omega)]; simp
  rw [← ratio_coe h, hi, hj, ← EReal.coe_sub, ← EReal.coe_zero, max_coe]

/-- The network's bias, from the arguments as the reference reads them. -/
theorem bias_eq (w : Fin 32 → ℝ) (b : Fin 32 → EReal) (v : Fin 32 → Fin 40 → ℝ) {c L : EReal} {c0 L0 : ℝ}
    (hs : (c = (c0 : EReal) ∧ L = (L0 : EReal) ∧ 0 < c0 ∧ 0 < L0) ∨ (c0 = 0 ∧ 0 < c ∧ 0 < L ∧ (c = ⊤ ∨ L = ⊤))) (i j : Fin 16384) (h : Fin 40) :
    ∑ n : Fin 32, max (Ideal.div (Ideal.log1p (c * max ((((BitVec.ofNat 32 i.val).toInt : ℝ) : EReal) - (((BitVec.ofNat 32 j.val).toInt : ℝ) : EReal)) 0))
        (Ideal.log1p (c * max L (((BitVec.ofNat 32 i.val).toInt : ℝ) : EReal))) * (w n : EReal) + b n) 0 * (v n h : EReal)
      = netBias w b v c0 L0 i j h := by
  rw [ratio_eq hs]
  rfl

section
variable (m : (ℓ : Loc Cert.KernelIdeal.nD Cert.KernelIdeal.τ Cert.KernelIdeal.sig) → Buf (Elt Ideal) ℓ)
variable (m' : (ℓ : Loc nD τ sig) → Buf (Elt Ideal) ℓ)

/-- The arguments are the same in the two memories. -/
structure Same (c : Dev nD) : Prop where
  a0 : ∀ i h d, @Eq EReal (V m' c main_arg0 (ix4 0 i h d)) (hq m c i h d)
  a1 : ∀ i h, @Eq EReal (V m' c main_arg1 (ix3 0 i h)) (hqs m c i h)
  a2 : ∀ j g d, @Eq EReal (V m' c main_arg2 (ix4 0 j g d)) (hk m c j g d)
  a3 : ∀ j g, @Eq EReal (V m' c main_arg3 (ix3 0 j g)) (hks m c j g)
  a4 : ∀ j g d, @Eq EReal (V m' c main_arg4 (ix4 0 j g d)) (hv m c j g d)
  a5 : ∀ j g, @Eq EReal (V m' c main_arg5 (ix3 0 j g)) (hvs m c j g)
  a6 : @Eq EReal (V m' c main_arg6 ix0) (hc m c)
  a7 : @Eq EReal (V m' c main_arg7 ix0) (hL m c)
  a8 : ∀ n, @Eq EReal (V m' c main_arg8 (ix1 n)) (hw1 m c n)
  a9 : ∀ n, @Eq EReal (V m' c main_arg9 (ix1 n)) (hb1 m c n)
  a10 : ∀ n h, @Eq EReal (V m' c main_arg10 (ix2 n h)) (hw2 m c n h)

variable {m m'}

theorem masked_eq {c : Dev nD} (S : Same m m' c) {w : Fin 32 → ℝ} {b : Fin 32 → EReal} {v : Fin 32 → Fin 40 → ℝ} {c0 L0 : ℝ} (H : Finite m c w b v c0 L0)
    (g : Fin 8) (e : Fin 5) (i : Fin 16384) :
    masked (scores (V m' c main_arg0) (V m' c main_arg1) (V m' c main_arg2) (V m' c main_arg3) (V m' c main_v0) (V m' c main_v1) (V m' c main_v2) (V m' c main_v3)
      (V m' c main_arg10)) (head40 g e) i = score m c w b v c0 L0 g e i := by
  funext j
  unfold masked score
  split_ifs
  · rfl
  unfold scores
  rw [pay9_apply, pay3_apply, pay4_apply, pay5_apply]
  refine congrArg₂ (fun x y : EReal => x + y) (congrArg (fun x : EReal => x * _) (congrArg₂ (fun x y : EReal => x * y) (congrArg₂ (fun x y : EReal => x * y)
    (Finset.sum_congr rfl fun d _ => congrArg₂ (fun x y : EReal => x * y) (S.a0 _ _ _) (S.a2 _ _ _)) (S.a1 _ _)) (S.a3 _ _))) ?_
  have e0 : @Eq EReal (V m' c main_v0 (ix2 0 0)) (hc m c) := by rw [V0, layout1x1]; exact S.a6
  have e1 : @Eq EReal (V m' c main_v1 (ix2 0 0)) (hL m c) := by rw [V1, layout1x1]; exact S.a7
  have e2 : ∀ n, @Eq EReal (V m' c main_v2 (ix2 n 0)) (w n : EReal) := fun n => by rw [V2, layout32x1]; exact (S.a8 n).trans (H.w_eq n)
  have e3 : ∀ n, @Eq EReal (V m' c main_v3 (ix2 n 0)) (b n) := fun n => by rw [V3, layout32x1]; exact (S.a9 n).trans (H.b_eq n)
  have e4 : ∀ n, @Eq EReal (V m' c main_arg10 (ix2 n (head40 g e))) (v n (head40 g e) : EReal) := fun n => (S.a10 n _).trans (H.v_eq n _)
  refine Eq.trans (Finset.sum_congr rfl fun n _ => ?_) (bias_eq w b v H.scale i j (head40 g e))
  exact congrArg₂ (fun x y : EReal => x * y) (congrArg (fun x : EReal => max x 0) (congrArg₂ (fun x y : EReal => x + y)
    (congrArg₂ (fun x y : EReal => x * y) (congrArg₂ (fun x y : EReal => Ideal.div (Ideal.log1p (x * _)) (Ideal.log1p (x * max y _))) e0 e1) (e2 n)) (e3 n))) (e4 n)

theorem result_apply {c : Dev nD} (S : Same m m' c) {w : Fin 32 → ℝ} {b : Fin 32 → EReal} {v : Fin 32 → Fin 40 → ℝ} {c0 L0 : ℝ} (H : Finite m c w b v c0 L0)
    (g : Fin 8) (i : Fin 16384) (e : Fin 5) (d : Fin 96) :
    @Eq EReal (result m' c (ix3 g i (col480 e d))) (attend m c w b v c0 L0 g e i d) := by
  unfold result
  rw [pay1_apply, masked_eq S H]
  unfold attend
  refine congrArg₂ Ideal.div (Finset.sum_congr rfl fun j _ => ?_) rfl
  rw [pay2_apply, pay6_apply]
  refine (congrArg₂ (fun x y : EReal => _ * x * y) (S.a5 _ _) (S.a4 _ _ _)).trans ?_
  ac_rfl

theorem result_eq {c : Dev nD} (S : Same m m' c) {w : Fin 32 → ℝ} {b : Fin 32 → EReal} {v : Fin 32 → Fin 40 → ℝ} {c0 L0 : ℝ} (H : Finite m c w b v c0 L0) :
    result m' c = attendArr m c w b v c0 L0 := by
  funext x
  obtain ⟨e, d, hed⟩ := exists_col (x 2)
  have hx : x = (ix3 (x 0) (x 1) (col480 e d) : S8x16384x480.Idx) := by
    funext a
    match a with
    | ⟨0, _⟩ => rfl
    | ⟨1, _⟩ => rfl
    | ⟨2, _⟩ => exact hed
  refine (congrArg (result m' c) hx).trans (Eq.trans ?_ (congrArg (attendArr m c w b v c0 L0) hx).symm)
  exact (result_apply S H (x 0) (x 1) e d).trans (attendArr_apply m c w b v c0 L0 (x 0) (x 1) e d).symm

end

end Cert.Proof.ReferenceIdeal

end
-- ==== Proof.Value.lean ====
module

public import proofs.«01_k».proof.Defs
public import proofs.«01_k».proof.Proof.Gen.KernelIdeal
public import proofs.«01_k».proof.Proof.Gen.ReferenceIdeal
public import proofs.«01_k».proof.Proof.KernelIdeal.Body
public import proofs.«01_k».proof.Proof.KernelIdeal.Sane
public import proofs.«01_k».proof.Proof.KernelIdeal.Result
public import proofs.«01_k».proof.Proof.ReferenceIdeal.Agree
@[expose] public section

/-! The kernel and the reference compute the same result. -/

noncomputable section

namespace Cert.Proof

open Idealize.ShloMosaic Idealize.SL.Sem

theorem same_of_args {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
      m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
      m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
      m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
      m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
      m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
      m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
      m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
      m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
      m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
      m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.Proof.ReferenceIdeal.Same m m' c := by
  obtain ⟨h0, h1, h2, h3, h4, h5, h6, h7, h8, h9, h10⟩ := h
  constructor
  · intro i h d; unfold Cert.Proof.KernelIdeal.hq; rw [Cert.ReferenceIdeal.Gen.V_main_arg0, Cert.KernelIdeal.Gen.V_main_arg0]; exact congrFun h0 _
  · intro i h; unfold Cert.Proof.KernelIdeal.hqs; rw [Cert.ReferenceIdeal.Gen.V_main_arg1, Cert.KernelIdeal.Gen.V_main_arg1]; exact congrFun h1 _
  · intro j g d; unfold Cert.Proof.KernelIdeal.hk; rw [Cert.ReferenceIdeal.Gen.V_main_arg2, Cert.KernelIdeal.Gen.V_main_arg2]; exact congrFun h2 _
  · intro j g; unfold Cert.Proof.KernelIdeal.hks; rw [Cert.ReferenceIdeal.Gen.V_main_arg3, Cert.KernelIdeal.Gen.V_main_arg3]; exact congrFun h3 _
  · intro j g d; unfold Cert.Proof.KernelIdeal.hv; rw [Cert.ReferenceIdeal.Gen.V_main_arg4, Cert.KernelIdeal.Gen.V_main_arg4]; exact congrFun h4 _
  · intro j g; unfold Cert.Proof.KernelIdeal.hvs; rw [Cert.ReferenceIdeal.Gen.V_main_arg5, Cert.KernelIdeal.Gen.V_main_arg5]; exact congrFun h5 _
  · unfold Cert.Proof.KernelIdeal.hc; rw [Cert.ReferenceIdeal.Gen.V_main_arg6, Cert.KernelIdeal.Gen.V_main_arg6]; exact congrFun h6 _
  · unfold Cert.Proof.KernelIdeal.hL; rw [Cert.ReferenceIdeal.Gen.V_main_arg7, Cert.KernelIdeal.Gen.V_main_arg7]; exact congrFun h7 _
  · intro n; unfold Cert.Proof.KernelIdeal.hw1; rw [Cert.ReferenceIdeal.Gen.V_main_arg8, Cert.KernelIdeal.Gen.V_main_arg8]; exact congrFun h8 _
  · intro n; unfold Cert.Proof.KernelIdeal.hb1; rw [Cert.ReferenceIdeal.Gen.V_main_arg9, Cert.KernelIdeal.Gen.V_main_arg9]; exact congrFun h9 _
  · intro n h; unfold Cert.Proof.KernelIdeal.hw2; rw [Cert.ReferenceIdeal.Gen.V_main_arg10, Cert.KernelIdeal.Gen.V_main_arg10]; exact congrFun h10 _

theorem value : Cert.algebraic_KernelIdeal_ReferenceIdeal_pre_sane (hKernelIdeal := Cert.KernelIdeal.Gen.facts)
    (hReferenceIdeal := Cert.ReferenceIdeal.Gen.facts) (hPre_sane := Cert.Proof.KernelIdeal.sane_facts) := by
  intro m g m' g' hpre hargs
  have hfin := fun c => @Cert.Proof.KernelIdeal.exists_finite m Cert.Proof.KernelIdeal.sane_facts c (hpre c)
  choose w b v c0 L0 H using hfin
  refine ⟨fun c => Cert.Proof.KernelIdeal.attendArr m c (w c) (b c) (v c) (c0 c) (L0 c), ?_, ?_⟩
  · refine (θ_run _ _ _).mono (fun r h c => ?_) (θ_run_and (Cert.Proof.KernelIdeal.quiescent m g) (Cert.Proof.KernelIdeal.run_main m g))
    exact ⟨(h.2.1.out_eq c 14).trans (Cert.Proof.KernelIdeal.out_eq_attend m (H c)), h.1.1 c⟩
  · refine (θ_run _ _ _).mono (fun r h c => ?_) (θ_run_and (Cert.ReferenceIdeal.Gen.frame m' g') (Cert.ReferenceIdeal.Gen.run_main m' g'))
    exact ⟨((h.2.out_eq c 11).trans (Cert.Proof.ReferenceIdeal.out_eq_result m' c)).trans
      (Cert.Proof.ReferenceIdeal.result_eq (same_of_args (hargs c)) (H c)), h.1.1 c⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Reference
public import proofs.«01_k».proof.Proof.Gen.Reference.Frame
public import proofs.«01_k».proof.Proof.Kernel.Body
public import proofs.«01_k».proof.Proof.KernelIdeal.Body
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Reference.Gen.facts, Cert.Proof.KernelIdeal.sane_facts,
  fun m ρ _ => Cert.Proof.Kernel.quiescent m ρ,
  fun m ρ _ => Cert.Proof.KernelIdeal.quiescent m ρ,
  fun m ρ _ => Cert.Proof.KernelIdeal.quiescent m ρ,
  fun m ρ _ => Cert.ReferenceIdeal.Gen.frame m ρ,
  fun m ρ _ => Cert.ReferenceIdeal.Gen.frame m ρ,
  fun m ρ _ => Cert.Reference.Gen.frame m ρ,
  ⟨IdealRules.named_const.statement Cert.KernelIdeal.κ "score_log2e" .f32 0x3E16C740#32 _ rfl,
    IdealRules.named_const.statement Cert.KernelIdeal.κ "log2e" .f32 0x3FB8AA3B#32 _ rfl⟩,
  IdealRules.named_const.statement Cert.ReferenceIdeal.κ "score" .f32 0x3DD105EC#32 _ rfl,
  Cert.Proof.value⟩

end Cert.Proof

end
